-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMoe [hPre_listed : Cert.Pre_listed.Facts] (m : (ℓ : Loc Cert.KernelMoe.nD Cert.KernelMoe.τ Cert.KernelMoe.sig) → Buf (Elt Bits) ℓ) : Prop :=
  ∀ c : Dev Cert.KernelMoe.nD,
    (Cert.Pre_listed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5)) (m ((c.tc : Thread Cert.KernelMoe.nD Cert.KernelMoe.τ).loc Cert.KernelMoe.main_arg6))).1 = (fun _ => 1#1)
    ∧ (Cert.Pre_listed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5)) (m ((c.tc : Thread Cert.KernelMoe.nD Cert.KernelMoe.τ).loc Cert.KernelMoe.main_arg6))).2.1 = (fun _ => 1#1)
    ∧ (Cert.Pre_listed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5)) (m ((c.tc : Thread Cert.KernelMoe.nD Cert.KernelMoe.τ).loc Cert.KernelMoe.main_arg6))).2.2.1 = (fun _ => 1#1)
    ∧ (Cert.Pre_listed.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5)) (m ((c.tc : Thread Cert.KernelMoe.nD Cert.KernelMoe.τ).loc Cert.KernelMoe.main_arg6))).2.2.2 = (fun _ => 1#1)

def Pre_KernelMoeIdeal [hPre_listed : Cert.Pre_listed.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_listed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))).1 = (fun _ => 1#1)
    ∧ (Cert.Pre_listed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))).2.1 = (fun _ => 1#1)
    ∧ (Cert.Pre_listed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))).2.2.1 = (fun _ => 1#1)
    ∧ (Cert.Pre_listed.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))).2.2.2 = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_listed [hPre_listed : Cert.Pre_listed.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_listed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))).1 = (fun _ => 1#1)
    ∧ (Cert.Pre_listed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))).2.1 = (fun _ => 1#1)
    ∧ (Cert.Pre_listed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))).2.2.1 = (fun _ => 1#1)
    ∧ (Cert.Pre_listed.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))).2.2.2 = (fun _ => 1#1)

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelRouter (m : (ℓ : Loc Cert.KernelRouter.nD Cert.KernelRouter.τ Cert.KernelRouter.sig) → Buf (Elt Bits) ℓ) : Prop :=
  True

def Pre_KernelRouterIdeal (m : (ℓ : Loc Cert.KernelRouterIdeal.nD Cert.KernelRouterIdeal.τ Cert.KernelRouterIdeal.sig) → Buf (Elt Ideal) ℓ) : Prop :=
  True

def Pre_ReferenceRouterIdeal (m : (ℓ : Loc Cert.ReferenceRouterIdeal.nD Cert.ReferenceRouterIdeal.τ Cert.ReferenceRouterIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelMoe [hKernelMoe : Cert.KernelMoe.Facts] [hPre_listed : Cert.Pre_listed.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6))
      ∧ r.2.sem = fun _ => 0)

def quiescent_KernelMoeIdeal [hKernelMoeIdeal : Cert.KernelMoeIdeal.Facts] [hPre_listed : Cert.Pre_listed.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_ReferenceMoeIdeal_pre_listed [hReferenceMoeIdeal : Cert.ReferenceMoeIdeal.Facts] [hPre_listed : Cert.Pre_listed.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_listed m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5))
      ∧ r.2.sem = fun _ => 0)

def quiescent_KernelRouter [hKernelRouter : Cert.KernelRouter.Facts] : Prop :=
  ∀ (m : (ℓ : Loc Cert.KernelRouter.nD Cert.KernelRouter.τ Cert.KernelRouter.sig) → Buf (Elt Bits) ℓ) (g : Dev Cert.KernelRouter.nD → PrngReg), Pre_KernelRouter m →
    θ_run (Cert.KernelRouter.defs (F := Bits)) (onTc (τ := Cert.KernelRouter.τ) (Cert.KernelRouter.main (F := Bits))) ⟨m, fun _ => 0, g⟩ (fun r => (∀ c : Dev Cert.KernelRouter.nD,
      r.2.mem ((c.tc : Thread Cert.KernelRouter.nD Cert.KernelRouter.τ).loc Cert.KernelRouter.main_arg0) = m ((c.tc : Thread Cert.KernelRouter.nD Cert.KernelRouter.τ).loc Cert.KernelRouter.main_arg0)
      ∧ r.2.mem ((c.tc : Thread Cert.KernelRouter.nD Cert.KernelRouter.τ).loc Cert.KernelRouter.main_arg1) = m ((c.tc : Thread Cert.KernelRouter.nD Cert.KernelRouter.τ).loc Cert.KernelRouter.main_arg1)
      ∧ r.2.mem ((c.tc : Thread Cert.KernelRouter.nD Cert.KernelRouter.τ).loc Cert.KernelRouter.main_arg2) = m ((c.tc : Thread Cert.KernelRouter.nD Cert.KernelRouter.τ).loc Cert.KernelRouter.main_arg2)
      ∧ r.2.mem ((c.tc : Thread Cert.KernelRouter.nD Cert.KernelRouter.τ).loc Cert.KernelRouter.main_arg3) = m ((c.tc : Thread Cert.KernelRouter.nD Cert.KernelRouter.τ).loc Cert.KernelRouter.main_arg3)
      ∧ r.2.mem ((c.tc : Thread Cert.KernelRouter.nD Cert.KernelRouter.τ).loc Cert.KernelRouter.main_arg4) = m ((c.tc : Thread Cert.KernelRouter.nD Cert.KernelRouter.τ).loc Cert.KernelRouter.main_arg4)
      ∧ r.2.mem ((c.tc : Thread Cert.KernelRouter.nD Cert.KernelRouter.τ).loc Cert.KernelRouter.main_arg5) = m ((c.tc : Thread Cert.KernelRouter.nD Cert.KernelRouter.τ).loc Cert.KernelRouter.main_arg5)
      ∧ r.2.mem ((c.tc : Thread Cert.KernelRouter.nD Cert.KernelRouter.τ).loc Cert.KernelRouter.main_arg6) = m ((c.tc : Thread Cert.KernelRouter.nD Cert.KernelRouter.τ).loc Cert.KernelRouter.main_arg6)
      ∧ r.2.mem ((c.tc : Thread Cert.KernelRouter.nD Cert.KernelRouter.τ).loc Cert.KernelRouter.main_arg7) = m ((c.tc : Thread Cert.KernelRouter.nD Cert.KernelRouter.τ).loc Cert.KernelRouter.main_arg7)
      ∧ r.2.mem ((c.tc : Thread Cert.KernelRouter.nD Cert.KernelRouter.τ).loc Cert.KernelRouter.main_arg8) = m ((c.tc : Thread Cert.KernelRouter.nD Cert.KernelRouter.τ).loc Cert.KernelRouter.main_arg8))
      ∧ r.2.sem = fun _ => 0)

def quiescent_KernelRouterIdeal [hKernelRouterIdeal : Cert.KernelRouterIdeal.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg), Pre_KernelRouterIdeal m →
    θ_run (Cert.KernelRouterIdeal.defs (F := Ideal)) (onTc (τ := Cert.KernelRouterIdeal.τ) (Cert.KernelRouterIdeal.main (F := Ideal))) ⟨m, fun _ => 0, g⟩ (fun r => (∀ c : Dev Cert.KernelRouterIdeal.nD,
      r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
      ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
      ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2)
      ∧ r.2.mem ((c.tc : Thread Cert.KernelRouterIdeal.nD Cert.KernelRouterIdeal.τ).loc Cert.KernelRouterIdeal.main_arg3) = m ((c.tc : Thread Cert.KernelRouterIdeal.nD Cert.KernelRouterIdeal.τ).loc Cert.KernelRouterIdeal.main_arg3)
      ∧ r.2.mem ((c.tc : Thread Cert.KernelRouterIdeal.nD Cert.KernelRouterIdeal.τ).loc Cert.KernelRouterIdeal.main_arg4) = m ((c.tc : Thread Cert.KernelRouterIdeal.nD Cert.KernelRouterIdeal.τ).loc Cert.KernelRouterIdeal.main_arg4)
      ∧ r.2.mem ((c.tc : Thread Cert.KernelRouterIdeal.nD Cert.KernelRouterIdeal.τ).loc Cert.KernelRouterIdeal.main_arg5) = m ((c.tc : Thread Cert.KernelRouterIdeal.nD Cert.KernelRouterIdeal.τ).loc Cert.KernelRouterIdeal.main_arg5)
      ∧ r.2.mem ((c.tc : Thread Cert.KernelRouterIdeal.nD Cert.KernelRouterIdeal.τ).loc Cert.KernelRouterIdeal.main_arg6) = m ((c.tc : Thread Cert.KernelRouterIdeal.nD Cert.KernelRouterIdeal.τ).loc Cert.KernelRouterIdeal.main_arg6)
      ∧ r.2.mem ((c.tc : Thread Cert.KernelRouterIdeal.nD Cert.KernelRouterIdeal.τ).loc Cert.KernelRouterIdeal.main_arg7) = m ((c.tc : Thread Cert.KernelRouterIdeal.nD Cert.KernelRouterIdeal.τ).loc Cert.KernelRouterIdeal.main_arg7)
      ∧ r.2.mem ((c.tc : Thread Cert.KernelRouterIdeal.nD Cert.KernelRouterIdeal.τ).loc Cert.KernelRouterIdeal.main_arg8) = m ((c.tc : Thread Cert.KernelRouterIdeal.nD Cert.KernelRouterIdeal.τ).loc Cert.KernelRouterIdeal.main_arg8))
      ∧ r.2.sem = fun _ => 0)

def quiescent_ReferenceRouterIdeal [hReferenceRouterIdeal : Cert.ReferenceRouterIdeal.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2)
      ∧ r.2.mem ((c.tc : Thread Cert.ReferenceRouterIdeal.nD Cert.ReferenceRouterIdeal.τ).loc Cert.ReferenceRouterIdeal.main_arg3) = m ((c.tc : Thread Cert.ReferenceRouterIdeal.nD Cert.ReferenceRouterIdeal.τ).loc Cert.ReferenceRouterIdeal.main_arg3)
      ∧ r.2.mem ((c.tc : Thread Cert.ReferenceRouterIdeal.nD Cert.ReferenceRouterIdeal.τ).loc Cert.ReferenceRouterIdeal.main_arg4) = m ((c.tc : Thread Cert.ReferenceRouterIdeal.nD Cert.ReferenceRouterIdeal.τ).loc Cert.ReferenceRouterIdeal.main_arg4)
      ∧ r.2.mem ((c.tc : Thread Cert.ReferenceRouterIdeal.nD Cert.ReferenceRouterIdeal.τ).loc Cert.ReferenceRouterIdeal.main_arg5) = m ((c.tc : Thread Cert.ReferenceRouterIdeal.nD Cert.ReferenceRouterIdeal.τ).loc Cert.ReferenceRouterIdeal.main_arg5)
      ∧ r.2.mem ((c.tc : Thread Cert.ReferenceRouterIdeal.nD Cert.ReferenceRouterIdeal.τ).loc Cert.ReferenceRouterIdeal.main_arg6) = m ((c.tc : Thread Cert.ReferenceRouterIdeal.nD Cert.ReferenceRouterIdeal.τ).loc Cert.ReferenceRouterIdeal.main_arg6)
      ∧ r.2.mem ((c.tc : Thread Cert.ReferenceRouterIdeal.nD Cert.ReferenceRouterIdeal.τ).loc Cert.ReferenceRouterIdeal.main_arg7) = m ((c.tc : Thread Cert.ReferenceRouterIdeal.nD Cert.ReferenceRouterIdeal.τ).loc Cert.ReferenceRouterIdeal.main_arg7)
      ∧ r.2.mem ((c.tc : Thread Cert.ReferenceRouterIdeal.nD Cert.ReferenceRouterIdeal.τ).loc Cert.ReferenceRouterIdeal.main_arg8) = m ((c.tc : Thread Cert.ReferenceRouterIdeal.nD Cert.ReferenceRouterIdeal.τ).loc Cert.ReferenceRouterIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v54) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v3_0)) (v1 : (c : Dev Cert.KernelProjIdeal.nD) → Buf (Elt Ideal) ((c.tc : Thread Cert.KernelProjIdeal.nD Cert.KernelProjIdeal.τ).loc Cert.KernelProjIdeal.main_v3_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v3_0) = v0 c
          ∧ r.2.mem ((c.tc : Thread Cert.KernelProjIdeal.nD Cert.KernelProjIdeal.τ).loc Cert.KernelProjIdeal.main_v3_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v29) = v0 c
          ∧ r.2.mem ((c.tc : Thread Cert.ReferenceProjIdeal.nD Cert.ReferenceProjIdeal.τ).loc Cert.ReferenceProjIdeal.main_v30) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] [hPre_listed : Cert.Pre_listed.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)) →
    ∃ (v0 : (c : Dev Cert.KernelMoeIdeal.nD) → Buf (Elt Ideal) ((c.tc : Thread Cert.KernelMoeIdeal.nD Cert.KernelMoeIdeal.τ).loc Cert.KernelMoeIdeal.main_v0)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v0) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v35) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)) →
    ∃ (v0 : (c : Dev Cert.KernelCombineIdeal.nD) → Buf (Elt Ideal) ((c.tc : Thread Cert.KernelCombineIdeal.nD Cert.KernelCombineIdeal.τ).loc Cert.KernelCombineIdeal.main_v1)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v1) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v32) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5))

def preserves_KernelRouter_KernelRouterIdeal : Prop :=
  True

def algebraic_KernelRouterIdeal_ReferenceRouterIdeal [hKernelRouterIdeal : Cert.KernelRouterIdeal.Facts] [hReferenceRouterIdeal : Cert.ReferenceRouterIdeal.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg)
    (m' : (ℓ : Loc Cert.ReferenceRouterIdeal.nD Cert.ReferenceRouterIdeal.τ Cert.ReferenceRouterIdeal.sig) → Buf (Elt Ideal) ℓ) (g' : Dev Cert.ReferenceRouterIdeal.nD → PrngReg), Pre_KernelRouterIdeal m →
    (∀ c : Dev Cert.KernelRouterIdeal.nD,
      m' ((c.tc : Thread Cert.ReferenceRouterIdeal.nD Cert.ReferenceRouterIdeal.τ).loc Cert.ReferenceRouterIdeal.main_arg0) = m ((c.tc : Thread Cert.KernelRouterIdeal.nD Cert.KernelRouterIdeal.τ).loc Cert.KernelRouterIdeal.main_arg0)
      ∧ m' ((c.tc : Thread Cert.ReferenceRouterIdeal.nD Cert.ReferenceRouterIdeal.τ).loc Cert.ReferenceRouterIdeal.main_arg1) = m ((c.tc : Thread Cert.KernelRouterIdeal.nD Cert.KernelRouterIdeal.τ).loc Cert.KernelRouterIdeal.main_arg1)
      ∧ m' ((c.tc : Thread Cert.ReferenceRouterIdeal.nD Cert.ReferenceRouterIdeal.τ).loc Cert.ReferenceRouterIdeal.main_arg2) = m ((c.tc : Thread Cert.KernelRouterIdeal.nD Cert.KernelRouterIdeal.τ).loc Cert.KernelRouterIdeal.main_arg2)
      ∧ m' ((c.tc : Thread Cert.ReferenceRouterIdeal.nD Cert.ReferenceRouterIdeal.τ).loc Cert.ReferenceRouterIdeal.main_arg3) = m ((c.tc : Thread Cert.KernelRouterIdeal.nD Cert.KernelRouterIdeal.τ).loc Cert.KernelRouterIdeal.main_arg3)
      ∧ m' ((c.tc : Thread Cert.ReferenceRouterIdeal.nD Cert.ReferenceRouterIdeal.τ).loc Cert.ReferenceRouterIdeal.main_arg4) = m ((c.tc : Thread Cert.KernelRouterIdeal.nD Cert.KernelRouterIdeal.τ).loc Cert.KernelRouterIdeal.main_arg4)
      ∧ m' ((c.tc : Thread Cert.ReferenceRouterIdeal.nD Cert.ReferenceRouterIdeal.τ).loc Cert.ReferenceRouterIdeal.main_arg5) = m ((c.tc : Thread Cert.KernelRouterIdeal.nD Cert.KernelRouterIdeal.τ).loc Cert.KernelRouterIdeal.main_arg5)
      ∧ m' ((c.tc : Thread Cert.ReferenceRouterIdeal.nD Cert.ReferenceRouterIdeal.τ).loc Cert.ReferenceRouterIdeal.main_arg6) = m ((c.tc : Thread Cert.KernelRouterIdeal.nD Cert.KernelRouterIdeal.τ).loc Cert.KernelRouterIdeal.main_arg6)
      ∧ m' ((c.tc : Thread Cert.ReferenceRouterIdeal.nD Cert.ReferenceRouterIdeal.τ).loc Cert.ReferenceRouterIdeal.main_arg7) = m ((c.tc : Thread Cert.KernelRouterIdeal.nD Cert.KernelRouterIdeal.τ).loc Cert.KernelRouterIdeal.main_arg7)
      ∧ m' ((c.tc : Thread Cert.ReferenceRouterIdeal.nD Cert.ReferenceRouterIdeal.τ).loc Cert.ReferenceRouterIdeal.main_arg8) = m ((c.tc : Thread Cert.KernelRouterIdeal.nD Cert.KernelRouterIdeal.τ).loc Cert.KernelRouterIdeal.main_arg8)) →
    ∃ (v0 : (c : Dev Cert.KernelRouterIdeal.nD) → Buf (Elt Ideal) ((c.tc : Thread Cert.KernelRouterIdeal.nD Cert.KernelRouterIdeal.τ).loc Cert.KernelRouterIdeal.main_v4_0)) (v1 : (c : Dev Cert.KernelRouterIdeal.nD) → Buf (Elt Ideal) ((c.tc : Thread Cert.KernelRouterIdeal.nD Cert.KernelRouterIdeal.τ).loc Cert.KernelRouterIdeal.main_v4_1)),
      θ_run (Cert.KernelRouterIdeal.defs (F := Ideal)) (onTc (τ := Cert.KernelRouterIdeal.τ) (Cert.KernelRouterIdeal.main (F := Ideal))) ⟨m, fun _ => 0, g⟩ (fun r => ∀ c : Dev Cert.KernelRouterIdeal.nD,
          r.2.mem ((c.tc : Thread Cert.KernelRouterIdeal.nD Cert.KernelRouterIdeal.τ).loc Cert.KernelRouterIdeal.main_v4_0) = v0 c
          ∧ r.2.mem ((c.tc : Thread Cert.KernelRouterIdeal.nD Cert.KernelRouterIdeal.τ).loc Cert.KernelRouterIdeal.main_v4_1) = v1 c
          ∧ r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
          ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
          ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2)
          ∧ r.2.mem ((c.tc : Thread Cert.KernelRouterIdeal.nD Cert.KernelRouterIdeal.τ).loc Cert.KernelRouterIdeal.main_arg3) = m ((c.tc : Thread Cert.KernelRouterIdeal.nD Cert.KernelRouterIdeal.τ).loc Cert.KernelRouterIdeal.main_arg3)
          ∧ r.2.mem ((c.tc : Thread Cert.KernelRouterIdeal.nD Cert.KernelRouterIdeal.τ).loc Cert.KernelRouterIdeal.main_arg4) = m ((c.tc : Thread Cert.KernelRouterIdeal.nD Cert.KernelRouterIdeal.τ).loc Cert.KernelRouterIdeal.main_arg4)
          ∧ r.2.mem ((c.tc : Thread Cert.KernelRouterIdeal.nD Cert.KernelRouterIdeal.τ).loc Cert.KernelRouterIdeal.main_arg5) = m ((c.tc : Thread Cert.KernelRouterIdeal.nD Cert.KernelRouterIdeal.τ).loc Cert.KernelRouterIdeal.main_arg5)
          ∧ r.2.mem ((c.tc : Thread Cert.KernelRouterIdeal.nD Cert.KernelRouterIdeal.τ).loc Cert.KernelRouterIdeal.main_arg6) = m ((c.tc : Thread Cert.KernelRouterIdeal.nD Cert.KernelRouterIdeal.τ).loc Cert.KernelRouterIdeal.main_arg6)
          ∧ r.2.mem ((c.tc : Thread Cert.KernelRouterIdeal.nD Cert.KernelRouterIdeal.τ).loc Cert.KernelRouterIdeal.main_arg7) = m ((c.tc : Thread Cert.KernelRouterIdeal.nD Cert.KernelRouterIdeal.τ).loc Cert.KernelRouterIdeal.main_arg7)
          ∧ r.2.mem ((c.tc : Thread Cert.KernelRouterIdeal.nD Cert.KernelRouterIdeal.τ).loc Cert.KernelRouterIdeal.main_arg8) = m ((c.tc : Thread Cert.KernelRouterIdeal.nD Cert.KernelRouterIdeal.τ).loc Cert.KernelRouterIdeal.main_arg8))
      ∧ θ_run (Cert.ReferenceRouterIdeal.defs (F := Ideal)) (onTc (τ := Cert.ReferenceRouterIdeal.τ) (Cert.ReferenceRouterIdeal.main (F := Ideal))) ⟨m', fun _ => 0, g'⟩ (fun r => ∀ c : Dev Cert.ReferenceRouterIdeal.nD,
          r.2.mem ((c.tc : Thread Cert.ReferenceRouterIdeal.nD Cert.ReferenceRouterIdeal.τ).loc Cert.ReferenceRouterIdeal.main_v42) = v0 c
          ∧ r.2.mem ((c.tc : Thread Cert.ReferenceRouterIdeal.nD Cert.ReferenceRouterIdeal.τ).loc Cert.ReferenceRouterIdeal.main_v44) = v1 c
          ∧ r.2.mem ((c.tc : Thread Cert.ReferenceRouterIdeal.nD Cert.ReferenceRouterIdeal.τ).loc Cert.ReferenceRouterIdeal.main_arg0) = m' ((c.tc : Thread Cert.ReferenceRouterIdeal.nD Cert.ReferenceRouterIdeal.τ).loc Cert.ReferenceRouterIdeal.main_arg0)
          ∧ r.2.mem ((c.tc : Thread Cert.ReferenceRouterIdeal.nD Cert.ReferenceRouterIdeal.τ).loc Cert.ReferenceRouterIdeal.main_arg1) = m' ((c.tc : Thread Cert.ReferenceRouterIdeal.nD Cert.ReferenceRouterIdeal.τ).loc Cert.ReferenceRouterIdeal.main_arg1)
          ∧ r.2.mem ((c.tc : Thread Cert.ReferenceRouterIdeal.nD Cert.ReferenceRouterIdeal.τ).loc Cert.ReferenceRouterIdeal.main_arg2) = m' ((c.tc : Thread Cert.ReferenceRouterIdeal.nD Cert.ReferenceRouterIdeal.τ).loc Cert.ReferenceRouterIdeal.main_arg2)
          ∧ r.2.mem ((c.tc : Thread Cert.ReferenceRouterIdeal.nD Cert.ReferenceRouterIdeal.τ).loc Cert.ReferenceRouterIdeal.main_arg3) = m' ((c.tc : Thread Cert.ReferenceRouterIdeal.nD Cert.ReferenceRouterIdeal.τ).loc Cert.ReferenceRouterIdeal.main_arg3)
          ∧ r.2.mem ((c.tc : Thread Cert.ReferenceRouterIdeal.nD Cert.ReferenceRouterIdeal.τ).loc Cert.ReferenceRouterIdeal.main_arg4) = m' ((c.tc : Thread Cert.ReferenceRouterIdeal.nD Cert.ReferenceRouterIdeal.τ).loc Cert.ReferenceRouterIdeal.main_arg4)
          ∧ r.2.mem ((c.tc : Thread Cert.ReferenceRouterIdeal.nD Cert.ReferenceRouterIdeal.τ).loc Cert.ReferenceRouterIdeal.main_arg5) = m' ((c.tc : Thread Cert.ReferenceRouterIdeal.nD Cert.ReferenceRouterIdeal.τ).loc Cert.ReferenceRouterIdeal.main_arg5)
          ∧ r.2.mem ((c.tc : Thread Cert.ReferenceRouterIdeal.nD Cert.ReferenceRouterIdeal.τ).loc Cert.ReferenceRouterIdeal.main_arg6) = m' ((c.tc : Thread Cert.ReferenceRouterIdeal.nD Cert.ReferenceRouterIdeal.τ).loc Cert.ReferenceRouterIdeal.main_arg6)
          ∧ r.2.mem ((c.tc : Thread Cert.ReferenceRouterIdeal.nD Cert.ReferenceRouterIdeal.τ).loc Cert.ReferenceRouterIdeal.main_arg7) = m' ((c.tc : Thread Cert.ReferenceRouterIdeal.nD Cert.ReferenceRouterIdeal.τ).loc Cert.ReferenceRouterIdeal.main_arg7)
          ∧ r.2.mem ((c.tc : Thread Cert.ReferenceRouterIdeal.nD Cert.ReferenceRouterIdeal.τ).loc Cert.ReferenceRouterIdeal.main_arg8) = m' ((c.tc : Thread Cert.ReferenceRouterIdeal.nD Cert.ReferenceRouterIdeal.τ).loc Cert.ReferenceRouterIdeal.main_arg8))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelMoe : Cert.KernelMoe.Facts) (hKernelMoeIdeal : Cert.KernelMoeIdeal.Facts) (hReferenceMoeIdeal : Cert.ReferenceMoeIdeal.Facts) (hKernelCombine : Cert.KernelCombine.Facts) (hKernelCombineIdeal : Cert.KernelCombineIdeal.Facts) (hReferenceCombineIdeal : Cert.ReferenceCombineIdeal.Facts) (hKernelRouter : Cert.KernelRouter.Facts) (hKernelRouterIdeal : Cert.KernelRouterIdeal.Facts) (hReferenceRouterIdeal : Cert.ReferenceRouterIdeal.Facts) (hPre_finite : Cert.Pre_finite.Facts) (hPre_listed : Cert.Pre_listed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMoe (hKernelMoe := hKernelMoe) (hPre_listed := hPre_listed)
    ∧ quiescent_KernelMoeIdeal (hKernelMoeIdeal := hKernelMoeIdeal) (hPre_listed := hPre_listed)
    ∧ quiescent_ReferenceMoeIdeal (hReferenceMoeIdeal := hReferenceMoeIdeal)
    ∧ quiescent_ReferenceMoeIdeal_pre_listed (hReferenceMoeIdeal := hReferenceMoeIdeal) (hPre_listed := hPre_listed)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelRouter (hKernelRouter := hKernelRouter)
    ∧ quiescent_KernelRouterIdeal (hKernelRouterIdeal := hKernelRouterIdeal)
    ∧ quiescent_ReferenceRouterIdeal (hReferenceRouterIdeal := hReferenceRouterIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelMoe_KernelMoeIdeal
    ∧ algebraic_KernelMoeIdeal_ReferenceMoeIdeal (hKernelMoeIdeal := hKernelMoeIdeal) (hReferenceMoeIdeal := hReferenceMoeIdeal) (hPre_listed := hPre_listed)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelRouter_KernelRouterIdeal
    ∧ algebraic_KernelRouterIdeal_ReferenceRouterIdeal (hKernelRouterIdeal := hKernelRouterIdeal) (hReferenceRouterIdeal := hReferenceRouterIdeal)
-- ==== Pre_finite.lean ====
abbrev S65536x2944 : Shape := ⟨2, ![65536, 2944]⟩
abbrev S8192x2944 : Shape := ⟨2, ![8192, 2944]⟩
abbrev S4x15x31 : Shape := ⟨3, ![4, 15, 31]⟩
abbrev S_ : Shape := ⟨0, ![]⟩

class Facts : Prop where
  bcast_S_S65536x2944 : S_.BroadcastsInDim S65536x2944 (![] : Fin 0 → Fin S65536x2944.rank)
  reducesTo_S65536x2944_S_d0_1 : S65536x2944.ReducesTo [0, 1] S_
  h_S_ : 0 < S_.numel
  bcast_S_S8192x2944 : S_.BroadcastsInDim S8192x2944 (![] : Fin 0 → Fin S8192x2944.rank)
  reducesTo_S8192x2944_S_d0_1 : S8192x2944.ReducesTo [0, 1] S_
  bcast_S_S4x15x31 : S_.BroadcastsInDim S4x15x31 (![] : Fin 0 → Fin S4x15x31.rank)
  reducesTo_S4x15x31_S_d0_1_2 : S4x15x31.ReducesTo [0, 1, 2] S_

variable [Facts]

def fn {F : FTy → Type} [FloatOps F] (main_arg0 : FVec F S65536x2944 .bf16) (main_arg1 : FVec F S8192x2944 .bf16) (main_arg2 : FVec F S4x15x31 .f32) : IVec S_ 1 :=
  let main_v0 : FVec F S65536x2944 .bf16 := Host.absf main_arg0
  let main_cst : FVec F S_ .bf16 := constant S_ .bf16 0x7F80#16
  let main_v1 : FVec F S65536x2944 .bf16 := broadcastInDim S65536x2944 ![] bcast_S_S65536x2944 main_cst
  let main_v2 : IVec S65536x2944 1 := cmpf .olt main_v0 main_v1
  let main_c : IVec S_ 1 := constantI S_ 1 1#1
  let main_v3 : IVec S_ 1 := (fun x v => Host.reduce IntOp.andi x v reducesTo_S65536x2944_S_d0_1 h_S_) main_v2 main_c
  let main_v4 : FVec F S8192x2944 .bf16 := Host.absf main_arg1
  let main_cst_0 : FVec F S_ .bf16 := constant S_ .bf16 0x7F80#16
  let main_v5 : FVec F S8192x2944 .bf16 := broadcastInDim S8192x2944 ![] bcast_S_S8192x2944 main_cst_0
  let main_v6 : IVec S8192x2944 1 := cmpf .olt main_v4 main_v5
  let main_c_1 : IVec S_ 1 := constantI S_ 1 1#1
  let main_v7 : IVec S_ 1 := (fun x v => Host.reduce IntOp.andi x v reducesTo_S8192x2944_S_d0_1 h_S_) main_v6 main_c_1
  let main_v8 : IVec S_ 1 := andi main_v3 main_v7
  let main_v9 : FVec F S4x15x31 .f32 := Host.absf main_arg2
  let main_cst_2 : FVec F S_ .f32 := constant S_ .f32 0x7F800000#32
  let main_v10 : FVec F S4x15x31 .f32 := broadcastInDim S4x15x31 ![] bcast_S_S4x15x31 main_cst_2
  let main_v11 : IVec S4x15x31 1 := cmpf .olt main_v9 main_v10
  let main_c_3 : IVec S_ 1 := constantI S_ 1 1#1
  let main_v12 : IVec S_ 1 := (fun x v => Host.reduce IntOp.andi x v reducesTo_S4x15x31_S_d0_1_2 h_S_) main_v11 main_c_3
  let main_v13 : IVec S_ 1 := andi main_v8 main_v12
  main_v13
-- ==== Pre_listed.lean ====
abbrev S264 : Shape := ⟨1, ![264]⟩
abbrev S131072x1024 : Shape := ⟨2, ![131072, 1024]⟩
abbrev S8x1024x2816 : Shape := ⟨3, ![8, 1024, 2816]⟩
abbrev S8x1408x1024 : Shape := ⟨3, ![8, 1408, 1024]⟩
abbrev S_ : Shape := ⟨0, ![]⟩
abbrev S263 : Shape := ⟨1, ![263]⟩
abbrev S1 : Shape := ⟨1, ![1]⟩

class Facts : Prop where
  bcast_S_S264 : S_.BroadcastsInDim S264 (![] : Fin 0 → Fin S264.rank)
  slices_S264_S263_0 : S264.Slices ![0] S263
  slices_S264_S263_1 : S264.Slices ![1] S263
  slices_S264_S1_0 : S264.Slices ![0] S1
  bcast_S_S1 : S_.BroadcastsInDim S1 (![] : Fin 0 → Fin S1.rank)
  slices_S264_S1_263 : S264.Slices ![263] S1

variable [Facts]

def fn_part2 {F : FTy → Type} [FloatOps F] (main_arg3 : IVec S264 32) (main_v31 : IVec S264 1) (main_v34 : IVec S263 1) (main_v35 : IVec S1 32) (main_v36 : IVec S1 32) : IVec S264 1 × IVec S263 1 × IVec S1 1 × IVec S1 1 :=
  let main_v37 : IVec S1 1 := cmpi .eq main_v35 main_v36
  let main_v38 : IVec S1 32 := (extractStridedSlice S1 ![263] · slices_S264_S1_263) main_arg3
  let main_c_10 : IVec S_ 32 := constantI S_ 32 131072#32
  let main_v39 : IVec S1 32 := broadcastInDim S1 ![] bcast_S_S1 main_c_10
  let main_v40 : IVec S1 1 := cmpi .eq main_v38 main_v39
  (main_v31, main_v34, main_v37, main_v40)

def fn_part1 {F : FTy → Type} [FloatOps F] (main_arg0 : IVec S264 32) (main_arg2 : IVec S264 32) (main_arg3 : IVec S264 32) (main_v16 : IVec S264 1) (main_v17 : IVec S264 32) : IVec S264 1 × IVec S263 1 × IVec S1 1 × IVec S1 1 :=
  let main_v18 : IVec S264 32 := muli main_arg0 main_v17
  let main_c_5 : IVec S_ 32 := constantI S_ 32 512#32
  let main_v19 : IVec S264 32 := broadcastInDim S264 ![] bcast_S_S264 main_c_5
  let main_v20 : IVec S264 32 := addi main_v18 main_v19
  let main_v21 : IVec S264 1 := cmpi .sle main_arg3 main_v20
  let main_v22 : IVec S264 1 := andi main_v16 main_v21
  let main_c_6 : IVec S_ 32 := constantI S_ 32 512#32
  let main_v23 : IVec S264 32 := broadcastInDim S264 ![] bcast_S_S264 main_c_6
  let main_v24 : IVec S264 32 := muli main_arg0 main_v23
  let main_c_7 : IVec S_ 32 := constantI S_ 32 512#32
  let main_v25 : IVec S264 32 := broadcastInDim S264 ![] bcast_S_S264 main_c_7
  let main_v26 : IVec S264 32 := addi main_v24 main_v25
  let main_v27 : IVec S264 1 := cmpi .slt main_arg2 main_v26
  let main_c_8 : IVec S_ 32 := constantI S_ 32 255#32
  let main_v28 : IVec S264 32 := broadcastInDim S264 ![] bcast_S_S264 main_c_8
  let main_v29 : IVec S264 1 := cmpi .eq main_arg0 main_v28
  let main_v30 : IVec S264 1 := ori main_v27 main_v29
  let main_v31 : IVec S264 1 := andi main_v22 main_v30
  let main_v32 : IVec S263 32 := (extractStridedSlice S263 ![0] · slices_S264_S263_0) main_arg3
  let main_v33 : IVec S263 32 := (extractStridedSlice S263 ![1] · slices_S264_S263_1) main_arg2
  let main_v34 : IVec S263 1 := cmpi .eq main_v32 main_v33
  let main_v35 : IVec S1 32 := (extractStridedSlice S1 ![0] · slices_S264_S1_0) main_arg2
  let main_c_9 : IVec S_ 32 := constantI S_ 32 0#32
  let main_v36 : IVec S1 32 := broadcastInDim S1 ![] bcast_S_S1 main_c_9
  fn_part2 (F := F) main_arg3 main_v31 main_v34 main_v35 main_v36

def fn {F : FTy → Type} [FloatOps F] (main_arg0 : IVec S264 32) (main_arg1 : IVec S264 32) (main_arg2 : IVec S264 32) (main_arg3 : IVec S264 32) (main_arg4 : FVec F S131072x1024 .bf16) (main_arg5 : FVec F S8x1024x2816 .f32) (main_arg6 : FVec F S8x1408x1024 .f32) : IVec S264 1 × IVec S263 1 × IVec S1 1 × IVec S1 1 :=
  let main_c : IVec S_ 32 := constantI S_ 32 0#32
  let main_v0 : IVec S264 32 := broadcastInDim S264 ![] bcast_S_S264 main_c
  let main_v1 : IVec S264 1 := cmpi .sge main_arg0 main_v0
  let main_c_0 : IVec S_ 32 := constantI S_ 32 255#32
  let main_v2 : IVec S264 32 := broadcastInDim S264 ![] bcast_S_S264 main_c_0
  let main_v3 : IVec S264 1 := cmpi .sle main_arg0 main_v2
  let main_v4 : IVec S264 1 := andi main_v1 main_v3
  let main_c_1 : IVec S_ 32 := constantI S_ 32 0#32
  let main_v5 : IVec S264 32 := broadcastInDim S264 ![] bcast_S_S264 main_c_1
  let main_v6 : IVec S264 1 := cmpi .sge main_arg1 main_v5
  let main_v7 : IVec S264 1 := andi main_v4 main_v6
  let main_c_2 : IVec S_ 32 := constantI S_ 32 7#32
  let main_v8 : IVec S264 32 := broadcastInDim S264 ![] bcast_S_S264 main_c_2
  let main_v9 : IVec S264 1 := cmpi .sle main_arg1 main_v8
  let main_v10 : IVec S264 1 := andi main_v7 main_v9
  let main_c_3 : IVec S_ 32 := constantI S_ 32 512#32
  let main_v11 : IVec S264 32 := broadcastInDim S264 ![] bcast_S_S264 main_c_3
  let main_v12 : IVec S264 32 := muli main_arg0 main_v11
  let main_v13 : IVec S264 1 := cmpi .sle main_v12 main_arg2
  let main_v14 : IVec S264 1 := andi main_v10 main_v13
  let main_v15 : IVec S264 1 := cmpi .sle main_arg2 main_arg3
  let main_v16 : IVec S264 1 := andi main_v14 main_v15
  let main_c_4 : IVec S_ 32 := constantI S_ 32 512#32
  let main_v17 : IVec S264 32 := broadcastInDim S264 ![] bcast_S_S264 main_c_4
  fn_part1 (F := F) main_arg0 main_arg2 main_arg3 main_v16 main_v17
-- ==== Kernel.lean ====
abbrev S65536x2944 : Shape := ⟨2, ![65536, 2944]⟩
abbrev S8192x2944 : Shape := ⟨2, ![8192, 2944]⟩
abbrev S4x15x31 : Shape := ⟨3, ![4, 15, 31]⟩
abbrev S64x64 : Shape := ⟨2, ![64, 64]⟩
abbrev S3x4x12 : Shape := ⟨3, ![3, 4, 12]⟩
abbrev S144 : Shape := ⟨1, ![144]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S3x4x1x12x1 : Shape := ⟨5, ![3, 4, 1, 12, 1]⟩
abbrev S1x1x64x1x64 : Shape := ⟨5, ![1, 1, 64, 1, 64]⟩
abbrev S3x4x64x12x64 : Shape := ⟨5, ![3, 4, 64, 12, 64]⟩
abbrev S4x15x64x64 : Shape := ⟨4, ![4, 15, 64, 64]⟩
abbrev S_ : Shape := ⟨0, ![]⟩
abbrev S144x1 : Shape := ⟨2, ![144, 1]⟩
abbrev S1 : Shape := ⟨1, ![1]⟩
abbrev S1x1 : Shape := ⟨2, ![1, 1]⟩
abbrev S4x144x64x64 : Shape := ⟨4, ![4, 144, 64, 64]⟩
abbrev S4x3x4x12x64x64 : Shape := ⟨6, ![4, 3, 4, 12, 64, 64]⟩
abbrev S3x4x4x64x12x64 : Shape := ⟨6, ![3, 4, 4, 64, 12, 64]⟩
abbrev S3x1x4x64x12x64 : Shape := ⟨6, ![3, 1, 4, 64, 12, 64]⟩
abbrev S3x4x256x768 : Shape := ⟨4, ![3, 4, 256, 768]⟩
abbrev S65536x256 : Shape := ⟨2, ![65536, 256]⟩
abbrev S2048x256 : Shape := ⟨2, ![2048, 256]⟩
abbrev S256x256 : Shape := ⟨2, ![256, 256]⟩
abbrev S768x256 : Shape := ⟨2, ![768, 256]⟩
abbrev S1x256 : Shape := ⟨2, ![1, 256]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 53
  | .vmem => 13
  | .smem => 0
  | _ => 0

abbrev bufTy : (tb : Table) → Fin (tcTables nBuf tb) → BufTy
  | .hbm, ⟨0, _⟩ => ⟨S65536x2944, .bf16⟩
  | .hbm, ⟨1, _⟩ => ⟨S8192x2944, .bf16⟩
  | .hbm, ⟨2, _⟩ => ⟨S4x15x31, .f32⟩
  | .hbm, ⟨3, _⟩ => ⟨S64x64, .i32⟩
  | .hbm, ⟨4, _⟩ => ⟨S3x4x12, .i1⟩
  | .hbm, ⟨5, _⟩ => ⟨S64x64, .i1⟩
  | .hbm, ⟨6, _⟩ => ⟨S144, .i32⟩
  | .hbm, ⟨7, _⟩ => ⟨S64x64x1, .i32⟩
  | .hbm, ⟨8, _⟩ => ⟨S31, .i32⟩
  | .hbm, ⟨9, _⟩ => ⟨S1x1x31, .i32⟩
  | .hbm, ⟨10, _⟩ => ⟨S64x64x31, .i32⟩
  | .hbm, ⟨11, _⟩ => ⟨S64x64x31, .i32⟩
  | .hbm, ⟨12, _⟩ => ⟨S64x64x31, .i1⟩
  | .hbm, ⟨13, _⟩ => ⟨S64x64x31, .f32⟩
  | .hbm, ⟨14, _⟩ => ⟨S3x4x1x12x1, .i1⟩
  | .hbm, ⟨15, _⟩ => ⟨S1x1x64x1x64, .i1⟩
  | .hbm, ⟨16, _⟩ => ⟨S3x4x64x12x64, .i1⟩
  | .hbm, ⟨17, _⟩ => ⟨S3x4x64x12x64, .i1⟩
  | .hbm, ⟨18, _⟩ => ⟨S3x4x64x12x64, .i1⟩
  | .hbm, ⟨19, _⟩ => ⟨S4x15x64x64, .f32⟩
  | .hbm, ⟨20, _⟩ => ⟨S_, .i32⟩
  | .hbm, ⟨21, _⟩ => ⟨S144, .i32⟩
  | .hbm, ⟨22, _⟩ => ⟨S144, .i1⟩
  | .hbm, ⟨23, _⟩ => ⟨S_, .i32⟩
  | .hbm, ⟨24, _⟩ => ⟨S144, .i32⟩
  | .hbm, ⟨25, _⟩ => ⟨S144, .i32⟩
  | .hbm, ⟨26, _⟩ => ⟨S144, .i32⟩
  | .hbm, ⟨27, _⟩ => ⟨S144x1, .i32⟩
  | .hbm, ⟨28, _⟩ => ⟨S1, .i32⟩
  | .hbm, ⟨29, _⟩ => ⟨S_, .i32⟩
  | .hbm, ⟨30, _⟩ => ⟨S144x1, .i32⟩
  | .hbm, ⟨31, _⟩ => ⟨S144x1, .i1⟩
  | .hbm, ⟨32, _⟩ => ⟨S1x1, .i32⟩
  | .hbm, ⟨33, _⟩ => ⟨S144x1, .i32⟩
  | .hbm, ⟨34, _⟩ => ⟨S144x1, .i1⟩
  | .hbm, ⟨35, _⟩ => ⟨S144x1, .i1⟩
  | .hbm, ⟨36, _⟩ => ⟨S_, .i1⟩
  | .hbm, ⟨37, _⟩ => ⟨S144, .i1⟩
  | .hbm, ⟨38, _⟩ => ⟨S4x144x64x64, .f32⟩
  | .hbm, ⟨39, _⟩ => ⟨S4x144x64x64, .i1⟩
  | .hbm, ⟨40, _⟩ => ⟨S_, .f32⟩
  | .hbm, ⟨41, _⟩ => ⟨S4x144x64x64, .f32⟩
  | .hbm, ⟨42, _⟩ => ⟨S4x144x64x64, .f32⟩
  | .hbm, ⟨43, _⟩ => ⟨S4x3x4x12x64x64, .f32⟩
  | .hbm, ⟨44, _⟩ => ⟨S3x4x4x64x12x64, .f32⟩
  | .hbm, ⟨45, _⟩ => ⟨S3x1x4x64x12x64, .i1⟩
  | .hbm, ⟨46, _⟩ => ⟨S_, .f32⟩
  | .hbm, ⟨47, _⟩ => ⟨S_, .f32⟩
  | .hbm, ⟨48, _⟩ => ⟨S3x4x4x64x12x64, .i1⟩
  | .hbm, ⟨49, _⟩ => ⟨S3x4x4x64x12x64, .f32⟩
  | .hbm, ⟨50, _⟩ => ⟨S3x4x4x64x12x64, .f32⟩
  | .hbm, ⟨51, _⟩ => ⟨S3x4x256x768, .f32⟩
  | .hbm, ⟨52, _⟩ => ⟨S65536x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S3x4x256x768, .f32⟩
  | .local _ .vmem, ⟨11, _⟩ => ⟨S2048x256, .bf16⟩
  | .local _ .vmem, ⟨12, _⟩ => ⟨S2048x256, .bf16⟩
  | _, _ => ⟨S65536x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let c20_i32 : BitVec 32 := 20#32
  let c0_i32_1 : BitVec 32 := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c4_i32 : BitVec 32 := 4#32
  let v2 : BitVec 32 := Scalar.muli v1 c4_i32
  let c4_i32_0 : BitVec 32 := 4#32
  let v3 : BitVec 32 := Scalar.subi v2 c4_i32_0
  let v4 : BitVec 32 := Scalar.maxsi c0_i32_1 v3
  let v5 : BitVec 32 := Scalar.minsi c20_i32 v4
  let c64_i32 : BitVec 32 := 64#32
  let v6 : BitVec 32 := Scalar.muli v5 c64_i32
  v6
def k0_off1 (i : grid0.Coords) (c0_i32 : BitVec 32) : Fin 2 → Nat :=
  let c20_i32 : BitVec 32 := 20#32
  let c0_i32_1 : BitVec 32 := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c4_i32 : BitVec 32 := 4#32
  let v2 : BitVec 32 := Scalar.muli v1 c4_i32
  let c4_i32_0 : BitVec 32 := 4#32
  let v3 : BitVec 32 := Scalar.subi v2 c4_i32_0
  let v4 : BitVec 32 := Scalar.maxsi c0_i32_1 v3
  let v5 : BitVec 32 := Scalar.minsi c20_i32 v4
  let c64_i32 : BitVec 32 := 64#32
  let v6 : BitVec 32 := Scalar.muli v5 c64_i32
  let v7 : BitVec 32 := v6
  let v12 : Index := Scalar.indexCast v7
  let c0 : Index := 0#32
  ![v12.toNat, 0]
def k0_off2 (i : grid0.Coords) (c0_i32 : BitVec 32) : Fin 4 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let c0_i32_2 : BitVec 32 := 0#32
  let v8 : BitVec 1 := Scalar.cmpi .eq v1 c0_i32_2
  let c0_i32_3 : BitVec 32 := 0#32
  let c7_i32 : BitVec 32 := 7#32
  let v9 : BitVec 1 := Scalar.cmpi .eq v1 c7_i32
  let c2_i32 : BitVec 32 := 2#32
  let c1_i32 : BitVec 32 := 1#32
  let v10 : BitVec 32 := Scalar.select v9 c2_i32 c1_i32
  let v11 : BitVec 32 := Scalar.select v8 c0_i32_3 v10
  let v48 : Index := Scalar.indexCast v11
  let c0_18 : Index := 0#32
  let c0_19 : Index := 0#32
  let c0_20 : Index := 0#32
  ![v48.toNat, 0, 0, 0]
def k0_off3 (i : grid0.Coords) (c0_i32 : BitVec 32) : Fin 4 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let c0_i32_2 : BitVec 32 := 0#32
  let v8 : BitVec 1 := Scalar.cmpi .eq v1 c0_i32_2
  let c0_i32_3 : BitVec 32 := 0#32
  let c7_i32 : BitVec 32 := 7#32
  let v9 : BitVec 1 := Scalar.cmpi .eq v1 c7_i32
  let c2_i32 : BitVec 32 := 2#32
  let c1_i32 : BitVec 32 := 1#32
  let v10 : BitVec 32 := Scalar.select v9 c2_i32 c1_i32
  let v11 : BitVec 32 := Scalar.select v8 c0_i32_3 v10
  let v59 : Index := Scalar.indexCast v11
  let c1 : Index := 1#32
  let c0_24 : Index := 0#32
  let c0_25 : Index := 0#32
  ![v59.toNat, 1, 0, 0]
def k0_off4 (i : grid0.Coords) (c0_i32 : BitVec 32) : Fin 4 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let c0_i32_2 : BitVec 32 := 0#32
  let v8 : BitVec 1 := Scalar.cmpi .eq v1 c0_i32_2
  let c0_i32_3 : BitVec 32 := 0#32
  let c7_i32 : BitVec 32 := 7#32
  let v9 : BitVec 1 := Scalar.cmpi .eq v1 c7_i32
  let c2_i32 : BitVec 32 := 2#32
  let c1_i32 : BitVec 32 := 1#32
  let v10 : BitVec 32 := Scalar.select v9 c2_i32 c1_i32
  let v11 : BitVec 32 := Scalar.select v8 c0_i32_3 v10
  let v70 : Index := Scalar.indexCast v11
  let c2 : Index := 2#32
  let c0_29 : Index := 0#32
  let c0_30 : Index := 0#32
  ![v70.toNat, 2, 0, 0]
def k0_off5 (i : grid0.Coords) (c0_i32 : BitVec 32) : Fin 4 → Nat :=
  let arg1 : BitVec 32 := BitVec.ofNat 32 (i 1).val
  let c8_i32 : BitVec 32 := 8#32
  let v0 : BitVec 32 := Scalar.muli arg1 c8_i32
  let v1 : BitVec 32 := Scalar.addi v0 c0_i32
  let c0_i32_2 : BitVec 32 := 0#32
  let v8 : BitVec 1 := Scalar.cmpi .eq v1 c0_i32_2
  let c0_i32_3 : BitVec 32 := 0#32
  let c7_i32 : BitVec 32 := 7#32
  let v9 : BitVec 1 := Scalar.cmpi .eq v1 c7_i32
  let c2_i32 : BitVec 32 := 2#32
  let c1_i32 : BitVec 32 := 1#32
  let v10 : BitVec 32 := Scalar.select v9 c2_i32 c1_i32
  let v11 : BitVec 32 := Scalar.select v8 c0_i32_3 v10
  let v81 : Index := Scalar.indexCast v11
  let c3 : Index := 3#32
  let c0_34 : Index := 0#32
  let c0_35 : Index := 0#32
  ![v81.toNat, 3, 0, 0]
def k0_mult2 (i : grid0.Coords) : BitVec 32 :=
  let c20_i32_81 : BitVec 32 := 20#32
  let c0_i32_80 : BitVec 32 := 0#32
  let arg1 : BitVec 32 := BitVec.ofNat 32 (i 1).val
  let c8_i32_76 : BitVec 32 := 8#32
  let v217 : BitVec 32 := Scalar.muli arg1 c8_i32_76
  let c1_i32_77 : BitVec 32 := 1#32
  let v218 : BitVec 32 := Scalar.addi v217 c1_i32_77
  let c4_i32_78 : BitVec 32 := 4#32
  let v219 : BitVec 32 := Scalar.muli v218 c4_i32_78
  let c4_i32_79 : BitVec 32 := 4#32
  let v220 : BitVec 32 := Scalar.subi v219 c4_i32_79
  let v221 : BitVec 32 := Scalar.maxsi c0_i32_80 v220
  let v222 : BitVec 32 := Scalar.minsi c20_i32_81 v221
  let c64_i32_82 : BitVec 32 := 64#32
  let v223 : BitVec 32 := Scalar.muli v222 c64_i32_82
  v223
def k0_mult3 (i : grid0.Coords) : BitVec 32 :=
  let c20_i32_172 : BitVec 32 := 20#32
  let c0_i32_171 : BitVec 32 := 0#32
  let arg1 : BitVec 32 := BitVec.ofNat 32 (i 1).val
  let c8_i32_167 : BitVec 32 := 8#32
  let v434 : BitVec 32 := Scalar.muli arg1 c8_i32_167
  let c2_i32_168 : BitVec 32 := 2#32
  let v435 : BitVec 32 := Scalar.addi v434 c2_i32_168
  let c4_i32_169 : BitVec 32 := 4#32
  let v436 : BitVec 32 := Scalar.muli v435 c4_i32_169
  let c4_i32_170 : BitVec 32 := 4#32
  let v437 : BitVec 32 := Scalar.subi v436 c4_i32_170
  let v438 : BitVec 32 := Scalar.maxsi c0_i32_171 v437
  let v439 : BitVec 32 := Scalar.minsi c20_i32_172 v438
  let c64_i32_173 : BitVec 32 := 64#32
  let v440 : BitVec 32 := Scalar.muli v439 c64_i32_173
  v440
def k0_mult4 (i : grid0.Coords) : BitVec 32 :=
  let c20_i32_262 : BitVec 32 := 20#32
  let c0_i32_261 : BitVec 32 := 0#32
  let arg1 : BitVec 32 := BitVec.ofNat 32 (i 1).val
  let c8_i32_258 : BitVec 32 := 8#32
  let v651 : BitVec 32 := Scalar.muli arg1 c8_i32_258
  let c3_i32 : BitVec 32 := 3#32
  let v652 : BitVec 32 := Scalar.addi v651 c3_i32
  let c4_i32_259 : BitVec 32 := 4#32
  let v653 : BitVec 32 := Scalar.muli v652 c4_i32_259
  let c4_i32_260 : BitVec 32 := 4#32
  let v654 : BitVec 32 := Scalar.subi v653 c4_i32_260
  let v655 : BitVec 32 := Scalar.maxsi c0_i32_261 v654
  let v656 : BitVec 32 := Scalar.minsi c20_i32_262 v655
  let c64_i32_263 : BitVec 32 := 64#32
  let v657 : BitVec 32 := Scalar.muli v656 c64_i32_263
  v657
def k0_mult5 (i : grid0.Coords) : BitVec 32 :=
  let c20_i32_353 : BitVec 32 := 20#32
  let c0_i32_352 : BitVec 32 := 0#32
  let arg1 : BitVec 32 := BitVec.ofNat 32 (i 1).val
  let c8_i32_348 : BitVec 32 := 8#32
  let v868 : BitVec 32 := Scalar.muli arg1 c8_i32_348
  let c4_i32_349 : BitVec 32 := 4#32
  let v869 : BitVec 32 := Scalar.addi v868 c4_i32_349
  let c4_i32_350 : BitVec 32 := 4#32
  let v870 : BitVec 32 := Scalar.muli v869 c4_i32_350
  let c4_i32_351 : BitVec 32 := 4#32
  let v871 : BitVec 32 := Scalar.subi v870 c4_i32_351
  let v872 : BitVec 32 := Scalar.maxsi c0_i32_352 v871
  let v873 : BitVec 32 := Scalar.minsi c20_i32_353 v872
  let c64_i32_354 : BitVec 32 := 64#32
  let v874 : BitVec 32 := Scalar.muli v873 c64_i32_354
  v874
def k0_mult6 (i : grid0.Coords) : BitVec 32 :=
  let c20_i32_443 : BitVec 32 := 20#32
  let c0_i32_442 : BitVec 32 := 0#32
  let arg1 : BitVec 32 := BitVec.ofNat 32 (i 1).val
  let c8_i32_439 : BitVec 32 := 8#32
  let v1085 : BitVec 32 := Scalar.muli arg1 c8_i32_439
  let c5_i32 : BitVec 32 := 5#32
  let v1086 : BitVec 32 := Scalar.addi v1085 c5_i32
  let c4_i32_440 : BitVec 32 := 4#32
  let v1087 : BitVec 32 := Scalar.muli v1086 c4_i32_440
  let c4_i32_441 : BitVec 32 := 4#32
  let v1088 : BitVec 32 := Scalar.subi v1087 c4_i32_441
  let v1089 : BitVec 32 := Scalar.maxsi c0_i32_442 v1088
  let v1090 : BitVec 32 := Scalar.minsi c20_i32_443 v1089
  let c64_i32_444 : BitVec 32 := 64#32
  let v1091 : BitVec 32 := Scalar.muli v1090 c64_i32_444
  v1091
def k0_mult7 (i : grid0.Coords) : BitVec 32 :=
  let c20_i32_533 : BitVec 32 := 20#32
  let c0_i32_532 : BitVec 32 := 0#32
  let arg1 : BitVec 32 := BitVec.ofNat 32 (i 1).val
  let c8_i32_529 : BitVec 32 := 8#32
  let v1302 : BitVec 32 := Scalar.muli arg1 c8_i32_529
  let c6_i32 : BitVec 32 := 6#32
  let v1303 : BitVec 32 := Scalar.addi v1302 c6_i32
  let c4_i32_530 : BitVec 32 := 4#32
  let v1304 : BitVec 32 := Scalar.muli v1303 c4_i32_530
  let c4_i32_531 : BitVec 32 := 4#32
  let v1305 : BitVec 32 := Scalar.subi v1304 c4_i32_531
  let v1306 : BitVec 32 := Scalar.maxsi c0_i32_532 v1305
  let v1307 : BitVec 32 := Scalar.minsi c20_i32_533 v1306
  let c64_i32_534 : BitVec 32 := 64#32
  let v1308 : BitVec 32 := Scalar.muli v1307 c64_i32_534
  v1308
def k0_mult8 (i : grid0.Coords) : BitVec 32 :=
  let c20_i32_624 : BitVec 32 := 20#32
  let c0_i32_623 : BitVec 32 := 0#32
  let arg1 : BitVec 32 := BitVec.ofNat 32 (i 1).val
  let c8_i32_619 : BitVec 32 := 8#32
  let v1519 : BitVec 32 := Scalar.muli arg1 c8_i32_619
  let c7_i32_620 : BitVec 32 := 7#32
  let v1520 : BitVec 32 := Scalar.addi v1519 c7_i32_620
  let c4_i32_621 : BitVec 32 := 4#32
  let v1521 : BitVec 32 := Scalar.muli v1520 c4_i32_621
  let c4_i32_622 : BitVec 32 := 4#32
  let v1522 : BitVec 32 := Scalar.subi v1521 c4_i32_622
  let v1523 : BitVec 32 := Scalar.maxsi c0_i32_623 v1522
  let v1524 : BitVec 32 := Scalar.minsi c20_i32_624 v1523
  let c64_i32_625 : BitVec 32 := 64#32
  let v1525 : BitVec 32 := Scalar.muli v1524 c64_i32_625
  v1525
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x4x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S65536x2944 : Shape := ⟨2, ![65536, 2944]⟩
abbrev S8192x2944 : Shape := ⟨2, ![8192, 2944]⟩
abbrev S4x15x31 : Shape := ⟨3, ![4, 15, 31]⟩
abbrev S32x32 : Shape := ⟨2, ![32, 32]⟩
abbrev S64x64 : Shape := ⟨2, ![64, 64]⟩
abbrev S65536x256 : Shape := ⟨2, ![65536, 256]⟩
abbrev S32x2048x4x64 : Shape := ⟨4, ![32, 2048, 4, 64]⟩
abbrev S8192x256 : Shape := ⟨2, ![8192, 256]⟩
abbrev S32x256x4x64 : Shape := ⟨4, ![32, 256, 4, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S2048x2048 : Shape := ⟨2, ![2048, 2048]⟩
abbrev S_ : Shape := ⟨0, ![]⟩
abbrev S32x32x1 : Shape := ⟨3, ![32, 32, 1]⟩
abbrev S4x32x32x31 : Shape := ⟨4, ![4, 32, 32, 31]⟩
abbrev S64x64x1 : Shape := ⟨3, ![64, 64, 1]⟩
abbrev S4x32x32x64x64 : Shape := ⟨5, ![4, 32, 32, 64, 64]⟩
abbrev S4x32x64x32x64 : Shape := ⟨5, ![4, 32, 64, 32, 64]⟩
abbrev S4x2048x2048 : Shape := ⟨3, ![4, 2048, 2048]⟩
abbrev S32x4x2048x2048 : Shape := ⟨4, ![32, 4, 2048, 2048]⟩
abbrev S1x4x2048x2048 : Shape := ⟨4, ![1, 4, 2048, 2048]⟩
abbrev S32x4x2048x256 : Shape := ⟨4, ![32, 4, 2048, 256]⟩
abbrev S32x4x2048x2304 : Shape := ⟨4, ![32, 4, 2048, 2304]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 84
  | .vmem => 0
  | .smem => 0
  | _ => 0

abbrev bufTy : (tb : Table) → Fin (tcTables nBuf tb) → BufTy
  | .hbm, ⟨0, _⟩ => ⟨S65536x2944, .bf16⟩
  | .hbm, ⟨1, _⟩ => ⟨S8192x2944, .bf16⟩
  | .hbm, ⟨2, _⟩ => ⟨S4x15x31, .f32⟩
  | .hbm, ⟨3, _⟩ => ⟨S32x32, .i1⟩
  | .hbm, ⟨4, _⟩ => ⟨S64x64, .i1⟩
  | .hbm, ⟨5, _⟩ => ⟨S32x32, .i32⟩
  | .hbm, ⟨6, _⟩ => ⟨S32x32, .i1⟩
  | .hbm, ⟨7, _⟩ => ⟨S64x64, .i32⟩
  | .hbm, ⟨8, _⟩ => ⟨S64x64, .i1⟩
  | .hbm, ⟨9, _⟩ => ⟨S65536x256, .bf16⟩
  | .hbm, ⟨10, _⟩ => ⟨S65536x256, .f32⟩
  | .hbm, ⟨11, _⟩ => ⟨S32x2048x4x64, .f32⟩
  | .hbm, ⟨12, _⟩ => ⟨S65536x256, .bf16⟩
  | .hbm, ⟨13, _⟩ => ⟨S65536x256, .f32⟩
  | .hbm, ⟨14, _⟩ => ⟨S32x2048x4x64, .f32⟩
  | .hbm, ⟨15, _⟩ => ⟨S65536x256, .bf16⟩
  | .hbm, ⟨16, _⟩ => ⟨S65536x256, .f32⟩
  | .hbm, ⟨17, _⟩ => ⟨S32x2048x4x64, .f32⟩
  | .hbm, ⟨18, _⟩ => ⟨S8192x256, .bf16⟩
  | .hbm, ⟨19, _⟩ => ⟨S8192x256, .f32⟩
  | .hbm, ⟨20, _⟩ => ⟨S32x256x4x64, .f32⟩
  | .hbm, ⟨21, _⟩ => ⟨S8192x256, .bf16⟩
  | .hbm, ⟨22, _⟩ => ⟨S8192x256, .f32⟩
  | .hbm, ⟨23, _⟩ => ⟨S32x256x4x64, .f32⟩
  | .hbm, ⟨24, _⟩ => ⟨S32x1x32x1, .i1⟩
  | .hbm, ⟨25, _⟩ => ⟨S1x64x1x64, .i1⟩
  | .hbm, ⟨26, _⟩ => ⟨S32x64x32x64, .i1⟩
  | .hbm, ⟨27, _⟩ => ⟨S32x64x32x64, .i1⟩
  | .hbm, ⟨28, _⟩ => ⟨S32x64x32x64, .i1⟩
  | .hbm, ⟨29, _⟩ => ⟨S2048x2048, .i1⟩
  | .hbm, ⟨30, _⟩ => ⟨S_, .i32⟩
  | .hbm, ⟨31, _⟩ => ⟨S32x32, .i32⟩
  | .hbm, ⟨32, _⟩ => ⟨S32x32, .i32⟩
  | .hbm, ⟨33, _⟩ => ⟨S32x32, .i32⟩
  | .hbm, ⟨34, _⟩ => ⟨S32x32x1, .i32⟩
  | .hbm, ⟨35, _⟩ => ⟨S4x32x32x31, .f32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64x1, .i32⟩
  | .hbm, ⟨41, _⟩ => ⟨S4x32x32x64x64, .f32⟩
  | .hbm, ⟨42, _⟩ => ⟨S4x32x64x32x64, .f32⟩
  | .hbm, ⟨43, _⟩ => ⟨S4x2048x2048, .f32⟩
  | .hbm, ⟨44, _⟩ => ⟨S32x4x2048x2048, .f32⟩
  | .hbm, ⟨45, _⟩ => ⟨S_, .f32⟩
  | .hbm, ⟨46, _⟩ => ⟨S32x4x2048x2048, .f32⟩
  | .hbm, ⟨47, _⟩ => ⟨S32x4x2048x2048, .f32⟩
  | .hbm, ⟨48, _⟩ => ⟨S1x4x2048x2048, .f32⟩
  | .hbm, ⟨49, _⟩ => ⟨S32x4x2048x2048, .f32⟩
  | .hbm, ⟨50, _⟩ => ⟨S32x4x2048x2048, .f32⟩
  | .hbm, ⟨51, _⟩ => ⟨S_, .f32⟩
  | .hbm, ⟨52, _⟩ => ⟨S_, .f32⟩
  | .hbm, ⟨53, _⟩ => ⟨S32x4x2048x2048, .i1⟩
  | .hbm, ⟨54, _⟩ => ⟨S32x4x2048x2048, .f32⟩
  | .hbm, ⟨55, _⟩ => ⟨S32x4x2048x2048, .f32⟩
  | .hbm, ⟨56, _⟩ => ⟨S32x4x2048x256, .f32⟩
  | .hbm, ⟨57, _⟩ => ⟨S_, .f32⟩
  | .hbm, ⟨58, _⟩ => ⟨S32x4x2048x256, .f32⟩
  | .hbm, ⟨59, _⟩ => ⟨S32x4x2048x256, .f32⟩
  | .hbm, ⟨60, _⟩ => ⟨S32x4x2048x2304, .f32⟩
  | .hbm, ⟨61, _⟩ => ⟨S_, .f32⟩
  | .hbm, ⟨62, _⟩ => ⟨S32x4x2048, .f32⟩
  | .hbm, ⟨63, _⟩ => ⟨S_, .f32⟩
  | .hbm, ⟨64, _⟩ => ⟨S32x4x2048, .f32⟩
  | .hbm, ⟨65, _⟩ => ⟨S32x4x2048, .f32⟩
  | .hbm, ⟨66, _⟩ => ⟨S32x4x2048x1, .f32⟩
  | .hbm, ⟨67, _⟩ => ⟨S32x4x2048x2304, .f32⟩
  | .hbm, ⟨68, _⟩ => ⟨S32x4x2048x2304, .f32⟩
  | .hbm, ⟨69, _⟩ => ⟨S32x4x2048x2304, .f32⟩
  | .hbm, ⟨70, _⟩ => ⟨S_, .f32⟩
  | .hbm, ⟨71, _⟩ => ⟨S32x4x2048, .f32⟩
  | .hbm, ⟨72, _⟩ => ⟨S32x4x2048x1, .f32⟩
  | .hbm, ⟨73, _⟩ => ⟨S32x4x2048x2304, .f32⟩
  | .hbm, ⟨74, _⟩ => ⟨S32x4x2048x2304, .f32⟩
  | .hbm, ⟨75, _⟩ => ⟨S32x4x2048x2048, .f32⟩
  | .hbm, ⟨76, _⟩ => ⟨S32x4x64x2048, .f32⟩
  | .hbm, ⟨77, _⟩ => ⟨S32x2048x4x64, .f32⟩
  | .hbm, ⟨78, _⟩ => ⟨S32x4x2048x256, .f32⟩
  | .hbm, ⟨79, _⟩ => ⟨S32x4x64x2048, .f32⟩
  | .hbm, ⟨80, _⟩ => ⟨S32x2048x4x64, .f32⟩
  | .hbm, ⟨81, _⟩ => ⟨S32x2048x4x64, .f32⟩
  | .hbm, ⟨82, _⟩ => ⟨S65536x256, .f32⟩
  | .hbm, ⟨83, _⟩ => ⟨S65536x256, .bf16⟩
  | _, _ => ⟨S65536x2944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== KernelFfn.lean ====
abbrev S65536x1024 : Shape := ⟨2, ![65536, 1024]⟩
abbrev S65536x256 : Shape := ⟨2, ![65536, 256]⟩
abbrev S1024 : Shape := ⟨1, ![1024]⟩
abbrev S32x6x1024 : Shape := ⟨3, ![32, 6, 1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S512x256 : Shape := ⟨2, ![512, 256]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩

abbrev nBuf : Space → Nat
  | .hbm => 15
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024, .f32⟩
  | .hbm, ⟨6, _⟩ => ⟨S32x6x1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S1024x5632, .bf16⟩
  | .local _ .vmem, ⟨7, _⟩ => ⟨S2816x1024, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFfnIdeal.lean ====
abbrev S65536x1024 : Shape := ⟨2, ![65536, 1024]⟩
abbrev S65536x256 : Shape := ⟨2, ![65536, 256]⟩
abbrev S1024 : Shape := ⟨1, ![1024]⟩
abbrev S32x6x1024 : Shape := ⟨3, ![32, 6, 1024]⟩
abbrev S1024x1024 : Shape := ⟨2, ![1024, 1024]⟩
abbrev S1024x5632 : Shape := ⟨2, ![1024, 5632]⟩
abbrev S2816x1024 : Shape := ⟨2, ![2816, 1024]⟩
abbrev S32x2048x1024 : Shape := ⟨3, ![32, 2048, 1024]⟩
abbrev S32x1x1024 : Shape := ⟨3, ![32, 1, 1024]⟩
abbrev S32x1024 : Shape := ⟨2, ![32, 1024]⟩
abbrev S32x2048x256 : Shape := ⟨3, ![32, 2048, 256]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024, .f32⟩
  | .hbm, ⟨6, _⟩ => ⟨S32x6x1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S32x2048x1024, .f32⟩
  | .hbm, ⟨11, _⟩ => ⟨S32x1x1024, .f32⟩
  | .hbm, ⟨12, _⟩ => ⟨S32x1024, .f32⟩
  | .hbm, ⟨13, _⟩ => ⟨S32x1x1024, .f32⟩
  | .hbm, ⟨14, _⟩ => ⟨S32x1x1024, .f32⟩
  | .hbm, ⟨15, _⟩ => ⟨S32x1024, .f32⟩
  | .hbm, ⟨16, _⟩ => ⟨S32x1x1024, .f32⟩
  | .hbm, ⟨17, _⟩ => ⟨S32x1x1024, .f32⟩
  | .hbm, ⟨18, _⟩ => ⟨S32x1024, .f32⟩
  | .hbm, ⟨19, _⟩ => ⟨S32x1x1024, .f32⟩
  | .hbm, ⟨20, _⟩ => ⟨S32x1x1024, .f32⟩
  | .hbm, ⟨21, _⟩ => ⟨S32x1024, .f32⟩
  | .hbm, ⟨22, _⟩ => ⟨S32x1x1024, .f32⟩
  | .hbm, ⟨23, _⟩ => ⟨S65536x256, .f32⟩
  | .hbm, ⟨24, _⟩ => ⟨S32x2048x256, .f32⟩
  | .hbm, ⟨25, _⟩ => ⟨S65536x256, .f32⟩
  | .hbm, ⟨26, _⟩ => ⟨S32x2048x256, .f32⟩
  | .hbm, ⟨27, _⟩ => ⟨S65536x256, .f32⟩
  | .hbm, ⟨28, _⟩ => ⟨S32x2048x256, .f32⟩
  | .hbm, ⟨29, _⟩ => ⟨S65536x256, .f32⟩
  | .hbm, ⟨30, _⟩ => ⟨S32x2048x256, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x2048x5632, .f32⟩
  | .hbm, ⟨60, _⟩ => ⟨S32x2048x2816, .f32⟩
  | .hbm, ⟨61, _⟩ => ⟨S32x2048x2816, .f32⟩
  | .hbm, ⟨62, _⟩ => ⟨S32x2048x2816, .f32⟩
  | .hbm, ⟨63, _⟩ => ⟨S32x2048x2816, .f32⟩
  | .hbm, ⟨64, _⟩ => ⟨S_, .f32⟩
  | .hbm, ⟨65, _⟩ => ⟨S32x2048x2816, .f32⟩
  | .hbm, ⟨66, _⟩ => ⟨S32x2048x2816, .f32⟩
  | .hbm, ⟨67, _⟩ => ⟨S_, .f32⟩
  | .hbm, ⟨68, _⟩ => ⟨S32x2048x2816, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== KernelProj.lean ====
abbrev S65536x1024 : Shape := ⟨2, ![65536, 1024]⟩
abbrev S1024 : Shape := ⟨1, ![1024]⟩
abbrev S32x6x1024 : Shape := ⟨3, ![32, 6, 1024]⟩
abbrev S1024x2824 : Shape := ⟨2, ![1024, 2824]⟩
abbrev S_ : Shape := ⟨0, ![]⟩
abbrev S1024x2944 : Shape := ⟨2, ![1024, 2944]⟩
abbrev S1x1024 : Shape := ⟨2, ![1, 1024]⟩
abbrev S65536x2944 : Shape := ⟨2, ![65536, 2944]⟩
abbrev S65536x128 : Shape := ⟨2, ![65536, 128]⟩
abbrev S1024x1024 : Shape := ⟨2, ![1024, 1024]⟩
abbrev S1x6x1024 : Shape := ⟨3, ![1, 6, 1024]⟩
abbrev S1024x128 : Shape := ⟨2, ![1024, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2944 : Shape := ⟨2, ![512, 2944]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S32x6x1024, .f32⟩
  | .hbm, ⟨3, _⟩ => ⟨S1024x2824, .f32⟩
  | .hbm, ⟨4, _⟩ => ⟨S_, .i32⟩
  | .hbm, ⟨5, _⟩ => ⟨S_, .f32⟩
  | .hbm, ⟨6, _⟩ => ⟨S1024x2944, .f32⟩
  | .hbm, ⟨7, _⟩ => ⟨S1024x2944, .bf16⟩
  | .hbm, ⟨8, _⟩ => ⟨S1x1024, .f32⟩
  | .hbm, ⟨9, _⟩ => ⟨S65536x2944, .bf16⟩
  | .hbm, ⟨10, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2944, .bf16⟩
  | .local _ .vmem, ⟨6, _⟩ => ⟨S1024x2944, .bf16⟩
  | .local _ .vmem, ⟨7, _⟩ => ⟨S1024x2944, .bf16⟩
  | .local _ .vmem, ⟨8, _⟩ => ⟨S1024x128, .f32⟩
  | .local _ .vmem, ⟨9, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjIdeal.lean ====
abbrev S65536x1024 : Shape := ⟨2, ![65536, 1024]⟩
abbrev S1024 : Shape := ⟨1, ![1024]⟩
abbrev S32x6x1024 : Shape := ⟨3, ![32, 6, 1024]⟩
abbrev S1024x2824 : Shape := ⟨2, ![1024, 2824]⟩
abbrev S32x2048x1024 : Shape := ⟨3, ![32, 2048, 1024]⟩
abbrev S32x1x1024 : Shape := ⟨3, ![32, 1, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2824 : Shape := ⟨3, ![32, 2048, 2824]⟩
abbrev S65536x2824 : Shape := ⟨2, ![65536, 2824]⟩
abbrev S65536x2944 : Shape := ⟨2, ![65536, 2944]⟩
abbrev S65536x128 : Shape := ⟨2, ![65536, 128]⟩

abbrev nBuf : Space → Nat
  | .hbm => 41
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S32x6x1024, .f32⟩
  | .hbm, ⟨3, _⟩ => ⟨S1024x2824, .f32⟩
  | .hbm, ⟨4, _⟩ => ⟨S32x2048x1024, .f32⟩
  | .hbm, ⟨5, _⟩ => ⟨S32x1x1024, .f32⟩
  | .hbm, ⟨6, _⟩ => ⟨S32x1024, .f32⟩
  | .hbm, ⟨7, _⟩ => ⟨S32x1x1024, .f32⟩
  | .hbm, ⟨8, _⟩ => ⟨S32x1x1024, .f32⟩
  | .hbm, ⟨9, _⟩ => ⟨S32x1024, .f32⟩
  | .hbm, ⟨10, _⟩ => ⟨S32x1x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x2824, .f32⟩
  | .hbm, ⟨35, _⟩ => ⟨S65536x2824, .f32⟩
  | .hbm, ⟨36, _⟩ => ⟨S_, .i32⟩
  | .hbm, ⟨37, _⟩ => ⟨S_, .f32⟩
  | .hbm, ⟨38, _⟩ => ⟨S65536x2944, .f32⟩
  | .hbm, ⟨39, _⟩ => ⟨S65536x2944, .bf16⟩
  | .hbm, ⟨40, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== KernelMoe.lean ====
abbrev S264 : Shape := ⟨1, ![264]⟩
abbrev S131072x1024 : Shape := ⟨2, ![131072, 1024]⟩
abbrev S8x1024x2816 : Shape := ⟨3, ![8, 1024, 2816]⟩
abbrev S8x1408x1024 : Shape := ⟨3, ![8, 1408, 1024]⟩
abbrev S512x1024 : Shape := ⟨2, ![512, 1024]⟩
abbrev S1 : Shape := ⟨1, ![1]⟩
abbrev S1x1024x2816 : Shape := ⟨3, ![1, 1024, 2816]⟩
abbrev S1x1408x1024 : Shape := ⟨3, ![1, 1408, 1024]⟩
abbrev S1024x2816 : Shape := ⟨2, ![1024, 2816]⟩
abbrev S1408x1024 : Shape := ⟨2, ![1408, 1024]⟩
abbrev S1024x256 : Shape := ⟨2, ![1024, 256]⟩
abbrev S512x256 : Shape := ⟨2, ![512, 256]⟩
abbrev S256x1024 : Shape := ⟨2, ![256, 1024]⟩
abbrev S1024x128 : Shape := ⟨2, ![1024, 128]⟩
abbrev S512x128 : Shape := ⟨2, ![512, 128]⟩
abbrev S128x1024 : Shape := ⟨2, ![128, 1024]⟩
abbrev S512x1 : Shape := ⟨2, ![512, 1]⟩

abbrev nBuf : Space → Nat
  | .hbm => 4
  | .vmem => 10
  | .smem => 4
  | _ => 0

abbrev bufTy : (tb : Table) → Fin (tcTables nBuf tb) → BufTy
  | .hbm, ⟨0, _⟩ => ⟨S131072x1024, .bf16⟩
  | .hbm, ⟨1, _⟩ => ⟨S8x1024x2816, .f32⟩
  | .hbm, ⟨2, _⟩ => ⟨S8x1408x1024, .f32⟩
  | .hbm, ⟨3, _⟩ => ⟨S131072x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2816, .f32⟩
  | .local _ .vmem, ⟨3, _⟩ => ⟨S1x1024x2816, .f32⟩
  | .local _ .vmem, ⟨4, _⟩ => ⟨S1x1408x1024, .f32⟩
  | .local _ .vmem, ⟨5, _⟩ => ⟨S1x1408x1024, .f32⟩
  | .local _ .vmem, ⟨6, _⟩ => ⟨S512x1024, .bf16⟩
  | .local _ .vmem, ⟨7, _⟩ => ⟨S512x1024, .bf16⟩
  | .local _ .vmem, ⟨8, _⟩ => ⟨S1024x2816, .bf16⟩
  | .local _ .vmem, ⟨9, _⟩ => ⟨S1408x1024, .bf16⟩
  | .local _ .smem, ⟨0, _⟩ => ⟨S264, .i32⟩
  | .local _ .smem, ⟨1, _⟩ => ⟨S264, .i32⟩
  | .local _ .smem, ⟨2, _⟩ => ⟨S264, .i32⟩
  | .local _ .smem, ⟨3, _⟩ => ⟨S264, .i32⟩
  | _, _ => ⟨S131072x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![264], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v10 : BitVec 32 := Scalar.subi arg0 c1_i32
  let c0_i32_0 : BitVec 32 := 0#32
  let v11 : BitVec 32 := Scalar.maxsi v10 c0_i32_0
  let v12 : Index := Scalar.indexCast v11
  ![v12.toNat]
def k0_cond2 (v1 : BitVec 32) (v3 : BitVec 32) : BitVec 1 :=
  let v18 : BitVec 1 := Scalar.cmpi .sgt v3 v1
  let v19 : BitVec 32 := Scalar.extui v18
  let c0_i32_2 : BitVec 32 := 0#32
  let v20 : BitVec 1 := Scalar.cmpi .ne v19 c0_i32_2
  v20

def k0_cond3 (v1 : BitVec 32) (v5 : BitVec 32) : BitVec 1 :=
  let c512_i32 : BitVec 32 := 512#32
  let v6 : BitVec 32 := Scalar.muli v5 c512_i32
  let v88 : BitVec 1 := Scalar.cmpi .eq v1 v6
  let v89 : BitVec 32 := Scalar.extui v88
  let c0_i32_46 : BitVec 32 := 0#32
  let v90 : BitVec 1 := Scalar.cmpi .ne v89 c0_i32_46
  v90

def k0_cond4 (v1 : BitVec 32) (v5 : BitVec 32) : BitVec 1 :=
  let c512_i32 : BitVec 32 := 512#32
  let v6 : BitVec 32 := Scalar.muli v5 c512_i32
  let v91 : BitVec 1 := Scalar.cmpi .ne v1 v6
  let v92 : BitVec 32 := Scalar.extui v91
  let c0_i32_47 : BitVec 32 := 0#32
  let v93 : BitVec 1 := Scalar.cmpi .ne v92 c0_i32_47
  v93

def cc0_transform_0 (k0_off1_inb : ∀ i : grid0.Coords, ∀ a, (k0_off1 i) a + S1.size a ≤ S264.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMoeIdeal.lean ====
abbrev S264 : Shape := ⟨1, ![264]⟩
abbrev S131072x1024 : Shape := ⟨2, ![131072, 1024]⟩
abbrev S8x1024x2816 : Shape := ⟨3, ![8, 1024, 2816]⟩
abbrev S8x1408x1024 : Shape := ⟨3, ![8, 1408, 1024]⟩
abbrev S131072 : Shape := ⟨1, ![131072]⟩
abbrev S131072x1 : Shape := ⟨2, ![131072, 1]⟩
abbrev S1x264 : Shape := ⟨2, ![1, 264]⟩
abbrev S131072x264 : Shape := ⟨2, ![131072, 264]⟩
abbrev S8 : Shape := ⟨1, ![8]⟩
abbrev S8x1 : Shape := ⟨2, ![8, 1]⟩
abbrev S8x264 : Shape := ⟨2, ![8, 264]⟩
abbrev S8x1x264 : Shape := ⟨3, ![8, 1, 264]⟩
abbrev S1x131072x264 : Shape := ⟨3, ![1, 131072, 264]⟩
abbrev S8x131072x264 : Shape := ⟨3, ![8, 131072, 264]⟩
abbrev S_ : Shape := ⟨0, ![]⟩
abbrev S8x131072 : Shape := ⟨2, ![8, 131072]⟩
abbrev S8x2816x131072 : Shape := ⟨3, ![8, 2816, 131072]⟩
abbrev S8x131072x2816 : Shape := ⟨3, ![8, 131072, 2816]⟩
abbrev S8x131072x1408 : Shape := ⟨3, ![8, 131072, 1408]⟩
abbrev S8x131072x1024 : Shape := ⟨3, ![8, 131072, 1024]⟩
abbrev S8x131072x1 : Shape := ⟨3, ![8, 131072, 1]⟩

abbrev nBuf : Space → Nat
  | .hbm => 57
  | .vmem => 0
  | .smem => 0
  | _ => 0

abbrev bufTy : (tb : Table) → Fin (tcTables nBuf tb) → BufTy
  | .hbm, ⟨0, _⟩ => ⟨S264, .i32⟩
  | .hbm, ⟨1, _⟩ => ⟨S264, .i32⟩
  | .hbm, ⟨2, _⟩ => ⟨S264, .i32⟩
  | .hbm, ⟨3, _⟩ => ⟨S264, .i32⟩
  | .hbm, ⟨4, _⟩ => ⟨S131072x1024, .bf16⟩
  | .hbm, ⟨5, _⟩ => ⟨S8x1024x2816, .f32⟩
  | .hbm, ⟨6, _⟩ => ⟨S8x1408x1024, .f32⟩
  | .hbm, ⟨7, _⟩ => ⟨S131072, .i32⟩
  | .hbm, ⟨8, _⟩ => ⟨S131072x1, .i32⟩
  | .hbm, ⟨9, _⟩ => ⟨S1x264, .i32⟩
  | .hbm, ⟨10, _⟩ => ⟨S131072x264, .i32⟩
  | .hbm, ⟨11, _⟩ => ⟨S131072x264, .i32⟩
  | .hbm, ⟨12, _⟩ => ⟨S131072x264, .i1⟩
  | .hbm, ⟨13, _⟩ => ⟨S131072x1, .i32⟩
  | .hbm, ⟨14, _⟩ => ⟨S1x264, .i32⟩
  | .hbm, ⟨15, _⟩ => ⟨S131072x264, .i32⟩
  | .hbm, ⟨16, _⟩ => ⟨S131072x264, .i32⟩
  | .hbm, ⟨17, _⟩ => ⟨S131072x264, .i1⟩
  | .hbm, ⟨18, _⟩ => ⟨S131072x264, .i1⟩
  | .hbm, ⟨19, _⟩ => ⟨S8, .i32⟩
  | .hbm, ⟨20, _⟩ => ⟨S8x1, .i32⟩
  | .hbm, ⟨21, _⟩ => ⟨S1x264, .i32⟩
  | .hbm, ⟨22, _⟩ => ⟨S8x264, .i32⟩
  | .hbm, ⟨23, _⟩ => ⟨S8x264, .i32⟩
  | .hbm, ⟨24, _⟩ => ⟨S8x264, .i1⟩
  | .hbm, ⟨25, _⟩ => ⟨S8x1x264, .i1⟩
  | .hbm, ⟨26, _⟩ => ⟨S1x131072x264, .i1⟩
  | .hbm, ⟨27, _⟩ => ⟨S8x131072x264, .i1⟩
  | .hbm, ⟨28, _⟩ => ⟨S8x131072x264, .i1⟩
  | .hbm, ⟨29, _⟩ => ⟨S8x131072x264, .i1⟩
  | .hbm, ⟨30, _⟩ => ⟨S_, .i1⟩
  | .hbm, ⟨31, _⟩ => ⟨S8x131072, .i1⟩
  | .hbm, ⟨32, _⟩ => ⟨S131072x1024, .f32⟩
  | .hbm, ⟨33, _⟩ => ⟨S8x2816x131072, .f32⟩
  | .hbm, ⟨34, _⟩ => ⟨S8x131072x2816, .f32⟩
  | .hbm, ⟨35, _⟩ => ⟨S8x131072x1408, .f32⟩
  | .hbm, ⟨36, _⟩ => ⟨S8x131072x1408, .f32⟩
  | .hbm, ⟨37, _⟩ => ⟨S8x131072x1408, .f32⟩
  | .hbm, ⟨38, _⟩ => ⟨S8x131072x1408, .f32⟩
  | .hbm, ⟨39, _⟩ => ⟨S_, .f32⟩
  | .hbm, ⟨40, _⟩ => ⟨S8x131072x1408, .f32⟩
  | .hbm, ⟨41, _⟩ => ⟨S8x131072x1408, .f32⟩
  | .hbm, ⟨42, _⟩ => ⟨S_, .f32⟩
  | .hbm, ⟨43, _⟩ => ⟨S8x131072x1408, .f32⟩
  | .hbm, ⟨44, _⟩ => ⟨S8x131072x1408, .f32⟩
  | .hbm, ⟨45, _⟩ => ⟨S8x131072x1408, .f32⟩
  | .hbm, ⟨46, _⟩ => ⟨S8x131072x1408, .f32⟩
  | .hbm, ⟨47, _⟩ => ⟨S8x131072x1024, .f32⟩
  | .hbm, ⟨48, _⟩ => ⟨S8x131072x1, .i1⟩
  | .hbm, ⟨49, _⟩ => ⟨S_, .f32⟩
  | .hbm, ⟨50, _⟩ => ⟨S_, .f32⟩
  | .hbm, ⟨51, _⟩ => ⟨S8x131072x1024, .i1⟩
  | .hbm, ⟨52, _⟩ => ⟨S8x131072x1024, .f32⟩
  | .hbm, ⟨53, _⟩ => ⟨S8x131072x1024, .f32⟩
  | .hbm, ⟨54, _⟩ => ⟨S_, .f32⟩
  | .hbm, ⟨55, _⟩ => ⟨S131072x1024, .f32⟩
  | .hbm, ⟨56, _⟩ => ⟨S131072x1024, .bf16⟩
  | _, _ => ⟨S264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_0 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelCombine.lean ====
abbrev S65536x1024 : Shape := ⟨2, ![65536, 1024]⟩
abbrev S65536x128 : Shape := ⟨2, ![65536, 128]⟩
abbrev S32x6x1024 : Shape := ⟨3, ![32, 6, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x6x1024 : Shape := ⟨3, ![1, 6, 1024]⟩
abbrev S1024x1 : Shape := ⟨2, ![1024, 1]⟩
abbrev S1x1x1024 : Shape := ⟨3, ![1, 1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x128, .f32⟩
  | .hbm, ⟨4, _⟩ => ⟨S32x6x1024, .f32⟩
  | .hbm, ⟨5, _⟩ => ⟨S1024, .f32⟩
  | .hbm, ⟨6, _⟩ => ⟨S1x1024, .f32⟩
  | .hbm, ⟨7, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceCombineIdeal.lean ====
abbrev S65536x1024 : Shape := ⟨2, ![65536, 1024]⟩
abbrev S65536x128 : Shape := ⟨2, ![65536, 128]⟩
abbrev S32x6x1024 : Shape := ⟨3, ![32, 6, 1024]⟩
abbrev S1024 : Shape := ⟨1, ![1024]⟩
abbrev S32x2048x1024 : Shape := ⟨3, ![32, 2048, 1024]⟩
abbrev S32x2048x128 : Shape := ⟨3, ![32, 2048, 128]⟩
abbrev S32x1x1024 : Shape := ⟨3, ![32, 1, 1024]⟩
abbrev S32x1024 : Shape := ⟨2, ![32, 1024]⟩
abbrev S32x2048x1 : Shape := ⟨3, ![32, 2048, 1]⟩
abbrev S_ : Shape := ⟨0, ![]⟩
abbrev S32x2048 : Shape := ⟨2, ![32, 2048]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x128, .f32⟩
  | .hbm, ⟨4, _⟩ => ⟨S32x6x1024, .f32⟩
  | .hbm, ⟨5, _⟩ => ⟨S1024, .f32⟩
  | .hbm, ⟨6, _⟩ => ⟨S32x2048x1024, .f32⟩
  | .hbm, ⟨7, _⟩ => ⟨S65536x1024, .f32⟩
  | .hbm, ⟨8, _⟩ => ⟨S32x2048x1024, .f32⟩
  | .hbm, ⟨9, _⟩ => ⟨S65536x1024, .f32⟩
  | .hbm, ⟨10, _⟩ => ⟨S32x2048x1024, .f32⟩
  | .hbm, ⟨11, _⟩ => ⟨S32x2048x128, .f32⟩
  | .hbm, ⟨12, _⟩ => ⟨S32x1x1024, .f32⟩
  | .hbm, ⟨13, _⟩ => ⟨S32x1024, .f32⟩
  | .hbm, ⟨14, _⟩ => ⟨S32x1x1024, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S32x2048x1, .f32⟩
  | .hbm, ⟨36, _⟩ => ⟨S32x2048x1024, .f32⟩
  | .hbm, ⟨37, _⟩ => ⟨S32x2048x1024, .f32⟩
  | .hbm, ⟨38, _⟩ => ⟨S1x1x1024, .f32⟩
  | .hbm, ⟨39, _⟩ => ⟨S32x2048x1024, .f32⟩
  | .hbm, ⟨40, _⟩ => ⟨S32x2048x1024, .f32⟩
  | .hbm, ⟨41, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== KernelRouter.lean ====
abbrev S65536x1024 : Shape := ⟨2, ![65536, 1024]⟩
abbrev S65536x256 : Shape := ⟨2, ![65536, 256]⟩
abbrev S1024 : Shape := ⟨1, ![1024]⟩
abbrev S32x6x1024 : Shape := ⟨3, ![32, 6, 1024]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S65536x128 : Shape := ⟨2, ![65536, 128]⟩
abbrev S8x65536 : Shape := ⟨2, ![8, 65536]⟩
abbrev S1x128 : Shape := ⟨2, ![1, 128]⟩
abbrev S1x6x1024 : Shape := ⟨3, ![1, 6, 1024]⟩
abbrev S1024x256 : Shape := ⟨2, ![1024, 256]⟩
abbrev S8x1024 : Shape := ⟨2, ![8, 1024]⟩
abbrev S256x1024 : Shape := ⟨2, ![256, 1024]⟩
abbrev S1x1x1024 : Shape := ⟨3, ![1, 1, 1024]⟩
abbrev S1024x1 : Shape := ⟨2, ![1024, 1]⟩
abbrev S128 : Shape := ⟨1, ![128]⟩
abbrev S128x1024 : Shape := ⟨2, ![128, 1024]⟩

abbrev nBuf : Space → Nat
  | .hbm => 20
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024, .f32⟩
  | .hbm, ⟨6, _⟩ => ⟨S32x6x1024, .f32⟩
  | .hbm, ⟨7, _⟩ => ⟨S1024x1024, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S1024x1024, .bf16⟩
  | .hbm, ⟨15, _⟩ => ⟨S65536x1024, .f32⟩
  | .hbm, ⟨16, _⟩ => ⟨S65536x1024, .bf16⟩
  | .hbm, ⟨17, _⟩ => ⟨S65536x128, .f32⟩
  | .hbm, ⟨18, _⟩ => ⟨S8x65536, .f32⟩
  | .hbm, ⟨19, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S1024x128, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x128, .f32⟩
  | .local _ .vmem, ⟨20, _⟩ => ⟨S1024x128, .f32⟩
  | .local _ .vmem, ⟨21, _⟩ => ⟨S8x1024, .f32⟩
  | .local _ .vmem, ⟨22, _⟩ => ⟨S8x1024, .f32⟩
  | .local _ .vmem, ⟨23, _⟩ => ⟨S1x128, .f32⟩
  | .local _ .vmem, ⟨24, _⟩ => ⟨S1x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceRouterIdeal.lean ====
abbrev S65536x1024 : Shape := ⟨2, ![65536, 1024]⟩
abbrev S65536x256 : Shape := ⟨2, ![65536, 256]⟩
abbrev S1024 : Shape := ⟨1, ![1024]⟩
abbrev S32x6x1024 : Shape := ⟨3, ![32, 6, 1024]⟩
abbrev S1024x1024 : Shape := ⟨2, ![1024, 1024]⟩
abbrev S1024x8 : Shape := ⟨2, ![1024, 8]⟩
abbrev S32x2048x1024 : Shape := ⟨3, ![32, 2048, 1024]⟩
abbrev S32x1x1024 : Shape := ⟨3, ![32, 1, 1024]⟩
abbrev S32x1024 : Shape := ⟨2, ![32, 1024]⟩
abbrev S32x2048x256 : Shape := ⟨3, ![32, 2048, 256]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024, .f32⟩
  | .hbm, ⟨6, _⟩ => ⟨S32x6x1024, .f32⟩
  | .hbm, ⟨7, _⟩ => ⟨S1024x1024, .f32⟩
  | .hbm, ⟨8, _⟩ => ⟨S1024x8, .f32⟩
  | .hbm, ⟨9, _⟩ => ⟨S32x2048x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1x1024, .f32⟩
  | .hbm, ⟨14, _⟩ => ⟨S32x1024, .f32⟩
  | .hbm, ⟨15, _⟩ => ⟨S32x1x1024, .f32⟩
  | .hbm, ⟨16, _⟩ => ⟨S32x1x1024, .f32⟩
  | .hbm, ⟨17, _⟩ => ⟨S32x1024, .f32⟩
  | .hbm, ⟨18, _⟩ => ⟨S32x1x1024, .f32⟩
  | .hbm, ⟨19, _⟩ => ⟨S65536x256, .f32⟩
  | .hbm, ⟨20, _⟩ => ⟨S32x2048x256, .f32⟩
  | .hbm, ⟨21, _⟩ => ⟨S65536x256, .f32⟩
  | .hbm, ⟨22, _⟩ => ⟨S32x2048x256, .f32⟩
  | .hbm, ⟨23, _⟩ => ⟨S65536x256, .f32⟩
  | .hbm, ⟨24, _⟩ => ⟨S32x2048x256, .f32⟩
  | .hbm, ⟨25, _⟩ => ⟨S65536x256, .f32⟩
  | .hbm, ⟨26, _⟩ => ⟨S32x2048x256, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x2048, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x1x1024, .f32⟩
  | .hbm, ⟨50, _⟩ => ⟨S32x1x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S65536x1024, .f32⟩
  | .hbm, ⟨56, _⟩ => ⟨S32x2048x1024, .bf16⟩
  | .hbm, ⟨57, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.Block.lean ====
/- One query block of the neighbourhood attention, written once: what the body stores for 256 queries, four heads of
   64 lanes, 768 window keys and 256 context keys. The body's eight stores are this function at eight windows. -/
module

public import proofs.«01_k».proof.Proof.Gen.KernelIdeal.Value

@[expose] public section

noncomputable section

namespace Cert.Proof

open Idealize.ShloMosaic Idealize.SL.Sem Cert.KernelIdeal Cert.KernelIdeal.Gen Idealize.ShloMosaic.TcCoe

variable {F : FTy → Type} [FloatOps F]

/-- The lanes `lo ≤ lane < hi`: one head's. -/
def laneMask (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- A lane mask on every row. -/
def rowsMask (m : IVec S1x256 1) : IVec S256x256 1 :=
  broadcastTo S256x256 (shapeCast S1x256 m shapeCasts_S1x256_S1x256) broadcasts_S1x256_S256x256

/-- The queries, scaled by 1/8. -/
def scaledQ (q : FVec F S256x256 .bf16) : FVec F S256x256 .bf16 :=
  mulf q (broadcast S256x256 (Scalar.ofBits .bf16 0x3E00#16))

/-- One head's queries: the other heads' lanes zeroed. -/
def headQ (m : IVec S1x256 1) (q : FVec F S256x256 .bf16) : FVec F S256x256 .bf16 :=
  select (rowsMask m) (scaledQ q)
    (broadcast S256x256 (Scalar.truncf .bf16 bitsLt_bf16_f32 (Scalar.ofBits .f32 0x00000000#32)))

/-- The window scores, biased. -/
def winScore (qh : FVec F S256x256 .bf16) (k : FVec F S768x256 .bf16) (b : FVec F S1x1x256x768 .f32) :
    FVec F S256x768 .f32 :=
  addf (matmul dot_S256x256_S768x256_S256x768_1_1_0_0_n_n none qh k (constant S256x768 .f32 0x00000000#32))
    (shapeCast S256x768 b shapeCasts_S1x1x256x768_S256x768)

/-- The context scores. -/
def ctxScore (qh k : FVec F S256x256 .bf16) : FVec F S256x256 .f32 :=
  matmul dot_S256x256_S256x256_S256x256_1_1_0_0_n_n none qh k (constant S256x256 .f32 0x00000000#32)

/-- Each query's largest score. -/
def topScore (s : FVec F S256x768 .f32) (c : FVec F S256x256 .f32) : FVec F S256x1 .f32 :=
  maximumf
    (shapeCast S256x1 (multiReduction .maximumf [1] S256 s 0xFF800000#32 reduces_S256x768_S256 (.inl rfl) rfl)
      shapeCasts_S256_S256x1)
    (shapeCast S256x1 (multiReduction .maximumf [1] S256 c 0xFF800000#32 reduces_S256x256_S256 (.inl rfl) rfl)
      shapeCasts_S256_S256x1)

/-- The window weights: exponentials of the scores less the largest. -/
def winWeight (s : FVec F S256x768 .f32) (mx : FVec F S256x1 .f32) : FVec F S256x768 .f32 :=
  exp (subf s (broadcastTo S256x768 mx broadcasts_S256x1_S256x768))

/-- The context weights. -/
def ctxWeight (c : FVec F S256x256 .f32) (mx : FVec F S256x1 .f32) : FVec F S256x256 .f32 :=
  exp (subf c (broadcastTo S256x256 mx broadcasts_S256x1_S256x256))

/-- Each query's sum of weights. -/
def weightSum (pw : FVec F S256x768 .f32) (pc : FVec F S256x256 .f32) : FVec F S256x1 .f32 :=
  addf
    (addf (broadcast S256x1 (Scalar.ofBits .f32 0x00000000#32))
      (shapeCast S256x1 (multiReduction .add [1] S256 pw 0x00000000#32 reduces_S256x768_S256 (.inl rfl) rfl)
        shapeCasts_S256_S256x1))
    (shapeCast S256x1 (multiReduction .add [1] S256 pc 0x00000000#32 reduces_S256x256_S256 (.inl rfl) rfl)
      shapeCasts_S256_S256x1)

/-- The weighted values over the sum of weights, on one head's lanes. -/
def headMix (m : IVec S1x256 1) (pw : FVec F S256x768 .f32) (pc : FVec F S256x256 .f32) (v : FVec F S768x256 .bf16)
    (vc : FVec F S256x256 .bf16) : FVec F S256x256 .f32 :=
  select (rowsMask m)
    (divf
      (addf
        (addf (broadcast S256x256 (Scalar.ofBits .f32 0x00000000#32))
          (matmul dot_S256x768_S768x256_S256x256_1_0_0_1_n_n none (truncf .bf16 pw bitsLt_bf16_f32) v
            (constant S256x256 .f32 0x00000000#32)))
        (matmul dot_S256x256_S256x256_S256x256_1_0_0_1_n_n none (truncf .bf16 pc bitsLt_bf16_f32) vc
          (constant S256x256 .f32 0x00000000#32)))
      (broadcastTo S256x256 (weightSum pw pc) broadcasts_S256x1_S256x256))
    (broadcast S256x256 (Scalar.ofBits .f32 0x00000000#32))

/-- One head's attention from its scores. -/
def headOfScores (m : IVec S1x256 1) (s : FVec F S256x768 .f32) (c : FVec F S256x256 .f32) (v : FVec F S768x256 .bf16)
    (vc : FVec F S256x256 .bf16) : FVec F S256x256 .f32 :=
  headMix m (winWeight s (topScore s c)) (ctxWeight c (topScore s c)) v vc

/-- One head's attention. -/
def headOut (m : IVec S1x256 1) (q : FVec F S256x256 .bf16) (k v : FVec F S768x256 .bf16) (kc vc : FVec F S256x256 .bf16)
    (b : FVec F S1x1x256x768 .f32) : FVec F S256x256 .f32 :=
  headOfScores m (winScore (headQ m q) k b) (ctxScore (headQ m q) kc) v vc

/-- One query block: the four heads side by side. -/
def blockOut (q : FVec F S256x256 .bf16) (k v : FVec F S768x256 .bf16) (kc vc : FVec F S256x256 .bf16)
    (b0 b1 b2 b3 : FVec F S1x1x256x768 .f32) : FVec F S256x256 .bf16 :=
  truncf .bf16
    (addf (addf (addf (addf (broadcast S256x256 (Scalar.ofBits .f32 0x00000000#32))
      (headOut (laneMask 0#32 64#32) q k v kc vc b0))
      (headOut (laneMask 64#32 128#32) q k v kc vc b1))
      (headOut (laneMask 128#32 192#32) q k v kc vc b2))
      (headOut (laneMask 192#32 256#32) q k v kc vc b3))
    bitsLt_bf16_f32

/-- Block `o`'s store: queries at row `o`, window keys and values at row `t`, the bias of pattern `p`. -/
def blockPay (o t p : ℕ) (ho : ∀ a, (![o, 0] : Fin 2 → ℕ) a + S256x256.size a ≤ S2048x256.size a)
    (ht : ∀ a, (![t, 0] : Fin 2 → ℕ) a + S768x256.size a ≤ S2048x256.size a)
    (hp : ∀ h : Fin 4, ∀ a, (![p, h.val, 0, 0] : Fin 4 → ℕ) a + S1x1x256x768.size a ≤ S3x4x256x768.size a)
    (x0 x1 x2 : Vec F S2048x256 .bf16) (x3 x4 : Vec F S256x256 .bf16) (x5 : Vec F S3x4x256x768 .f32) :
    Vec F S256x256 .bf16 :=
  let b (h : Fin 4) : Vec F S1x1x256x768 .f32 := View.ld x5 (Rect.unit ![p, h.val, 0, 0] S1x1x256x768.size (hp h))
  let q : Vec F S256x256 .bf16 := View.ld x0 (Rect.unit ![o, 0] S256x256.size ho)
  let k : Vec F S768x256 .bf16 := View.ld x1 (Rect.unit ![t, 0] S768x256.size ht)
  let v : Vec F S768x256 .bf16 := View.ld x2 (Rect.unit ![t, 0] S768x256.size ht)
  let kc : Vec F S256x256 .bf16 := View.ld x3 (Rect.unit ![0, 0] S256x256.size inb_S256x256_S256x256_0_0)
  let vc : Vec F S256x256 .bf16 := View.ld x4 (Rect.unit ![0, 0] S256x256.size inb_S256x256_S256x256_0_0)
  blockOut (F := F) q k v kc vc (b 0) (b 1) (b 2) (b 3)

end Cert.Proof

end
-- ==== Proof.Pieces.lean ====
/- The body's eight stores at a grid point: one block of 256 queries each, with its window's first row and pattern. -/
module
public import proofs.«01_k».proof.Proof.Block
@[expose] public section
noncomputable section
namespace Cert.Proof
open Idealize.ShloMosaic Idealize.SL.Sem Cert.KernelIdeal Cert.KernelIdeal.Gen Idealize.ShloMosaic.TcCoe

variable {F : FTy → Type} [FloatOps F]

/-- The pieces. -/
def pieces (x0 x1 x2 : Vec F S2048x256 .bf16) (x3 x4 : Vec F S256x256 .bf16) (x5 : Vec F S3x4x256x768 .f32) :
    List (View.Piece (Elt F) S2048x256 .bf16) :=
  [⟨Rect.unit ![1792, 0] S256x256.size (by decide), blockPay 1792 1280 2 (by decide) (by decide) (by decide) x0 x1 x2 x3 x4 x5⟩,
   ⟨Rect.unit ![1536, 0] S256x256.size (by decide), blockPay 1536 1280 1 (by decide) (by decide) (by decide) x0 x1 x2 x3 x4 x5⟩,
   ⟨Rect.unit ![1280, 0] S256x256.size (by decide), blockPay 1280 1024 1 (by decide) (by decide) (by decide) x0 x1 x2 x3 x4 x5⟩,
   ⟨Rect.unit ![1024, 0] S256x256.size (by decide), blockPay 1024 768 1 (by decide) (by decide) (by decide) x0 x1 x2 x3 x4 x5⟩,
   ⟨Rect.unit ![768, 0] S256x256.size (by decide), blockPay 768 512 1 (by decide) (by decide) (by decide) x0 x1 x2 x3 x4 x5⟩,
   ⟨Rect.unit ![512, 0] S256x256.size (by decide), blockPay 512 256 1 (by decide) (by decide) (by decide) x0 x1 x2 x3 x4 x5⟩,
   ⟨Rect.unit ![256, 0] S256x256.size (by decide), blockPay 256 0 1 (by decide) (by decide) (by decide) x0 x1 x2 x3 x4 x5⟩,
   ⟨Rect.unit ![0, 0] S256x256.size (by decide), blockPay 0 0 0 (by decide) (by decide) (by decide) x0 x1 x2 x3 x4 x5⟩]

/-- The grid's points: its second axis has one. -/
def pointOf (b : Fin 32) : grid0.Coords := Fin.cons b (Fin.cons (0 : Fin 1) finZeroElim)

theorem eq_pointOf (i : grid0.Coords) : i = pointOf (i 0) := by
  funext a
  refine Fin.cases rfl (fun a => Fin.cases ?_ (fun a => a.elim0) a) a
  exact Subsingleton.elim (α := Fin 1) _ _

theorem coord1 (b : Fin 32) : ((pointOf b) 1 : ℕ) = 0 := rfl

/-- The window's first row, as the body computes it. -/
abbrev startWord (s : BitVec 32) : ℕ :=
  BitVec.toNat (Scalar.indexCast (Scalar.muli (Scalar.minsi (20#32) (Scalar.maxsi (0#32)
    (Scalar.subi (Scalar.muli (Scalar.addi (Scalar.muli (BitVec.ofNat 32 0) 8#32) s) 4#32) 4#32))) 64#32))

/-- The bias pattern, as the body computes it. -/
abbrev patWord (s : BitVec 32) : ℕ :=
  BitVec.toNat (Scalar.indexCast (Scalar.select
    (Scalar.cmpi CmpIPredicate.eq (Scalar.addi (Scalar.muli (BitVec.ofNat 32 0) 8#32) s) 0#32) (0#32)
    (Scalar.select (Scalar.cmpi CmpIPredicate.eq (Scalar.addi (Scalar.muli (BitVec.ofNat 32 0) 8#32) s) 7#32) 2#32 1#32)))

theorem start0 : startWord 0#32 = 0 := rfl
theorem pat0 : patWord 0#32 = 0 := rfl
theorem start1 : startWord 1#32 = 0 := rfl
theorem pat1 : patWord 1#32 = 1 := rfl
theorem start2 : startWord 2#32 = 256 := rfl
theorem pat2 : patWord 2#32 = 1 := rfl
theorem start3 : startWord 3#32 = 512 := rfl
theorem pat3 : patWord 3#32 = 1 := rfl
theorem start4 : startWord 4#32 = 768 := rfl
theorem pat4 : patWord 4#32 = 1 := rfl
theorem start5 : startWord 5#32 = 1024 := rfl
theorem pat5 : patWord 5#32 = 1 := rfl
theorem start6 : startWord 6#32 = 1280 := rfl
theorem pat6 : patWord 6#32 = 1 := rfl
theorem start7 : startWord 7#32 = 1280 := rfl
theorem pat7 : patWord 7#32 = 2 := rfl

set_option maxHeartbeats 4000000 in
/-- The body's eight stores, last first. -/
theorem pieces_eq (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S3x4x256x768 .f32) (harg7 : arg7.IsWhole) (arg8 : Memref sig .tc .vmem S2048x256 .bf16) (harg8 : arg8.IsWhole)
    (x0 : Vec F S2048x256 .bf16) (x1 : Vec F S2048x256 .bf16) (x2 : Vec F S2048x256 .bf16) (x3 : Vec F S256x256 .bf16) (x4 : Vec F S256x256 .bf16) (x5 : Vec F S3x4x256x768 .f32) :
  (kernelRun0_A c i arg2 harg2 arg3 harg3 arg4 harg4 arg5 harg5 arg6 harg6 arg7 harg7 arg8 harg8 x0 x1 x2 x3 x4 x5).1 = pieces x0 x1 x2 x3 x4 x5 := by
  obtain ⟨b, rfl⟩ : ∃ b, i = pointOf b := ⟨i 0, eq_pointOf i⟩
  unfold kernelRun0_A
  dsimp only
  sl_unfold_words
  simp only [View.readAt_eq_ld, harg2.read_unread, harg3.read_unread, harg4.read_unread, harg5.read_unread, harg6.read_unread, harg7.read_unread]
  dsimp only [coord1]
  dsimp only [start0, start1, start2, start3, start4, start5, start6, start7, pat0, pat1, pat2, pat3, pat4, pat5, pat6, pat7]
  unfold pieces
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

end Cert.Proof
end
-- ==== Proof.Mix.lean ====
/- Softmax as a ratio of sums. Scores are extended reals, ⊥ where a key is masked; subtracting any finite number from
   every score changes nothing, so two computations that subtract different maxima agree. -/
module

public import Idealize.ShloMosaic.PureOps.Ideal

@[expose] public section

noncomputable section

namespace Cert.Proof

open Idealize.ShloMosaic

/-- A score's weight: its exponential, 0 for a masked one. -/
def wt (x : EReal) : ℝ := if x = ⊥ then 0 else Real.exp x.toReal

theorem wt_nonneg (x : EReal) : 0 ≤ wt x := by
  unfold wt; split
  · exact le_rfl
  · exact (Real.exp_pos _).le

theorem wt_coe (x : ℝ) : wt x = Real.exp x := by simp [wt]

theorem wt_bot : wt ⊥ = 0 := by simp [wt]

/-- The mean of `v` by the scores' weights. -/
def mix {ι : Type} [Fintype ι] (s : ι → EReal) (v : ι → ℝ) : ℝ := (∑ i, wt (s i) * v i) / ∑ i, wt (s i)

theorem exp_sub_coe {s : EReal} (hs : s ≠ ⊤) (m : ℝ) : Ideal.exp (s - m) = ((wt s * Real.exp (-m) : ℝ) : EReal) := by
  induction s with
  | bot => rw [EReal.bot_sub, Ideal.exp_bot]; simp [wt_bot]
  | top => exact absurd rfl hs
  | coe x =>
    rw [← EReal.coe_sub, wt_coe, ← Real.exp_add, ← sub_eq_add_neg]
    rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weighted values over the sum of the weights, two sets of keys. -/
theorem mix_of_two {ι κ : Type} [Fintype ι] [Fintype κ] (s : ι → EReal) (c : κ → EReal) (v : ι → ℝ) (w : κ → ℝ)
    (hs : ∀ i, s i ≠ ⊤) (hc : ∀ j, c j ≠ ⊤) (hpos : 0 < ∑ i, wt (s i) + ∑ j, wt (c j)) (m : ℝ) :
    Ideal.div (∑ i, Ideal.exp (s i - m) * (v i : EReal) + ∑ j, Ideal.exp (c j - m) * (w j : EReal))
        (∑ i, Ideal.exp (s i - m) + ∑ j, Ideal.exp (c j - m))
      = (mix (Sum.elim s c) (Sum.elim v w) : ℝ) := by
  simp only [fun i => exp_sub_coe (hs i) m, fun j => exp_sub_coe (hc j) m, ← EReal.coe_mul, ← coe_sum, ← EReal.coe_add]
  have e := Real.exp_pos (-m)
  have hd : (∑ i, wt (s i) * Real.exp (-m) + ∑ j, wt (c j) * Real.exp (-m))
      = (∑ i, wt (s i) + ∑ j, wt (c j)) * Real.exp (-m) := by rw [add_mul, Finset.sum_mul, Finset.sum_mul]
  have hn : (∑ i, wt (s i) * Real.exp (-m) * v i + ∑ j, wt (c j) * Real.exp (-m) * w j)
      = (∑ i, wt (s i) * v i + ∑ j, wt (c j) * w j) * Real.exp (-m) := by
    rw [add_mul, Finset.sum_mul, Finset.sum_mul]
    congr 1 <;> exact Finset.sum_congr rfl fun _ _ => by ring
  rw [hd, hn, Ideal.div_coe (mul_pos hpos e).ne', ← EReal.coe_mul]
  congr 1
  simp only [mix, Fintype.sum_sum_type, Sum.elim_inl, Sum.elim_inr]
  field_simp

/-- Values weighted by the normalised weights. -/
theorem mix_of_softmax {ι : Type} [Fintype ι] (s : ι → EReal) (v : ι → ℝ) (hs : ∀ i, s i ≠ ⊤)
    (hpos : 0 < ∑ i, wt (s i)) (m : ℝ) :
    ∑ i, Ideal.div (Ideal.exp (s i - m)) (∑ j, Ideal.exp (s j - m)) * (v i : EReal) = (mix s v : ℝ) := by
  have e := Real.exp_pos (-m)
  simp only [fun i => exp_sub_coe (hs i) m, ← coe_sum, ← Finset.sum_mul]
  simp only [Ideal.div_coe (mul_pos hpos e).ne', ← EReal.coe_mul, ← coe_sum]
  congr 1
  rw [mix, Finset.sum_div]
  exact Finset.sum_congr rfl fun i _ => by field_simp

/-- Masked keys count for nothing: the mean over all of `N` keys is the mean over a window of them. -/
theorem sum_window {N n o : ℕ} (h : o + n ≤ N) (f : Fin N → ℝ)
    (hf : ∀ t : Fin N, ¬ (o ≤ t.val ∧ t.val < o + n) → f t = 0) :
    ∑ t, f t = ∑ u : Fin n, f ⟨o + u.val, by omega⟩ := by
  symm
  refine Finset.sum_of_injOn (fun u : Fin n => (⟨o + u.val, by omega⟩ : Fin N)) ?_ ?_ ?_ ?_
  · intro a _ b _ hab
    have := congrArg Fin.val hab
    exact Fin.ext (by simpa using this)
  · intro _ _; simp
  · intro t _ ht
    refine hf t fun ⟨h1, h2⟩ => ht ?_
    exact ⟨⟨t.val - o, by omega⟩, by simp, Fin.ext (by simp; omega)⟩
  · intro _ _; rfl

theorem mix_window {N n o : ℕ} {κ : Type} [Fintype κ] (h : o + n ≤ N) (s : Fin N → EReal) (s' : Fin n → EReal)
    (c c' : κ → EReal) (v : Fin N → ℝ) (v' : Fin n → ℝ) (w w' : κ → ℝ)
    (hout : ∀ t : Fin N, ¬ (o ≤ t.val ∧ t.val < o + n) → s t = ⊥)
    (hin : ∀ u : Fin n, s ⟨o + u.val, by omega⟩ = s' u) (hv : ∀ u : Fin n, v ⟨o + u.val, by omega⟩ = v' u)
    (hc : ∀ j, c j = c' j) (hw : ∀ j, w j = w' j) :
    mix (Sum.elim s c) (Sum.elim v w) = mix (Sum.elim s' c') (Sum.elim v' w') := by
  obtain rfl : c = c' := funext hc
  obtain rfl : w = w' := funext hw
  simp only [mix, Fintype.sum_sum_type, Sum.elim_inl, Sum.elim_inr]
  rw [sum_window h (fun t => wt (s t) * v t) (fun t ht => by simp [hout t ht, wt_bot]),
    sum_window h (fun t => wt (s t)) (fun t ht => by simp [hout t ht, wt_bot])]
  simp only [hin, hv]

/-- The largest of finitely many scores, one at least a number and none ⊤, is a number. -/
theorem fold_max_coe {ι : Type} (S : Finset ι) (b : EReal) (f : ι → EReal) (hb : b ≠ ⊤) (hf : ∀ i ∈ S, f i ≠ ⊤) :
    S.fold max b f ≠ ⊤ := by
  rw [← lt_top_iff_ne_top, Finset.fold_max_lt]
  exact ⟨hb.lt_top, fun i hi => (hf i hi).lt_top⟩

theorem fold_max_ne_bot {ι : Type} (S : Finset ι) (b : EReal) (f : ι → EReal) (i : ι) (hi : i ∈ S) (hf : f i ≠ ⊥) :
    S.fold max b f ≠ ⊥ := by
  rw [← bot_lt_iff_ne_bot, Finset.lt_fold_max]
  exact .inr ⟨i, hi, hf.bot_lt⟩

theorem exists_coe {x : EReal} (h : x ≠ ⊤) (h' : x ≠ ⊥) : ∃ m : ℝ, x = m := ⟨x.toReal, (EReal.coe_toReal h h').symm⟩

end Cert.Proof

end
-- ==== Proof.BlockValue.lean ====
/- One query block at the extended reals: where queries, keys and values are numbers, row `r`, lane `l` is the mean of
   the values' lane `l` by the softmax of head `l / 64`'s scores, over the window's keys and the context's. -/
module

public import proofs.«01_k».proof.Proof.Block
public import proofs.«01_k».proof.Proof.Mix
public import Idealize.ShloMosaic.Lib.Pointwise

@[expose] public section

noncomputable section

namespace Cert.Proof

open Idealize.ShloMosaic Idealize.SL.Sem Cert.KernelIdeal Cert.KernelIdeal.Gen Idealize.ShloMosaic.TcCoe

/-- The product of two rows over one head's 64 lanes. -/
def dotHead (h : Fin 4) (a b : Fin 256 → ℝ) : ℝ := ∑ d : Fin 64, a ⟨64 * h + d, by omega⟩ * b ⟨64 * h + d, by omega⟩

theorem sum_lanes (h : Fin 4) (f : Fin 256 → ℝ) :
    ∑ x : Fin 256, (if 64 * h.val ≤ x.val ∧ x.val < 64 * h.val + 64 then f x else 0)
      = ∑ d : Fin 64, f ⟨64 * h + d, by omega⟩ := by
  rw [sum_window (N := 256) (n := 64) (o := 64 * h.val) (by omega)]
  · exact Finset.sum_congr rfl fun d _ => by rw [if_pos (by constructor <;> simp)]
  · intro t ht; rw [if_neg ht]

theorem eighth : Ideal.ofBits FTy.bf16 15872#16 = ((1 / 8 : ℝ) : EReal) := by
  simp [Ideal.ofBits, Ideal.ieee, -EReal.coe_mul]; norm_num

theorem neg_inf : Ideal.ofBits FTy.f32 4286578688#32 = ⊥ := by
  simp [Ideal.ofBits, Ideal.ieee]

/-- A head's lane mask at a lane. -/
theorem laneMask_word (h : Fin 4) (x : Fin 256) :
    IntOp.andi (IntOp.cmpi CmpIPredicate.sge (BitVec.ofNat 32 x.val) (BitVec.ofNat 32 (64 * h.val)))
        (IntOp.cmpi CmpIPredicate.slt (BitVec.ofNat 32 x.val) (BitVec.ofNat 32 (64 * h.val + 64)))
      = if 64 * h.val ≤ x.val ∧ x.val < 64 * h.val + 64 then 1#1 else 0#1 := by
  revert h x; decide +kernel

/-- Head `h`'s mask. -/
abbrev hmask (h : Fin 4) : IVec S1x256 1 := laneMask (BitVec.ofNat 32 (64 * h.val)) (BitVec.ofNat 32 (64 * h.val + 64))

theorem hmask_apply (h : Fin 4) (x : Fin 256) :
    hmask h (ix2 0 x) = if 64 * h.val ≤ x.val ∧ x.val < 64 * h.val + 64 then 1#1 else 0#1 := by
  unfold hmask laneMask
  pointwise
  exact laneMask_word h x

section
variable {q : FVec Ideal S256x256 .bf16} {k v : FVec Ideal S768x256 .bf16} {kc vc : FVec Ideal S256x256 .bf16}
  {Q : Fin 256 → Fin 256 → ℝ} {K V : Fin 768 → Fin 256 → ℝ} {KC VC : Fin 256 → Fin 256 → ℝ}

theorem headQ_apply (hq : ∀ r x, q (ix2 r x) = (Q r x : EReal)) (h : Fin 4) (r x : Fin 256) :
    headQ (hmask h) q (ix2 r x)
      = ((if 64 * h.val ≤ x.val ∧ x.val < 64 * h.val + 64 then Q r x * (1 / 8) else 0 : ℝ) : EReal) := by
  unfold headQ rowsMask scaledQ
  pointwise [hmask_apply, hq, eighth]
  split <;> simp [Scalar.select]

/-- One head's scores of the window's keys. -/
def winS (h : Fin 4) (Qr : Fin 256 → ℝ) (Kt : Fin 256 → ℝ) (b : EReal) : EReal :=
  ((dotHead h Qr Kt * (1 / 8) : ℝ) : EReal) + b

theorem sum_head (h : Fin 4) (Qr Kt : Fin 256 → ℝ) :
    (∑ x : Fin 256, ((if 64 * h.val ≤ x.val ∧ x.val < 64 * h.val + 64 then Qr x * (1 / 8) else 0 : ℝ) : EReal) * (Kt x : EReal))
      = ((dotHead h Qr Kt * (1 / 8) : ℝ) : EReal) := by
  simp only [← EReal.coe_mul, ← coe_sum]
  congr 1
  rw [dotHead, Finset.sum_mul, ← sum_lanes h (fun x => Qr x * Kt x * (1 / 8))]
  refine Finset.sum_congr rfl fun x _ => ?_
  split
  · ring
  · simp

theorem winScore_apply (hq : ∀ r x, q (ix2 r x) = (Q r x : EReal)) (hk : ∀ t x, k (ix2 t x) = (K t x : EReal))
    (b : FVec Ideal S1x1x256x768 .f32) (h : Fin 4) (r : Fin 256) (t : Fin 768) :
    winScore (headQ (hmask h) q) k b (ix2 r t) = winS h (Q r) (K t) (b (ix4 0 0 r t)) := by
  unfold winScore winS
  pointwise
  simp only [headQ_apply hq, hk, sum_head]

theorem ctxScore_apply (hq : ∀ r x, q (ix2 r x) = (Q r x : EReal)) (hk : ∀ t x, kc (ix2 t x) = (KC t x : EReal))
    (h : Fin 4) (r t : Fin 256) :
    ctxScore (headQ (hmask h) q) kc (ix2 r t) = ((dotHead h (Q r) (KC t) * (1 / 8) : ℝ) : EReal) := by
  unfold ctxScore
  pointwise
  simp only [headQ_apply hq, hk, sum_head]

/-- A head's attention from any finite scores. -/
theorem headOfScores_apply (hv : ∀ t x, v (ix2 t x) = (V t x : EReal)) (hw : ∀ t x, vc (ix2 t x) = (VC t x : EReal))
    (m : IVec S1x256 1) (s : FVec Ideal S256x768 .f32) (c : FVec Ideal S256x256 .f32) (r l : Fin 256)
    (hs : ∀ t, s (ix2 r t) ≠ ⊤) (hc : ∀ t, ∃ y : ℝ, c (ix2 r t) = y) :
    headOfScores m s c v vc (ix2 r l)
      = if m (ix2 0 l) = 1#1 then
          ((mix (Sum.elim (fun t => s (ix2 r t)) (fun t => c (ix2 r t))) (Sum.elim (fun t => V t l) (fun t => VC t l)) : ℝ) : EReal)
        else 0 := by
  have hc' : ∀ t, c (ix2 r t) ≠ ⊤ := fun t => by obtain ⟨y, hy⟩ := hc t; rw [hy]; exact EReal.coe_ne_top y
  have htop : ∃ y : ℝ, topScore s c (ix2 r 0) = y := by
    unfold topScore
    pointwise [neg_inf]
    refine exists_coe ?_ ?_
    · rw [← lt_top_iff_ne_top, max_lt_iff, lt_top_iff_ne_top, lt_top_iff_ne_top]
      exact ⟨fold_max_coe _ _ _ (by simp) fun t _ => hs t, fold_max_coe _ _ _ (by simp) fun t _ => hc' t⟩
    · rw [← bot_lt_iff_ne_bot, lt_max_iff]
      refine .inr ?_
      rw [bot_lt_iff_ne_bot]
      obtain ⟨y, hy⟩ := hc 0
      exact fold_max_ne_bot _ _ _ 0 (Finset.mem_univ _) (by rw [hy]; exact EReal.coe_ne_bot y)
  obtain ⟨y, hy⟩ := htop
  have hpos : 0 < ∑ t, wt (s (ix2 r t)) + ∑ t, wt (c (ix2 r t)) := by
    refine add_pos_of_nonneg_of_pos (Finset.sum_nonneg fun _ _ => wt_nonneg _) ?_
    refine Finset.sum_pos (fun t _ => ?_) ⟨0, Finset.mem_univ _⟩
    obtain ⟨z, hz⟩ := hc t
    rw [hz, wt_coe]; exact Real.exp_pos z
  unfold headOfScores headMix winWeight ctxWeight rowsMask weightSum
  pointwise
  simp only [hy, hv, hw]
  rw [mix_of_two _ _ _ _ hs hc' hpos]
  rfl

/-- One head's attention at an index: 0 off its lanes. -/
theorem headOut_apply (hq : ∀ r x, q (ix2 r x) = (Q r x : EReal)) (hk : ∀ t x, k (ix2 t x) = (K t x : EReal))
    (hv : ∀ t x, v (ix2 t x) = (V t x : EReal)) (hkc : ∀ t x, kc (ix2 t x) = (KC t x : EReal))
    (hvc : ∀ t x, vc (ix2 t x) = (VC t x : EReal)) (b : FVec Ideal S1x1x256x768 .f32) (h : Fin 4) (r l : Fin 256)
    (hb : ∀ t, b (ix4 0 0 r t) ≠ ⊤) :
    headOut (hmask h) q k v kc vc b (ix2 r l)
      = if 64 * h.val ≤ l.val ∧ l.val < 64 * h.val + 64 then
          ((mix (Sum.elim (fun t => winS h (Q r) (K t) (b (ix4 0 0 r t)))
            (fun t => ((dotHead h (Q r) (KC t) * (1 / 8) : ℝ) : EReal)))
            (Sum.elim (fun t => V t l) (fun t => VC t l)) : ℝ) : EReal)
        else 0 := by
  unfold headOut
  rw [headOfScores_apply hv hvc _ _ _ r l, hmask_apply]
  · simp only [winScore_apply hq hk, ctxScore_apply hq hkc]
    by_cases hl : 64 * h.val ≤ l.val ∧ l.val < 64 * h.val + 64 <;> simp [hl]
  · intro t
    rw [winScore_apply hq hk, winS]
    exact (EReal.add_lt_top (EReal.coe_ne_top _) (hb t)).ne
  · exact fun t => ⟨_, ctxScore_apply hq hkc h r t⟩

/-- The head that owns a lane. -/
def headOf (l : Fin 256) : Fin 4 := ⟨l.val / 64, by omega⟩

/-- A query block at an index. -/
theorem blockOut_apply (hq : ∀ r x, q (ix2 r x) = (Q r x : EReal)) (hk : ∀ t x, k (ix2 t x) = (K t x : EReal))
    (hv : ∀ t x, v (ix2 t x) = (V t x : EReal)) (hkc : ∀ t x, kc (ix2 t x) = (KC t x : EReal))
    (hvc : ∀ t x, vc (ix2 t x) = (VC t x : EReal)) (b : Fin 4 → FVec Ideal S1x1x256x768 .f32) (r l : Fin 256)
    (hb : ∀ h t, b h (ix4 0 0 r t) ≠ ⊤) :
    blockOut q k v kc vc (b 0) (b 1) (b 2) (b 3) (ix2 r l)
      = ((mix (Sum.elim (fun t => winS (headOf l) (Q r) (K t) (b (headOf l) (ix4 0 0 r t)))
            (fun t => ((dotHead (headOf l) (Q r) (KC t) * (1 / 8) : ℝ) : EReal)))
            (Sum.elim (fun t => V t l) (fun t => VC t l)) : ℝ) : EReal) := by
  have H := fun h => headOut_apply hq hk hv hkc hvc (b h) h r l (hb h)
  unfold blockOut
  pointwise
  have h0 := H 0; have h1 := H 1; have h2 := H 2; have h3 := H 3
  unfold hmask at h0 h1 h2 h3
  rw [show (BitVec.ofNat 32 (64 * (0 : Fin 4).val)) = 0#32 from rfl, show (BitVec.ofNat 32 (64 * (0 : Fin 4).val + 64)) = 64#32 from rfl] at h0
  rw [show (BitVec.ofNat 32 (64 * (1 : Fin 4).val)) = 64#32 from rfl, show (BitVec.ofNat 32 (64 * (1 : Fin 4).val + 64)) = 128#32 from rfl] at h1
  rw [show (BitVec.ofNat 32 (64 * (2 : Fin 4).val)) = 128#32 from rfl, show (BitVec.ofNat 32 (64 * (2 : Fin 4).val + 64)) = 192#32 from rfl] at h2
  rw [show (BitVec.ofNat 32 (64 * (3 : Fin 4).val)) = 192#32 from rfl, show (BitVec.ofNat 32 (64 * (3 : Fin 4).val + 64)) = 256#32 from rfl] at h3
  rw [h0, h1, h2, h3]
  have hl : headOf l = 0 ∨ headOf l = 1 ∨ headOf l = 2 ∨ headOf l = 3 := by
    generalize headOf l = x; revert x; decide
  have hd : (headOf l).val = l.val / 64 := rfl
  rcases hl with e | e | e | e <;> rw [e] at hd ⊢
  · rw [if_pos (by simp at hd ⊢; omega), if_neg (by simp at hd ⊢; omega), if_neg (by simp at hd ⊢; omega), if_neg (by simp at hd ⊢; omega)]; simp
  · rw [if_neg (by simp at hd ⊢; omega), if_pos (by simp at hd ⊢; omega), if_neg (by simp at hd ⊢; omega), if_neg (by simp at hd ⊢; omega)]; simp
  · rw [if_neg (by simp at hd ⊢; omega), if_neg (by simp at hd ⊢; omega), if_pos (by simp at hd ⊢; omega), if_neg (by simp at hd ⊢; omega)]; simp
  · rw [if_neg (by simp at hd ⊢; omega), if_neg (by simp at hd ⊢; omega), if_neg (by simp at hd ⊢; omega), if_pos (by simp at hd ⊢; omega)]; simp
end

end Cert.Proof

end
-- ==== Proof.Words.lean ====
/- The two programs' constant tables agree: which rows and columns a query sees, and the differences that index the bias. -/
module

public import proofs.«01_k».proof.KernelIdeal
public import proofs.«01_k».proof.ReferenceIdeal
public import Idealize.ShloMosaic.Lib.Pointwise

@[expose] public section

noncomputable section

namespace Cert.Proof

open Idealize.ShloMosaic

/-- Row difference of the kernel's pattern `p`, query row `a` of four, key row `b` of twelve. -/
theorem kerRow_le : ∀ n : Fin 144, IntOp.cmpi CmpIPredicate.slt (Cert.KernelIdeal.lit3 n) 0#32 = 0#1
    ∧ IntOp.cmpi CmpIPredicate.sge (Cert.KernelIdeal.lit3 n) 0#32 = 1#1
    ∧ IntOp.cmpi CmpIPredicate.sle (Cert.KernelIdeal.lit3 n) 14#32 = 1#1 := by decide +kernel

/-- A column difference is below 31. -/
theorem kerCol_lt : ∀ n : Fin 4096, Cert.KernelIdeal.lit0 n = BitVec.ofNat 32 (min (Cert.KernelIdeal.lit0 n).toInt.toNat 30) := by
  decide +kernel

theorem col_eq : ∀ n : Fin 4096, Cert.KernelIdeal.lit0 n = Cert.ReferenceIdeal.lit3 n ∧ Cert.KernelIdeal.lit2 n = Cert.ReferenceIdeal.lit1 n := by
  decide +kernel

/-- The window's first row of block `j`, and its pattern. -/
def firstRow (j : Fin 8) : Fin 21 := ![0, 0, 4, 8, 12, 16, 20, 20] j
def patOf (j : Fin 8) : Fin 3 := ![0, 1, 1, 1, 1, 1, 1, 2] j

theorem row_eq : ∀ (j : Fin 8) (a : Fin 4) (b : Fin 12),
    Cert.KernelIdeal.lit3 ⟨(patOf j).val * 48 + a.val * 12 + b.val, by omega⟩
        = Cert.ReferenceIdeal.lit2 ⟨(4 * j.val + a.val) * 32 + ((firstRow j).val + b.val), by omega⟩
    ∧ Cert.KernelIdeal.lit1 ⟨(patOf j).val * 48 + a.val * 12 + b.val, by omega⟩
        = Cert.ReferenceIdeal.lit0 ⟨(4 * j.val + a.val) * 32 + ((firstRow j).val + b.val), by omega⟩ := by decide +kernel

/-- No key row outside the window is seen. -/
theorem row_out : ∀ (j : Fin 8) (a : Fin 4) (b : Fin 32), ¬ ((firstRow j).val ≤ b.val ∧ b.val < (firstRow j).val + 12) →
    Cert.ReferenceIdeal.lit0 ⟨(4 * j.val + a.val) * 32 + b.val, by omega⟩ = 0#1 := by decide +kernel

end Cert.Proof

end
-- ==== Proof.BlockAt.lean ====
/- What the body leaves at a row and lane of its result block, from the contents of its input blocks. -/
module

public import proofs.«01_k».proof.Proof.Pieces
public import proofs.«01_k».proof.Proof.BlockValue
public import proofs.«01_k».proof.Proof.Words
public import proofs.«01_k».proof.Proof.Gen.KernelIdeal.Frame
public import Idealize.ShloMosaic.Lib.Pipeline.ValueKit.Tiles

@[expose] public section

noncomputable section

namespace Cert.Proof

open Idealize.ShloMosaic Idealize.SL.Sem Cert.KernelIdeal Cert.KernelIdeal.Gen Idealize.ShloMosaic.TcCoe

variable {F : FTy → Type} [FloatOps F]

/-- Row `r` of the block of queries `j`. -/
abbrev blkRow (j : Fin 8) (r : Fin 256) : Fin 2048 := ⟨256 * j.val + r.val, by omega⟩
/-- Row `u` of that block's window. -/
abbrev winRow (j : Fin 8) (u : Fin 768) : Fin 2048 := ⟨64 * (firstRow j).val + u.val, by omega⟩

theorem row_emb (o : ℕ) (h) (r l : Fin 256) (i : Fin 2048) (hi : i.val = o + r.val) :
    (Rect.unit (s := S2048x256) ![o, 0] S256x256.size h).emb (ix2 r l) = ix2 i l := by
  funext a
  refine Fin.ext ?_
  rw [Rect.emb_apply]
  match a with
  | ⟨0, _⟩ => show o + 1 * r.val = i.val; omega
  | ⟨1, _⟩ => show 0 + 1 * l.val = l.val; omega

theorem row_not_mem (o : ℕ) (h) (i : Fin 2048) (l : Fin 256) (hi : i.val < o ∨ o + 256 ≤ i.val) :
    (ix2 i l : S2048x256.Idx) ∉ (Rect.unit (s := S2048x256) ![o, 0] S256x256.size h).set := by
  rw [Rect.mem_set_unit]
  intro hm
  have h0 := hm 0
  have a : o ≤ i.val := h0.1
  have b : i.val < o + 256 := h0.2
  omega

section
variable (x0 x1 x2 : Vec F S2048x256 .bf16) (x3 x4 : Vec F S256x256 .bf16) (x5 : Vec F S3x4x256x768 .f32)

theorem qs_le : ∀ j : Fin 8, ∀ a, (![256 * j.val, 0] : Fin 2 → ℕ) a + S256x256.size a ≤ S2048x256.size a := by decide
theorem ks_le : ∀ j : Fin 8, ∀ a, (![64 * (firstRow j).val, 0] : Fin 2 → ℕ) a + S768x256.size a ≤ S2048x256.size a := by decide
theorem bs_le : ∀ (j : Fin 8) (h : Fin 4), ∀ a, (![(patOf j).val, h.val, 0, 0] : Fin 4 → ℕ) a + S1x1x256x768.size a ≤ S3x4x256x768.size a := by decide

/-- The block of queries `j`. -/
def payOf (j : Fin 8) : Vec F S256x256 .bf16 :=
  blockPay (256 * j.val) (64 * (firstRow j).val) (patOf j).val (qs_le j) (ks_le j) (bs_le j) x0 x1 x2 x3 x4 x5

theorem skip {o : ℕ} {h : ∀ a, (![o, 0] : Fin 2 → ℕ) a + S256x256.size a ≤ S2048x256.size a}
    {w : (Rect.unit (s := S2048x256) ![o, 0] S256x256.size h).shape.Idx → Elt F .bf16} {L : List (View.Piece (Elt F) S2048x256 .bf16)} {i : Fin 2048} {l : Fin 256} {v : Elt F .bf16}
    (hi : i.val < o) (e : View.canon L (ix2 i l) = v) :
    View.canon ((⟨Rect.unit (s := S2048x256) ![o, 0] S256x256.size h, w⟩ : View.Piece (Elt F) S2048x256 .bf16) :: L) (ix2 i l) = v :=
  (View.canon_cons_of_not_mem (y := ix2 i l) (⟨Rect.unit (s := S2048x256) ![o, 0] S256x256.size h, w⟩ : View.Piece (Elt F) S2048x256 .bf16) L (row_not_mem o h i l (.inl hi))).trans e

theorem hit {o : ℕ} {h : ∀ a, (![o, 0] : Fin 2 → ℕ) a + S256x256.size a ≤ S2048x256.size a}
    {w : (Rect.unit (s := S2048x256) ![o, 0] S256x256.size h).shape.Idx → Elt F .bf16} {L : List (View.Piece (Elt F) S2048x256 .bf16)} {i : Fin 2048} {r l : Fin 256}
    (hi : i.val = o + r.val) :
    View.canon ((⟨Rect.unit (s := S2048x256) ![o, 0] S256x256.size h, w⟩ : View.Piece (Elt F) S2048x256 .bf16) :: L) (ix2 i l) = w (ix2 r l) :=
  (congrArg _ (row_emb o h r l i hi).symm).trans (View.canon_cons_emb _ w L (ix2 r l))

theorem canon_pieces (j : Fin 8) (r l : Fin 256) :
    View.canon (pieces x0 x1 x2 x3 x4 x5) (ix2 (blkRow j r) l) = payOf x0 x1 x2 x3 x4 x5 j (ix2 r l) := by
  have hr := r.isLt
  unfold pieces
  match j with
  | 7 => exact hit (by show 256 * 7 + r.val = _; omega)
  | 6 => exact skip (by show 256 * 6 + r.val < _; omega) (hit (by show 256 * 6 + r.val = _; omega))
  | 5 => exact skip (by show 256 * 5 + r.val < _; omega) (skip (by show 256 * 5 + r.val < _; omega) (hit (by show 256 * 5 + r.val = _; omega)))
  | 4 => exact skip (by show 256 * 4 + r.val < _; omega) (skip (by show 256 * 4 + r.val < _; omega) (skip (by show 256 * 4 + r.val < _; omega) (hit (by show 256 * 4 + r.val = _; omega))))
  | 3 => exact skip (by show 256 * 3 + r.val < _; omega) (skip (by show 256 * 3 + r.val < _; omega) (skip (by show 256 * 3 + r.val < _; omega) (skip (by show 256 * 3 + r.val < _; omega) (hit (by show 256 * 3 + r.val = _; omega)))))
  | 2 => exact skip (by show 256 * 2 + r.val < _; omega) (skip (by show 256 * 2 + r.val < _; omega) (skip (by show 256 * 2 + r.val < _; omega) (skip (by show 256 * 2 + r.val < _; omega) (skip (by show 256 * 2 + r.val < _; omega) (hit (by show 256 * 2 + r.val = _; omega))))))
  | 1 => exact skip (by show 256 * 1 + r.val < _; omega) (skip (by show 256 * 1 + r.val < _; omega) (skip (by show 256 * 1 + r.val < _; omega) (skip (by show 256 * 1 + r.val < _; omega) (skip (by show 256 * 1 + r.val < _; omega) (skip (by show 256 * 1 + r.val < _; omega) (hit (by show 256 * 1 + r.val = _; omega)))))))
  | 0 => exact skip (by show 256 * 0 + r.val < _; omega) (skip (by show 256 * 0 + r.val < _; omega) (skip (by show 256 * 0 + r.val < _; omega) (skip (by show 256 * 0 + r.val < _; omega) (skip (by show 256 * 0 + r.val < _; omega) (skip (by show 256 * 0 + r.val < _; omega) (skip (by show 256 * 0 + r.val < _; omega) (hit (by show 256 * 0 + r.val = _; omega))))))))
end

/-- The body's result block at row `r` of the block of queries `j`, lane `l`: the mean of the values of the window and the context. -/
theorem pieces_apply (x0 x1 x2 : Vec Ideal S2048x256 .bf16) (x3 x4 : Vec Ideal S256x256 .bf16) (x5 : Vec Ideal S3x4x256x768 .f32)
    (Q K V : Fin 2048 → Fin 256 → ℝ) (KC VC : Fin 256 → Fin 256 → ℝ)
    (h0 : ∀ r x, x0 (ix2 r x) = (Q r x : EReal)) (h1 : ∀ r x, x1 (ix2 r x) = (K r x : EReal)) (h2 : ∀ r x, x2 (ix2 r x) = (V r x : EReal))
    (h3 : ∀ r x, x3 (ix2 r x) = (KC r x : EReal)) (h4 : ∀ r x, x4 (ix2 r x) = (VC r x : EReal)) (j : Fin 8) (r l : Fin 256)
    (h5 : ∀ p h u, x5 (ix4 p h r u) ≠ (⊤ : EReal)) :
    View.canon (pieces x0 x1 x2 x3 x4 x5) (ix2 (blkRow j r) l)
      = ((mix (Sum.elim (fun u => winS (headOf l) (Q (blkRow j r)) (K (winRow j u)) (x5 (ix4 (patOf j) (headOf l) r u)))
            (fun u => ((dotHead (headOf l) (Q (blkRow j r)) (KC u) * (1 / 8) : ℝ) : EReal)))
            (Sum.elim (fun u => V (winRow j u) l) (fun u => VC u l)) : ℝ) : EReal) := by
  rw [canon_pieces]
  unfold payOf blockPay
  have two : ∀ {n : ℕ} (o : ℕ) (x : Vec Ideal S2048x256 .bf16) (inb : ∀ a, (![o, 0] : Fin 2 → ℕ) a + (![n, 256] : Fin 2 → ℕ) a ≤ S2048x256.size a) (a : Fin n) (b : Fin 256) (i : Fin 2048),
      i.val = o + a.val → View.ld x (Rect.unit (s := S2048x256) ![o, 0] ![n, 256] inb) (ix2 a b) = x (ix2 i b) := fun o x inb a b i hi =>
    View.ld_unit_apply_of x _ _ _ _ _ fun d => match d with
      | ⟨0, _⟩ => hi
      | ⟨1, _⟩ => (Nat.zero_add _).symm
  have one : ∀ (x : Vec Ideal S256x256 .bf16) (inb : ∀ a, (![0, 0] : Fin 2 → ℕ) a + S256x256.size a ≤ S256x256.size a) (a b : Fin 256),
      View.ld x (Rect.unit (s := S256x256) ![0, 0] S256x256.size inb) (ix2 a b) = x (ix2 a b) := fun x inb a b =>
    View.ld_unit_apply_of x _ _ _ _ _ fun d => match d with
      | ⟨0, _⟩ => (Nat.zero_add _).symm
      | ⟨1, _⟩ => (Nat.zero_add _).symm
  have tab : ∀ (h : Fin 4) (u : Fin 768), View.ld x5 (Rect.unit (s := S3x4x256x768) ![(patOf j).val, h.val, 0, 0] S1x1x256x768.size (bs_le j h)) (ix4 0 0 r u)
      = x5 (ix4 (patOf j) h r u) := fun h u =>
    View.ld_unit_apply_of x5 _ _ _ _ _ fun d => match d with
      | ⟨0, _⟩ => rfl
      | ⟨1, _⟩ => rfl
      | ⟨2, _⟩ => (Nat.zero_add _).symm
      | ⟨3, _⟩ => (Nat.zero_add _).symm
  refine (blockOut_apply (Q := fun a => Q (blkRow j a)) (K := fun u => K (winRow j u)) (V := fun u => V (winRow j u)) (KC := KC) (VC := VC)
    (fun a b => (two (n := 256) _ x0 _ a b (blkRow j a) rfl).trans (h0 _ _)) (fun a b => (two (n := 768) _ x1 _ a b (winRow j a) rfl).trans (h1 _ _))
    (fun a b => (two (n := 768) _ x2 _ a b (winRow j a) rfl).trans (h2 _ _)) (fun a b => (one x3 _ a b).trans (h3 _ _)) (fun a b => (one x4 _ a b).trans (h4 _ _))
    (fun h => View.ld x5 (Rect.unit (s := S3x4x256x768) ![(patOf j).val, h.val, 0, 0] S1x1x256x768.size (bs_le j h))) r l
    (fun h u => by rw [tab]; exact h5 _ _ _)).trans ?_
  simp only [tab]

end Cert.Proof

end
-- ==== Proof.Staged.lean ====
/- What the staging buffers hold at a grid point: rows of one image, and of its context, at their columns. -/
module

public import proofs.«01_k».proof.Proof.Gen.KernelIdeal.Value
public import Idealize.ShloMosaic.Lib.Pointwise

@[expose] public section

noncomputable section

namespace Cert.Proof

open Idealize.ShloMosaic Idealize.SL.Sem Cert.KernelIdeal Cert.KernelIdeal.Gen Idealize.ShloMosaic.TcCoe

variable {F : FTy → Type} [FloatOps F] (m : (ℓ : Loc nD τ sig) → Buf (Elt F) ℓ)

theorem index0 : ∀ t : Fin grid0.N, win0_0.index t = ![t.val, 4] := by decide +kernel
theorem index1 : ∀ t : Fin grid0.N, win0_1.index t = ![t.val, 5] := by decide +kernel
theorem index2 : ∀ t : Fin grid0.N, win0_2.index t = ![t.val, 6] := by decide +kernel
theorem index3 : ∀ t : Fin grid0.N, win0_3.index t = ![t.val, 5] := by decide +kernel
theorem index4 : ∀ t : Fin grid0.N, win0_4.index t = ![t.val, 6] := by decide +kernel
theorem index5 : ∀ t : Fin grid0.N, win0_5.index t = ![0, 0, 0, 0] := by decide +kernel
theorem index6 : ∀ t : Fin grid0.N, win0_6.index t = ![t.val, 0] := by decide +kernel

theorem points : grid0.N = 32 := by decide

/-- Row `r` of image `t`. -/
abbrev imgRow (t : Fin grid0.N) (r : Fin 2048) : Fin 65536 := ⟨t.val * 2048 + r.val, by have := points; omega⟩
/-- Row `r` of image `t`'s context. -/
abbrev ctxRow (t : Fin grid0.N) (r : Fin 256) : Fin 8192 := ⟨t.val * 256 + r.val, by have := points; omega⟩
/-- Column `x` of the 256 from `o`. -/
abbrev colOf (o : ℕ) (ho : o + 256 ≤ 2944) (x : Fin 256) : Fin 2944 := ⟨o + x.val, by omega⟩

theorem staged0 (c : Dev nD) (t : Fin grid0.N) (r : Fin 2048) (x : Fin 256) :
    X0_0 m c t (ix2 r x) = m ((c : Thread nD τ).loc main_arg0) (ix2 (imgRow t r) (colOf 1024 (by decide) x)) := by
  unfold X0_0 Pipeline.Window.fill
  rw [dif_pos (moved0_0 t _)]
  unfold iblk
  show V m c main_arg0 ((win0_0.rect t).emb _) = _
  rw [V_main_arg0]
  refine congrArg _ (funext fun a => Fin.ext ?_)
  rw [Rect.emb_apply]
  match a with
  | ⟨0, _⟩ => show win0_0.index t 0 * 2048 + 1 * r.val = _; rw [index0, Nat.one_mul]; rfl
  | ⟨1, _⟩ => show win0_0.index t 1 * 256 + 1 * x.val = _; rw [index0, Nat.one_mul]; rfl

theorem staged1 (c : Dev nD) (t : Fin grid0.N) (r : Fin 2048) (x : Fin 256) :
    X0_1 m c t (ix2 r x) = m ((c : Thread nD τ).loc main_arg0) (ix2 (imgRow t r) (colOf 1280 (by decide) x)) := by
  unfold X0_1 Pipeline.Window.fill
  rw [dif_pos (moved0_1 t _)]
  unfold iblk
  show V m c main_arg0 ((win0_1.rect t).emb _) = _
  rw [V_main_arg0]
  refine congrArg _ (funext fun a => Fin.ext ?_)
  rw [Rect.emb_apply]
  match a with
  | ⟨0, _⟩ => show win0_1.index t 0 * 2048 + 1 * r.val = _; rw [index1, Nat.one_mul]; rfl
  | ⟨1, _⟩ => show win0_1.index t 1 * 256 + 1 * x.val = _; rw [index1, Nat.one_mul]; rfl

theorem staged2 (c : Dev nD) (t : Fin grid0.N) (r : Fin 2048) (x : Fin 256) :
    X0_2 m c t (ix2 r x) = m ((c : Thread nD τ).loc main_arg0) (ix2 (imgRow t r) (colOf 1536 (by decide) x)) := by
  unfold X0_2 Pipeline.Window.fill
  rw [dif_pos (moved0_2 t _)]
  unfold iblk
  show V m c main_arg0 ((win0_2.rect t).emb _) = _
  rw [V_main_arg0]
  refine congrArg _ (funext fun a => Fin.ext ?_)
  rw [Rect.emb_apply]
  match a with
  | ⟨0, _⟩ => show win0_2.index t 0 * 2048 + 1 * r.val = _; rw [index2, Nat.one_mul]; rfl
  | ⟨1, _⟩ => show win0_2.index t 1 * 256 + 1 * x.val = _; rw [index2, Nat.one_mul]; rfl

theorem staged3 (c : Dev nD) (t : Fin grid0.N) (r : Fin 256) (x : Fin 256) :
    X0_3 m c t (ix2 r x) = m ((c : Thread nD τ).loc main_arg1) (ix2 (ctxRow t r) (colOf 1280 (by decide) x)) := by
  unfold X0_3 Pipeline.Window.fill
  rw [dif_pos (moved0_3 t _)]
  unfold iblk
  show V m c main_arg1 ((win0_3.rect t).emb _) = _
  rw [V_main_arg1]
  refine congrArg _ (funext fun a => Fin.ext ?_)
  rw [Rect.emb_apply]
  match a with
  | ⟨0, _⟩ => show win0_3.index t 0 * 256 + 1 * r.val = _; rw [index3, Nat.one_mul]; rfl
  | ⟨1, _⟩ => show win0_3.index t 1 * 256 + 1 * x.val = _; rw [index3, Nat.one_mul]; rfl

theorem staged4 (c : Dev nD) (t : Fin grid0.N) (r : Fin 256) (x : Fin 256) :
    X0_4 m c t (ix2 r x) = m ((c : Thread nD τ).loc main_arg1) (ix2 (ctxRow t r) (colOf 1536 (by decide) x)) := by
  unfold X0_4 Pipeline.Window.fill
  rw [dif_pos (moved0_4 t _)]
  unfold iblk
  show V m c main_arg1 ((win0_4.rect t).emb _) = _
  rw [V_main_arg1]
  refine congrArg _ (funext fun a => Fin.ext ?_)
  rw [Rect.emb_apply]
  match a with
  | ⟨0, _⟩ => show win0_4.index t 0 * 256 + 1 * r.val = _; rw [index4, Nat.one_mul]; rfl
  | ⟨1, _⟩ => show win0_4.index t 1 * 256 + 1 * x.val = _; rw [index4, Nat.one_mul]; rfl

/-- The bias table is staged whole. -/
theorem staged5 (c : Dev nD) (t : Fin grid0.N) (y : S3x4x256x768.Idx) : iblk m c 5 t y = V m c main_v18 y := by
  unfold iblk
  show V m c main_v18 ((win0_5.rect t).emb _) = _
  refine congrArg _ (funext fun a => Fin.ext ?_)
  rw [Rect.emb_apply]
  show win0_5.index t a * _ + 1 * (y a).val = _
  rw [index5, Nat.one_mul, show (![0, 0, 0, 0] : Fin 4 → ℕ) a = 0 by revert a; decide, Nat.zero_mul, Nat.zero_add]

/-- A result row's place: written at point `t`, row `r` of its block. -/
theorem place6 (t : Fin grid0.N) (r : Fin 2048) (x : Fin 256) :
    (win0_6.rect t).emb (ix2 r x) = (ix2 (imgRow t r) x : S65536x256.Idx) := by
  refine funext fun a => Fin.ext ?_
  rw [Rect.emb_apply]
  match a with
  | ⟨0, _⟩ => show win0_6.index t 0 * 2048 + 1 * r.val = _; rw [index6, Nat.one_mul]; rfl
  | ⟨1, _⟩ => show win0_6.index t 1 * 256 + 1 * x.val = _; rw [index6, Nat.one_mul]; exact Nat.zero_add _

end Cert.Proof

end
-- ==== Proof.Gathers.lean ====
/- The three gathers along one axis, read at an index: the start word, read signed and clamped, takes that axis's place. -/
module

public import proofs.«01_k».proof.Proof.Gen.KernelIdeal
public import proofs.«01_k».proof.Proof.Gen.ReferenceIdeal
public import Idealize.ShloMosaic.Lib.Pointwise

@[expose] public section

noncomputable section

namespace Cert.Proof

open Idealize.ShloMosaic

variable {α : Type}

/-- The bias rows the host takes by a flat list of row differences. -/
theorem gather_list (x : Cert.KernelIdeal.S4x15x64x64.Idx → α) (idx : IVec Cert.KernelIdeal.S144x1 32)
    (h : Fin 4) (k : Fin 144) (a b : Fin 64) :
    Host.gather Cert.KernelIdeal.gather_S4x15x64x64_S144x1_S4x144x64x64_023_1_n_n_1_1_416464 x idx (ix4 h k a b)
      = x (ix4 h ⟨min (idx (ix2 k 0)).toInt.toNat 14, by omega⟩ a b) := by
  unfold Host.gather
  congr 1
  funext ax
  refine Fin.ext ?_
  match ax with
  | ⟨0, _⟩ => exact Nat.zero_add _
  | ⟨1, _⟩ =>
    show min (idx _).toInt.toNat 14 = min (idx _).toInt.toNat 14
    congr 4
    funext b; refine Fin.ext ?_
    match b with
    | ⟨0, _⟩ => rfl
    | ⟨1, _⟩ => rfl
  | ⟨2, _⟩ => exact Nat.zero_add _
  | ⟨3, _⟩ => exact Nat.zero_add _

/-- The reference's row differences. -/
theorem gather_rowsOf (x : Cert.ReferenceIdeal.S4x15x31.Idx → α) (idx : IVec Cert.ReferenceIdeal.S32x32x1 32)
    (h : Fin 4) (i j : Fin 32) (k : Fin 31) :
    Host.gather Cert.ReferenceIdeal.gather_S4x15x31_S32x32x1_S4x32x32x31_03_1_n_n_1_2_4131 x idx (ix4 h i j k)
      = x (ix3 h ⟨min (idx (ix3 i j 0)).toInt.toNat 14, by omega⟩ k) := by
  unfold Host.gather
  congr 1
  funext ax
  refine Fin.ext ?_
  match ax with
  | ⟨0, _⟩ => exact Nat.zero_add _
  | ⟨1, _⟩ =>
    show min (idx _).toInt.toNat 14 = min (idx _).toInt.toNat 14
    congr 4
    funext b; refine Fin.ext ?_
    match b with
    | ⟨0, _⟩ => rfl
    | ⟨1, _⟩ => rfl
    | ⟨2, _⟩ => rfl
  | ⟨2, _⟩ => exact Nat.zero_add _

/-- The reference's column differences. -/
theorem gather_colsOf (x : Cert.ReferenceIdeal.S4x32x32x31.Idx → α) (idx : IVec Cert.ReferenceIdeal.S64x64x1 32)
    (h : Fin 4) (i j : Fin 32) (a b : Fin 64) :
    Host.gather Cert.ReferenceIdeal.gather_S4x32x32x31_S64x64x1_S4x32x32x64x64_012_3_n_n_3_2_432321 x idx (ix5 h i j a b)
      = x (ix4 h i j ⟨min (idx (ix3 a b 0)).toInt.toNat 30, by omega⟩) := by
  unfold Host.gather
  congr 1
  funext ax
  refine Fin.ext ?_
  match ax with
  | ⟨0, _⟩ => exact Nat.zero_add _
  | ⟨1, _⟩ => exact Nat.zero_add _
  | ⟨2, _⟩ => exact Nat.zero_add _
  | ⟨3, _⟩ =>
    show min (idx _).toInt.toNat 30 = min (idx _).toInt.toNat 30
    congr 4
    funext b; refine Fin.ext ?_
    match b with
    | ⟨0, _⟩ => rfl
    | ⟨1, _⟩ => rfl
    | ⟨2, _⟩ => rfl

end Cert.Proof

end
-- ==== Proof.HostTable.lean ====
/- The bias table the host builds from the bias and four tables of words, in named stages. -/
module

public import proofs.«01_k».proof.Proof.Gen.KernelIdeal.Value
public import Idealize.ShloMosaic.Lib.Pointwise
public import Idealize.ShloMosaic.Lib.StableHlo.ReadAt

@[expose] public section

noncomputable section

namespace Cert.Proof

open Idealize.ShloMosaic Idealize.SL.Sem Cert.KernelIdeal Cert.KernelIdeal.Gen Idealize.ShloMosaic.TcCoe

variable {F : FTy → Type} [FloatOps F]

/-- Ones at the column differences `w0`, one per query and key column. -/
def ones (w0 : IVec S64x64 32) : FVec F S64x64x31 .f32 :=
  uitofp .f32 (cmpi .eq (broadcastInDim S64x64x31 ![0, 1, 2] bcast_S64x64x1_S64x64x31_0_1_2 (broadcastInDim S64x64x1 ![0, 1] bcast_S64x64_S64x64x1_0_1 w0))
    (broadcastInDim S64x64x31 ![0, 1, 2] bcast_S1x1x31_S64x64x31_0_1_2 (broadcastInDim S1x1x31 ![2] bcast_S31_S1x1x31_2 (iotaInDim S31 32 0))))

/-- The bias expanded over the columns: a product with those ones. -/
def expand (x : FVec F S4x15x31 .f32) (w0 : IVec S64x64 32) : FVec F S4x15x64x64 .f32 :=
  Host.dotGeneral dot_S4x15x31_S64x64x31_S4x15x64x64_2_2_01_01_n_n (some .fp32) x (ones w0)

/-- The rows to take, a negative one counted from the end. -/
def starts (w3 : IVec S144 32) : IVec S144x1 32 :=
  broadcastInDim S144x1 ![0] bcast_S144_S144x1_0
    (select (cmpi .slt w3 (broadcastInDim S144 ![] bcast_S_S144 (constantI S_ 32 0#32)))
      (addi w3 (broadcastInDim S144 ![] bcast_S_S144 (constantI S_ 32 15#32))) w3)

/-- Whether a row to take is there. -/
def inRange (i : IVec S144x1 32) : IVec S144 1 :=
  Host.reduce IntOp.andi (andi (cmpi .sge i (broadcastInDim S144x1 ![] bcast_S_S144x1 (constantI S_ 32 0#32)))
      (cmpi .sle i (broadcastInDim S144x1 ![0, 1] bcast_S1x1_S144x1_0_1 (broadcastInDim S1x1 ![1] bcast_S1_S1x1_1 (constantI S1 32 14#32)))))
    (constantI S_ 1 1#1) reducesTo_S144x1_S144_d1 h_S_

/-- The rows taken. -/
def taken (e : FVec F S4x15x64x64 .f32) (i : IVec S144x1 32) : FVec F S4x144x64x64 .f32 :=
  select (broadcastInDim S4x144x64x64 ![1] bcast_S144_S4x144x64x64_1 (inRange i))
    (Host.gather gather_S4x15x64x64_S144x1_S4x144x64x64_023_1_n_n_1_1_416464 e i)
    (broadcastInDim S4x144x64x64 ![] bcast_S_S4x144x64x64 (constant S_ .f32 0x7FC00000#32))

/-- Which keys of the window a query sees. -/
def seen (w1 : IVec S3x4x12 1) (w2 : IVec S64x64 1) : IVec S3x4x64x12x64 1 :=
  andi (broadcastInDim S3x4x64x12x64 ![0, 1, 2, 3, 4] bcast_S3x4x1x12x1_S3x4x64x12x64_0_1_2_3_4 (broadcastInDim S3x4x1x12x1 ![0, 1, 3] bcast_S3x4x12_S3x4x1x12x1_0_1_3 w1))
    (broadcastInDim S3x4x64x12x64 ![0, 1, 2, 3, 4] bcast_S1x1x64x1x64_S3x4x64x12x64_0_1_2_3_4 (broadcastInDim S1x1x64x1x64 ![2, 4] bcast_S64x64_S1x1x64x1x64_2_4 w2))

/-- The table from the rows taken. -/
def table (t : FVec F S4x144x64x64 .f32) (s : IVec S3x4x64x12x64 1) : FVec F S3x4x256x768 .f32 :=
  shapeCast S3x4x256x768 (select (broadcastInDim S3x4x4x64x12x64 ![0, 1, 2, 3, 4, 5] bcast_S3x1x4x64x12x64_S3x4x4x64x12x64_0_1_2_3_4_5
      (broadcastInDim S3x1x4x64x12x64 ![0, 2, 3, 4, 5] bcast_S3x4x64x12x64_S3x1x4x64x12x64_0_2_3_4_5 s))
    (transpose S3x4x4x64x12x64 [1, 0, 2, 4, 3, 5] (shapeCast S4x3x4x12x64x64 t shapeCasts_S4x144x64x64_S4x3x4x12x64x64) transposes_S4x3x4x12x64x64_S3x4x4x64x12x64_1_0_2_4_3_5)
    (broadcastInDim S3x4x4x64x12x64 ![] bcast_S_S3x4x4x64x12x64 (id (constant S_ .f32 0xFF800000#32)))) shapeCasts_S3x4x4x64x12x64_S3x4x256x768

/-- The kernel's four constant tables of words, by their indices. -/
def words0 : IVec S64x64 32 := fun i => lit0 (S64x64.rowMajor i)
@[inherit_doc words0] def words1 : IVec S3x4x12 1 := fun i => lit1 (S3x4x12.rowMajor i)
@[inherit_doc words0] def words2 : IVec S64x64 1 := fun i => lit2 (S64x64.rowMajor i)
@[inherit_doc words0] def words3 : IVec S144 32 := fun i => lit3 (S144.rowMajor i)

set_option maxRecDepth 8192 in
set_option maxHeartbeats 2000000 in
theorem V_table (m : (ℓ : Loc nD τ sig) → Buf (Elt F) ℓ) (c : Dev nD) :
    V m c main_v18 = table (taken (expand (m ((c : Thread nD τ).loc main_arg2)) words0) (starts words3)) (seen words1 words2) := by
  unfold V
  after_reads_simp
  rfl

end Cert.Proof

end
-- ==== Proof.TableAt.lean ====
/- The bias table the host builds, at an index: the bias of the row and column differences, or −∞ outside the window. -/
module

public import proofs.«01_k».proof.Proof.Gathers
public import proofs.«01_k».proof.Proof.Words
public import proofs.«01_k».proof.Proof.HostTable
public import proofs.«01_k».proof.Proof.BlockValue
public import Idealize.ShloMosaic.Lib.Pointwise

@[expose] public section

noncomputable section

namespace Cert.Proof

open Idealize.ShloMosaic Idealize.SL.Sem Cert.KernelIdeal Cert.KernelIdeal.Gen Idealize.ShloMosaic.TcCoe

variable {F : FTy → Type} [FloatOps F]

/-- The entry of pattern `p`, query row `a` and key row `b` in the flat lists. -/
def flatRow (p : Fin 3) (a : Fin 4) (b : Fin 12) : Fin 144 := ⟨p.val * 48 + a.val * 12 + b.val, by omega⟩
/-- The entry of query column `a` and key column `b`. -/
def flatCol (a b : Fin 64) : Fin 4096 := ⟨a.val * 64 + b.val, by omega⟩

theorem at_lit3 (p : Fin 3) (a : Fin 4) (b : Fin 12) (h : p.val * 48 + a.val * 12 + b.val < 144) :
    lit3 (S144.rowMajor (ix1 ⟨p.val * 48 + a.val * 12 + b.val, h⟩)) = lit3 (flatRow p a b) :=
  congrArg lit3 (Fin.ext (Shape.rowMajor_val_one _))
theorem at_lit1 (p : Fin 3) (a : Fin 4) (b : Fin 12) : lit1 (S3x4x12.rowMajor (ix3 p a b)) = lit1 (flatRow p a b) :=
  congrArg lit1 (Fin.ext ((Shape.rowMajor_val_three _).trans (by show (p.val * 4 + a.val) * 12 + b.val = p.val * 48 + a.val * 12 + b.val; omega)))
theorem at_lit0 (a b : Fin 64) : lit0 (S64x64.rowMajor (ix2 a b)) = lit0 (flatCol a b) :=
  congrArg lit0 (Fin.ext (Shape.rowMajor_val_two _))
theorem at_lit2 (a b : Fin 64) : lit2 (S64x64.rowMajor (ix2 a b)) = lit2 (flatCol a b) :=
  congrArg lit2 (Fin.ext (Shape.rowMajor_val_two _))

/-- A difference word as an index. -/
abbrev rowDiff (w : BitVec 32) : Fin 15 := ⟨min w.toInt.toNat 14, by omega⟩
abbrev colDiff (w : BitVec 32) : Fin 31 := ⟨min w.toInt.toNat 30, by omega⟩

theorem expand_apply (x : FVec Ideal S4x15x31 .f32) (w0 : IVec S64x64 32) (h : Fin 4) (i : Fin 15) (a b : Fin 64) (k : Fin 31)
    (hk : w0 (ix2 a b) = BitVec.ofNat 32 k.val) : expand x w0 (ix4 h i a b) = x (ix3 h i k) := by
  unfold expand ones
  pointwise
  simp only [hk]
  have e : ∀ k y : Fin 31, IntOp.cmpi CmpIPredicate.eq (BitVec.ofNat 32 k.val) (BitVec.ofNat 32 y.val) = if k = y then 1#1 else 0#1 := by
    decide +kernel
  simp only [e]
  rw [Finset.sum_eq_single k]
  · have : FloatOps.uitofp (F := Ideal) FTy.f32 1#1 = (1 : EReal) := by simp [FloatOps.uitofp]
    rw [if_pos rfl, this, mul_one]
  · intro y _ hy
    have : FloatOps.uitofp (F := Ideal) FTy.f32 0#1 = (0 : EReal) := by simp [FloatOps.uitofp]
    rw [if_neg (Ne.symm hy), this, mul_zero]
  · simp

theorem starts_apply (w3 : IVec S144 32) (k : Fin 144) (h : IntOp.cmpi CmpIPredicate.slt (w3 (ix1 k)) 0#32 = 0#1) :
    starts w3 (ix2 k 0) = w3 (ix1 k) := by
  unfold starts
  pointwise
  rw [h]; rfl

theorem inRange_apply (i : IVec S144x1 32) (k : Fin 144) (h : IntOp.cmpi CmpIPredicate.sge (i (ix2 k 0)) 0#32 = 1#1)
    (h' : IntOp.cmpi CmpIPredicate.sle (i (ix2 k 0)) 14#32 = 1#1) : inRange i (ix1 k) = 1#1 := by
  unfold inRange
  pointwise
  rw [Finset.univ_unique, Finset.fold_singleton]
  show IntOp.andi (IntOp.andi (IntOp.cmpi CmpIPredicate.sge (i (ix2 k 0)) 0#32) (IntOp.cmpi CmpIPredicate.sle (i (ix2 k 0)) 14#32)) 1#1 = 1#1
  rw [h, h']; rfl

theorem taken_apply (e : FVec F S4x15x64x64 .f32) (i : IVec S144x1 32) (h : Fin 4) (k : Fin 144) (a b : Fin 64) (hr : inRange i (ix1 k) = 1#1) :
    taken e i (ix4 h k a b) = e (ix4 h (rowDiff (i (ix2 k 0))) a b) := by
  unfold taken
  pointwise
  rw [hr, gather_list]; rfl

theorem select_and (x y : BitVec 1) (a : EReal) :
    Scalar.select (IntOp.andi x y) a (⊥ : EReal) = if x = 1#1 ∧ y = 1#1 then a else ⊥ := by
  by_cases h : x = 1#1 ∧ y = 1#1
  · rw [if_pos h, h.1, h.2]; rfl
  · rw [if_neg h]
    have : IntOp.andi x y = 0#1 := by revert h; revert x y; decide
    rw [this]; rfl

theorem table_ix (t : FVec Ideal S4x144x64x64 .f32) (w1 : IVec S3x4x12 1) (w2 : IVec S64x64 1) (p : Fin 3) (h : Fin 4) (q : Fin 256) (u : Fin 768) :
    table t (seen w1 w2) (ix4 p h q u)
      = if w1 (ix3 p ⟨q.val / 64, by omega⟩ ⟨u.val / 64, by omega⟩) = 1#1 ∧ w2 (ix2 ⟨q.val % 64, by omega⟩ ⟨u.val % 64, by omega⟩) = 1#1 then
          t (ix4 h (flatRow p ⟨q.val / 64, by omega⟩ ⟨u.val / 64, by omega⟩) ⟨q.val % 64, by omega⟩ ⟨u.val % 64, by omega⟩)
        else (⊥ : EReal) := by
  unfold table seen
  pointwise
  have hb : (id (constant (F := Ideal) S_ FTy.f32 4286578688#32) ix0 : EReal) = ⊥ := Cert.Proof.neg_inf
  refine (congrArg (Scalar.select _ _) hb).trans (select_and _ _ _)

/-- The table at pattern `p`, head `h`, query `q` and key `u` of the window. -/
theorem table_apply (m : (ℓ : Loc nD τ sig) → Buf (Elt Ideal) ℓ) (c : Dev nD) (p : Fin 3) (h : Fin 4) (q : Fin 256) (u : Fin 768) :
    V m c main_v18 (ix4 p h q u)
      = if lit1 (flatRow p ⟨q.val / 64, by omega⟩ ⟨u.val / 64, by omega⟩) = 1#1
            ∧ lit2 (flatCol ⟨q.val % 64, by omega⟩ ⟨u.val % 64, by omega⟩) = 1#1 then
          m ((c : Thread nD τ).loc main_arg2) (ix3 h (rowDiff (lit3 (flatRow p ⟨q.val / 64, by omega⟩ ⟨u.val / 64, by omega⟩)))
            (colDiff (lit0 (flatCol ⟨q.val % 64, by omega⟩ ⟨u.val % 64, by omega⟩))))
        else (⊥ : EReal) := by
  have e1 : ∀ a b, words1 (ix3 p a b) = lit1 (flatRow p a b) := at_lit1 p
  have e2 : ∀ a b, words2 (ix2 a b) = lit2 (flatCol a b) := at_lit2
  rw [V_table, table_ix, e1, e2]
  have e3 : ∀ k : Fin 144, words3 (ix1 k) = lit3 k := fun k => congrArg lit3 (Fin.ext (Shape.rowMajor_val_one _))
  have s : ∀ k, starts words3 (ix2 k 0) = lit3 k := fun k =>
    (starts_apply _ k (by rw [e3]; exact (kerRow_le k).1)).trans (e3 k)
  rw [taken_apply _ _ _ _ _ _ (inRange_apply _ _ (by rw [s]; exact (kerRow_le _).2.1) (by rw [s]; exact (kerRow_le _).2.2)), s]
  rw [expand_apply _ _ _ _ _ _ (colDiff (lit0 (flatCol ⟨q.val % 64, by omega⟩ ⟨u.val % 64, by omega⟩))) ((at_lit0 _ _).trans (kerCol_lt _))]

end Cert.Proof

end
-- ==== Proof.KerValue.lean ====
/- The kernel's result at an index: what the body leaves at the row's grid point, block and lane. -/
module

public import proofs.«01_k».proof.Proof.BlockAt
public import proofs.«01_k».proof.Proof.Staged
public import proofs.«01_k».proof.Proof.TableAt
public import proofs.«01_k».proof.Proof.Gen.KernelIdeal.Value

@[expose] public section

noncomputable section

namespace Cert.Proof

open Idealize.ShloMosaic Idealize.SL.Sem Cert.KernelIdeal Cert.KernelIdeal.Gen Idealize.ShloMosaic.TcCoe

/-- The result array at row `i` of image `t` is what the body stores there. -/
theorem result_canon {F : FTy → Type} [FloatOps F] (m : (ℓ : Loc nD τ sig) → Buf (Elt F) ℓ) (c : Dev nD) (t : Fin grid0.N) (i : Fin 2048) (l : Fin 256) :
    (dats m 0 c).arrAt 6 cfg0.N (ix2 (imgRow t i) l : S65536x256.Idx)
      = View.canon (pieces (X0_0 m c t) (X0_1 m c t) (X0_2 m c t) (X0_3 m c t) (X0_4 m c t) (iblk m c 5 t)) (ix2 i l) := by
  have hb := congrFun (Value.blocks6 m c t (flush0_6 t)) (ix2 i l)
  rw [Value.flushed6_A] at hb
  unfold out0_A_6 at hb
  rw [View.read_writes_eq_canon _ _ _ (cover0_A_6 c _ _ _ _ _ _ _ _ _ _ _ _ _ _ _ _ _ _ _ _ _), pieces_eq] at hb
  rw [← place6 t i l]
  exact hb

/-- The kernel's result at row `r` of the block of queries `j` of image `t`, lane `l`. -/
theorem result_apply (m : (ℓ : Loc nD τ sig) → Buf (Elt Ideal) ℓ) (c : Dev nD) (P0 : Fin 65536 → Fin 2944 → ℝ) (P1 : Fin 8192 → Fin 2944 → ℝ)
    (h0 : ∀ r x, m ((c : Thread nD τ).loc main_arg0) (ix2 r x) = (P0 r x : EReal)) (h1 : ∀ r x, m ((c : Thread nD τ).loc main_arg1) (ix2 r x) = (P1 r x : EReal))
    (hb : ∀ i, m ((c : Thread nD τ).loc main_arg2) i ≠ (⊤ : EReal)) (t : Fin grid0.N) (j : Fin 8) (r l : Fin 256) :
    (dats m 0 c).arrAt 6 cfg0.N (ix2 (imgRow t (blkRow j r)) l : S65536x256.Idx)
      = ((mix (Sum.elim
            (fun u => winS (headOf l) (fun x => P0 (imgRow t (blkRow j r)) (colOf 1024 (by decide) x)) (fun x => P0 (imgRow t (winRow j u)) (colOf 1280 (by decide) x))
              (V m c main_v18 (ix4 (patOf j) (headOf l) r u)))
            (fun u => ((dotHead (headOf l) (fun x => P0 (imgRow t (blkRow j r)) (colOf 1024 (by decide) x)) (fun x => P1 (ctxRow t u) (colOf 1280 (by decide) x)) * (1 / 8) : ℝ) : EReal)))
            (Sum.elim (fun u => P0 (imgRow t (winRow j u)) (colOf 1536 (by decide) l)) (fun u => P1 (ctxRow t u) (colOf 1536 (by decide) l))) : ℝ) : EReal) := by
  have h5 : ∀ y, iblk m c 5 t y = V m c main_v18 y := staged5 m c t
  rw [result_canon]
  refine (pieces_apply _ _ _ _ _ _ (fun i x => P0 (imgRow t i) (colOf 1024 (by decide) x)) (fun i x => P0 (imgRow t i) (colOf 1280 (by decide) x))
    (fun i x => P0 (imgRow t i) (colOf 1536 (by decide) x)) (fun i x => P1 (ctxRow t i) (colOf 1280 (by decide) x)) (fun i x => P1 (ctxRow t i) (colOf 1536 (by decide) x))
    (fun i x => (staged0 m c t i x).trans (h0 _ _)) (fun i x => (staged1 m c t i x).trans (h0 _ _)) (fun i x => (staged2 m c t i x).trans (h0 _ _))
    (fun i x => (staged3 m c t i x).trans (h1 _ _)) (fun i x => (staged4 m c t i x).trans (h1 _ _)) j r l ?_).trans ?_
  · intro p h u
    rw [h5, table_apply]
    split
    · exact hb _
    · exact bot_ne_top
  · simp only [h5]

end Cert.Proof

end
-- ==== Proof.Reference.lean ====
/- The reference's composed term in named stages: parts of the rows, mask, bias, scores, softmax, weighted values. -/
module

public import proofs.«01_k».proof.Proof.Gen.ReferenceIdeal.Run

@[expose] public section

noncomputable section

namespace Cert.Proof.Ref

open Idealize.ShloMosaic Idealize.SL.Sem Cert.ReferenceIdeal Cert.ReferenceIdeal.Gen Idealize.ShloMosaic.TcCoe

variable {F : FTy → Type} [FloatOps F]

/-- 256 columns of the token rows from column `o`, split into images, tokens, heads and lanes. -/
def part (o : ℕ) (h : S65536x2944.Slices ![0, o] S65536x256) (a : FVec F S65536x2944 .bf16) : FVec F S32x2048x4x64 .f32 :=
  shapeCast _ (extf .f32 (extractStridedSlice S65536x256 ![0, o] a h) bitsLt_bf16_f32) shapeCasts_S65536x256_S32x2048x4x64

/-- The same of the context's rows. -/
def partCtx (o : ℕ) (h : S8192x2944.Slices ![0, o] S8192x256) (a : FVec F S8192x2944 .bf16) : FVec F S32x256x4x64 .f32 :=
  shapeCast _ (extf .f32 (extractStridedSlice S8192x256 ![0, o] a h) bitsLt_bf16_f32) shapeCasts_S8192x256_S32x256x4x64

/-- Which keys a query sees. -/
def mask : IVec S2048x2048 1 :=
  shapeCast _ (andi (broadcastInDim S32x64x32x64 ![0, 1, 2, 3] bcast_S32x1x32x1_S32x64x32x64_0_1_2_3 (broadcastInDim S32x1x32x1 ![0, 2] bcast_S32x32_S32x1x32x1_0_2 ((fun i => lit0 (S32x32.rowMajor i))))) (broadcastInDim S32x64x32x64 ![0, 1, 2, 3] bcast_S1x64x1x64_S32x64x32x64_0_1_2_3 (broadcastInDim S1x64x1x64 ![1, 3] bcast_S64x64_S1x64x1x64_1_3 ((fun i => lit1 (S64x64.rowMajor i)))))) shapeCasts_S32x64x32x64_S2048x2048

/-- Row differences as indices. -/
def rowIdx : IVec S32x32x1 32 :=
  broadcastInDim S32x32x1 ![0, 1] bcast_S32x32_S32x32x1_0_1 (select (constantI S32x32 1 0#1) (addi ((fun i => lit2 (S32x32.rowMajor i))) (broadcastInDim S32x32 ![] bcast_S_S32x32 (constantI S_ 32 15#32))) ((fun i => lit2 (S32x32.rowMajor i))))

/-- Column differences as indices. -/
def colIdx : IVec S64x64x1 32 :=
  broadcastInDim S64x64x1 ![0, 1] bcast_S64x64_S64x64x1_0_1 (select (constantI S64x64 1 0#1) (addi ((fun i => lit3 (S64x64.rowMajor i))) (broadcastInDim S64x64 ![] bcast_S_S64x64 (constantI S_ 32 31#32))) ((fun i => lit3 (S64x64.rowMajor i))))

/-- The relative position bias, by query row, key row and the two columns. -/
def gathered (a : FVec F S4x15x31 .f32) : FVec F S4x32x32x64x64 .f32 :=
  Host.gather gather_S4x32x32x31_S64x64x1_S4x32x32x64x64_012_3_n_n_3_2_432321 (Host.gather gather_S4x15x31_S32x32x1_S4x32x32x31_03_1_n_n_1_2_4131 a rowIdx) colIdx

/-- The bias of every query and key. -/
def bias (a : FVec F S4x15x31 .f32) : FVec F S4x2048x2048 .f32 :=
  shapeCast _ (transpose S4x32x64x32x64 [0, 1, 3, 2, 4] (gathered a) transposes_S4x32x32x64x64_S4x32x64x32x64_0_1_3_2_4) shapeCasts_S4x32x64x32x64_S4x2048x2048

/-- Scores of the image's own keys. -/
def winScores (q k : FVec F S32x2048x4x64 .f32) (mk : IVec S2048x2048 1) (b : FVec F S4x2048x2048 .f32) : FVec F S32x4x2048x2048 .f32 :=
  select (broadcastInDim S32x4x2048x2048 ![2, 3] bcast_S2048x2048_S32x4x2048x2048_2_3 mk)
    (addf (mulf (Host.dotGeneral dot_S32x2048x4x64_S32x2048x4x64_S32x4x2048x2048_3_3_1_1_02_02 none q k) (broadcastInDim S32x4x2048x2048 ![] bcast_S_S32x4x2048x2048 (constant S_ .f32 0x3E000000#32)))
      (broadcastInDim S32x4x2048x2048 ![0, 1, 2, 3] bcast_S1x4x2048x2048_S32x4x2048x2048_0_1_2_3 (broadcastInDim S1x4x2048x2048 ![1, 2, 3] bcast_S4x2048x2048_S1x4x2048x2048_1_2_3 b)))
    (broadcastInDim S32x4x2048x2048 ![] bcast_S_S32x4x2048x2048 (id (constant S_ .f32 0xFF800000#32)))

/-- Scores of the context's keys. -/
def ctxScores (q : FVec F S32x2048x4x64 .f32) (k : FVec F S32x256x4x64 .f32) : FVec F S32x4x2048x256 .f32 :=
  mulf (Host.dotGeneral dot_S32x2048x4x64_S32x256x4x64_S32x4x2048x256_3_3_1_1_02_02 none q k) (broadcastInDim S32x4x2048x256 ![] bcast_S_S32x4x2048x256 (constant S_ .f32 0x3E000000#32))

def scores (w : FVec F S32x4x2048x2048 .f32) (c : FVec F S32x4x2048x256 .f32) : FVec F S32x4x2048x2304 .f32 :=
  concatenate S32x4x2048x2304 3 [⟨S32x4x2048x2048, w⟩, ⟨S32x4x2048x256, c⟩] concatenates_S32x4x2048x2048_S32x4x2048x256_S32x4x2048x2304_d3

/-- A row's greatest score. -/
def top (s : FVec F S32x4x2048x2304 .f32) : FVec F S32x4x2048 .f32 :=
  maximumf (broadcastInDim S32x4x2048 ![] bcast_S_S32x4x2048 (constant S_ .f32 0xFF800000#32)) (Host.reduce FloatOps.maximumf s (constant S_ .f32 0xFF800000#32) reducesTo_S32x4x2048x2304_S32x4x2048_d3 h_S_)

/-- One number per row, along the row. -/
def along (t : FVec F S32x4x2048 .f32) : FVec F S32x4x2048x2304 .f32 :=
  broadcastInDim S32x4x2048x2304 ![0, 1, 2, 3] bcast_S32x4x2048x1_S32x4x2048x2304_0_1_2_3 (broadcastInDim S32x4x2048x1 ![0, 1, 2] bcast_S32x4x2048_S32x4x2048x1_0_1_2 t)

def weights (s : FVec F S32x4x2048x2304 .f32) (t : FVec F S32x4x2048 .f32) : FVec F S32x4x2048x2304 .f32 :=
  Host.exp (subf s (along t))

def total (e : FVec F S32x4x2048x2304 .f32) : FVec F S32x4x2048 .f32 :=
  Host.reduceAdd e (constant S_ .f32 0x00000000#32) reducesTo_S32x4x2048x2304_S32x4x2048_d3 h_S_

def probs (e : FVec F S32x4x2048x2304 .f32) (t : FVec F S32x4x2048 .f32) : FVec F S32x4x2048x2304 .f32 :=
  Host.divf e (along t)

def softmax (s : FVec F S32x4x2048x2304 .f32) : FVec F S32x4x2048x2304 .f32 :=
  probs (weights s (top s)) (total (weights s (top s)))

/-- The values weighted by the probabilities. -/
def weigh (p : FVec F S32x4x2048x2304 .f32) (v : FVec F S32x2048x4x64 .f32) (w : FVec F S32x256x4x64 .f32) : FVec F S32x2048x4x64 .f32 :=
  addf (transpose S32x2048x4x64 [0, 3, 1, 2] (Host.dotGeneral dot_S32x2048x4x64_S32x4x2048x2048_S32x4x64x2048_1_3_3_2_02_01 none v (extractStridedSlice S32x4x2048x2048 ![0, 0, 0, 0] p slices_S32x4x2048x2304_S32x4x2048x2048_0_0_0_0)) transposes_S32x4x64x2048_S32x2048x4x64_0_3_1_2)
    (transpose S32x2048x4x64 [0, 3, 1, 2] (Host.dotGeneral dot_S32x256x4x64_S32x4x2048x256_S32x4x64x2048_1_3_3_2_02_01 none w (extractStridedSlice S32x4x2048x256 ![0, 0, 0, 2048] p slices_S32x4x2048x2304_S32x4x2048x256_0_0_0_2048)) transposes_S32x4x64x2048_S32x2048x4x64_0_3_1_2)

/-- The scores of all keys, from the arguments. -/
def allScores (a0 : FVec F S65536x2944 .bf16) (a1 : FVec F S8192x2944 .bf16) (a2 : FVec F S4x15x31 .f32) : FVec F S32x4x2048x2304 .f32 :=
  scores (winScores (part 1024 slices_S65536x2944_S65536x256_0_1024 a0) (part 1280 slices_S65536x2944_S65536x256_0_1280 a0) mask (bias a2))
    (ctxScores (part 1024 slices_S65536x2944_S65536x256_0_1024 a0) (partCtx 1280 slices_S8192x2944_S8192x256_0_1280 a1))

/-- The reference's result. -/
def out (a0 : FVec F S65536x2944 .bf16) (a1 : FVec F S8192x2944 .bf16) (a2 : FVec F S4x15x31 .f32) : FVec F S65536x256 .bf16 :=
  truncf .bf16 (shapeCast _ (weigh (softmax (allScores a0 a1 a2)) (part 1536 slices_S65536x2944_S65536x256_0_1536 a0)
    (partCtx 1536 slices_S8192x2944_S8192x256_0_1536 a1)) shapeCasts_S32x2048x4x64_S65536x256) bitsLt_bf16_f32

set_option maxRecDepth 8192 in
theorem res_eq (m : (ℓ : Loc nD τ sig) → Buf (Elt F) ℓ) (c : Dev nD) :
    Value.res_main_v63 m c = out (m ((c.tc : Thread nD τ).loc main_arg0)) (m ((c.tc : Thread nD τ).loc main_arg1)) (m ((c.tc : Thread nD τ).loc main_arg2)) := by
  unfold Value.res_main_v63; rfl

end Cert.Proof.Ref

end
-- ==== Proof.Top.lean ====
/- A row's greatest score is a real number: no score is +∞ and at least one is a number. -/
module

public import proofs.«01_k».proof.Proof.Reference
public import proofs.«01_k».proof.Proof.Mix
public import Idealize.ShloMosaic.Lib.ReduceAll
public import Idealize.ShloMosaic.Lib.Pointwise

@[expose] public section

noncomputable section

namespace Cert.Proof.Ref

open Idealize.ShloMosaic Idealize.SL.Sem Cert.ReferenceIdeal Cert.ReferenceIdeal.Gen Idealize.ShloMosaic.TcCoe

/-- A fold by the larger is below +∞ when everything it meets is. -/
theorem foldl_max_ne_top {ι : Type} (f : ι → EReal) : ∀ (l : List ι) (b : EReal), b ≠ ⊤ → (∀ i ∈ l, f i ≠ ⊤) →
    l.foldl (fun r n => max r (f n)) b ≠ ⊤
  | [], _, h, _ => h
  | a :: l, b, h, hf => foldl_max_ne_top f l _ (by
      rw [← lt_top_iff_ne_top, max_lt_iff]
      exact ⟨h.lt_top, (hf a (List.mem_cons_self ..)).lt_top⟩) fun i hi => hf i (List.mem_cons_of_mem _ hi)

theorem le_foldl_max {ι : Type} (f : ι → EReal) : ∀ (l : List ι) (b : EReal), b ≤ l.foldl (fun r n => max r (f n)) b
  | [], _ => le_rfl
  | _ :: l, _ => (le_max_left _ _).trans (le_foldl_max f l _)

/-- A fold by the larger is at least everything it meets. -/
theorem mem_le_foldl_max {ι : Type} (f : ι → EReal) (i : ι) : ∀ (l : List ι) (b : EReal), i ∈ l → f i ≤ l.foldl (fun r n => max r (f n)) b
  | a :: l, b, h => by
    rcases List.mem_cons.1 h with rfl | h
    · exact (le_max_right _ _).trans (le_foldl_max f l _)
    · exact mem_le_foldl_max f i l _ h

/-- So is a reduction by the larger, a number. -/
theorem reduce_max_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, x i ≠ (⊤ : EReal)) (i : s.Idx) (hij : h.drop i = j) (hb : x i ≠ (⊥ : EReal)) :
    ∃ r : ℝ, Host.reduce FloatOps.maximumf x init h hu j = (r : EReal) := by
  rw [Host.reduce_eq_foldl, hi]
  refine exists_coe (foldl_max_ne_top x _ _ bot_ne_top fun i _ => hx i) ?_
  rw [← bot_lt_iff_ne_bot]
  refine hb.bot_lt.trans_le (mem_le_foldl_max x i _ _ ?_)
  rw [List.mem_filter]
  exact ⟨List.mem_map.2 ⟨s.rowMajor i, List.mem_finRange _, Equiv.symm_apply_apply _ _⟩, by simp [hij]⟩

theorem drop_ix (i : Fin 32) (h : Fin 4) (t : Fin 2048) (u : Fin 2304) :
    reducesTo_S32x4x2048x2304_S32x4x2048_d3.drop (ix4 i h t u) = ix3 i h t := by
  funext d; fin_cases d <;> rfl

theorem maximumf_at {s : Shape} (x y : FVec Ideal s .f32) (i : s.Idx) : maximumf x y i = max (x i : EReal) (y i) := rfl

theorem minus_inf {s : Shape} (i : s.Idx) : constant (F := Ideal) s FTy.f32 4286578688#32 i = (⊥ : EReal) := by
  show Ideal.ofBits FTy.f32 4286578688#32 = ⊥
  simp [Ideal.ofBits, Ideal.ieee]

theorem bcast_const {s t : Shape} {w : BitVec 32} (dims : Fin s.rank → Fin t.rank) (h : s.BroadcastsInDim t dims) (i : t.Idx) (e : EReal)
    (he : ∀ i, constant (F := Ideal) s FTy.f32 w i = e) : broadcastInDim t dims h (constant (F := Ideal) s FTy.f32 w) i = e := he _

theorem top_real (s : FVec Ideal S32x4x2048x2304 .f32) (i : Fin 32) (h : Fin 4) (t : Fin 2048) (hs : ∀ k, s k ≠ (⊤ : EReal)) (u : Fin 2304)
    (hu : s (ix4 i h t u) ≠ (⊥ : EReal)) : ∃ r : ℝ, top s (ix3 i h t) = (r : EReal) := by
  obtain ⟨r, hr⟩ := reduce_max_real s (constant S_ FTy.f32 4286578688#32) reducesTo_S32x4x2048x2304_S32x4x2048_d3 h_S_ (ix3 i h t)
    (minus_inf _) hs (ix4 i h t u) (drop_ix i h t u) hu
  refine ⟨r, ?_⟩
  unfold top
  rw [maximumf_at, hr, bcast_const _ _ _ _ minus_inf]
  exact max_eq_right bot_le

end Cert.Proof.Ref

end
-- ==== Proof.RefValue.lean ====
/- The reference's result at an index: the mean of the values by the exponentials of the scores, for real arguments. -/
module

public import proofs.«01_k».proof.Proof.Top
public import proofs.«01_k».proof.Proof.BlockValue

@[expose] public section

noncomputable section

namespace Cert.Proof.Ref

open Idealize.ShloMosaic Idealize.SL.Sem Cert.ReferenceIdeal Cert.ReferenceIdeal.Gen Idealize.ShloMosaic.TcCoe

/-- Row `t` of image `b`, among all token rows. -/
abbrev tok (b : Fin 32) (t : Fin 2048) : Fin 65536 := ⟨b.val * 2048 + t.val, by omega⟩
/-- Row `t` of image `b`'s context, among all context rows. -/
abbrev ctx (b : Fin 32) (t : Fin 256) : Fin 8192 := ⟨b.val * 256 + t.val, by omega⟩
/-- The 256 columns from column `o` of a row. -/
abbrev cols {n : ℕ} (P : Fin n → Fin 2944 → ℝ) (o : ℕ) (ho : o + 256 ≤ 2944) (r : Fin n) (x : Fin 256) : ℝ := P r ⟨o + x.val, by omega⟩
/-- A lane's place in its head. -/
abbrev inHead (l : Fin 256) : Fin 64 := ⟨l.val % 64, by omega⟩

theorem joined_apply (w : FVec Ideal S32x2048x4x64 .f32) (b : Fin 32) (t : Fin 2048) (l : Fin 256) :
    truncf .bf16 (shapeCast S65536x256 w shapeCasts_S32x2048x4x64_S65536x256) bitsLt_bf16_f32 (ix2 (tok b t) l) = w (ix4 b t (headOf l) (inHead l)) := by
  pointwise
  exact congrArg w (congrArg₂ (fun i j => ix4 i j (headOf l) (inHead l)) (Fin.ext (by show (b.val * 2048 + t.val) / 2048 = b.val; omega))
    (Fin.ext (by show (b.val * 2048 + t.val) % 2048 = t.val; omega)))

variable (a0 : FVec Ideal S65536x2944 .bf16) (a1 : FVec Ideal S8192x2944 .bf16) (a2 : FVec Ideal S4x15x31 .f32)
variable (P0 : Fin 65536 → Fin 2944 → ℝ) (P1 : Fin 8192 → Fin 2944 → ℝ)

theorem part_apply (h0 : ∀ r x, a0 (ix2 r x) = (P0 r x : EReal)) (o : ℕ) (ho : o + 256 ≤ 2944) (hs : S65536x2944.Slices ![0, o] S65536x256)
    (b : Fin 32) (t : Fin 2048) (e : Fin 4) (d : Fin 64) :
    part o hs a0 (ix4 b t e d) = (cols P0 o ho (tok b t) ⟨64 * e.val + d.val, by omega⟩ : EReal) := by
  unfold part
  pointwise
  rw [h0]
  exact congrArg (fun i => (P0 (tok b t) i : EReal)) (Fin.ext (by show o + (e.val * 64 + d.val) = o + (64 * e.val + d.val); omega))

theorem partCtx_apply (h1 : ∀ r x, a1 (ix2 r x) = (P1 r x : EReal)) (o : ℕ) (ho : o + 256 ≤ 2944) (hs : S8192x2944.Slices ![0, o] S8192x256)
    (b : Fin 32) (t : Fin 256) (e : Fin 4) (d : Fin 64) :
    partCtx o hs a1 (ix4 b t e d) = (cols P1 o ho (ctx b t) ⟨64 * e.val + d.val, by omega⟩ : EReal) := by
  unfold partCtx
  pointwise
  rw [h1]
  exact congrArg (fun i => (P1 (ctx b t) i : EReal)) (Fin.ext (by show o + (e.val * 64 + d.val) = o + (64 * e.val + d.val); omega))

theorem eighth_f32 : Ideal.ofBits FTy.f32 1040187392#32 = ((1 / 8 : ℝ) : EReal) := by
  simp [Ideal.ofBits, Ideal.ieee, -EReal.coe_mul]; norm_num

/-- The score of an image's own key. -/
def own (b : Fin 32) (h : Fin 4) (t u : Fin 2048) : EReal :=
  if mask (ix2 t u) = 1#1 then
    ((dotHead h (cols P0 1024 (by decide) (tok b t)) (cols P0 1280 (by decide) (tok b u)) * (1 / 8) : ℝ) : EReal) + bias a2 (ix3 h t u)
  else ⊥

/-- The score of a context key. -/
def other (b : Fin 32) (h : Fin 4) (t : Fin 2048) (u : Fin 256) : EReal :=
  ((dotHead h (cols P0 1024 (by decide) (tok b t)) (cols P1 1280 (by decide) (ctx b u)) * (1 / 8) : ℝ) : EReal)

theorem select_bit (c : BitVec 1) (x y : EReal) : Scalar.select c x y = if c = 1#1 then x else y := rfl

theorem winScores_apply (h0 : ∀ r x, a0 (ix2 r x) = (P0 r x : EReal)) (b : Fin 32) (h : Fin 4) (t u : Fin 2048) :
    winScores (part 1024 slices_S65536x2944_S65536x256_0_1024 a0) (part 1280 slices_S65536x2944_S65536x256_0_1280 a0) mask (bias a2) (ix4 b h t u)
      = own a2 P0 b h t u := by
  generalize hq : part 1024 slices_S65536x2944_S65536x256_0_1024 a0 = q
  generalize hk : part 1280 slices_S65536x2944_S65536x256_0_1280 a0 = k
  unfold own
  generalize mask = mk
  generalize bias a2 = bb
  unfold winScores
  pointwise
  have e : ∀ x, q (ix4 b t h x) * k (ix4 b u h x)
      = ((cols P0 1024 (by decide) (tok b t) ⟨64 * h.val + x.val, by omega⟩ * cols P0 1280 (by decide) (tok b u) ⟨64 * h.val + x.val, by omega⟩ : ℝ) : EReal) := fun x => by
    rw [← hq, ← hk, part_apply a0 P0 h0 _ (by decide), part_apply a0 P0 h0 _ (by decide), EReal.coe_mul]
  simp only [e, ← coe_sum, eighth_f32, ← EReal.coe_mul]
  rw [select_bit]
  refine if_congr Iff.rfl rfl ?_
  exact minus_inf _

theorem ctxScores_apply (h0 : ∀ r x, a0 (ix2 r x) = (P0 r x : EReal)) (h1 : ∀ r x, a1 (ix2 r x) = (P1 r x : EReal)) (b : Fin 32) (h : Fin 4) (t : Fin 2048) (u : Fin 256) :
    ctxScores (part 1024 slices_S65536x2944_S65536x256_0_1024 a0) (partCtx 1280 slices_S8192x2944_S8192x256_0_1280 a1) (ix4 b h t u)
      = other P0 P1 b h t u := by
  generalize hq : part 1024 slices_S65536x2944_S65536x256_0_1024 a0 = q
  generalize hk : partCtx 1280 slices_S8192x2944_S8192x256_0_1280 a1 = k
  unfold ctxScores
  pointwise
  have e : ∀ x, q (ix4 b t h x) * k (ix4 b u h x)
      = ((cols P0 1024 (by decide) (tok b t) ⟨64 * h.val + x.val, by omega⟩ * cols P1 1280 (by decide) (ctx b u) ⟨64 * h.val + x.val, by omega⟩ : ℝ) : EReal) := fun x => by
    rw [← hq, ← hk, part_apply a0 P0 h0 _ (by decide), partCtx_apply a1 P1 h1 _ (by decide), EReal.coe_mul]
  simp only [e, ← coe_sum, eighth_f32, ← EReal.coe_mul]
  rfl

/-- The image's own keys and the context's, numbered together. -/
def keys : Fin 2048 ⊕ Fin 256 ≃ Fin 2304 := finSumFinEquiv (m := 2048) (n := 256)

theorem scores_own (w : FVec Ideal S32x4x2048x2048 .f32) (c : FVec Ideal S32x4x2048x256 .f32) (b : Fin 32) (h : Fin 4) (t u : Fin 2048) :
    scores w c (ix4 b h t (keys (.inl u))) = w (ix4 b h t u) := by
  unfold scores
  pointwise
  rw [dif_pos (show (keys (.inl u)).val < 2048 from u.isLt)]
  rfl

theorem scores_other (w : FVec Ideal S32x4x2048x2048 .f32) (c : FVec Ideal S32x4x2048x256 .f32) (b : Fin 32) (h : Fin 4) (t : Fin 2048) (u : Fin 256) :
    scores w c (ix4 b h t (keys (.inr u))) = c (ix4 b h t u) := by
  unfold scores
  pointwise
  have e : (keys (.inr u)).val = 2048 + u.val := rfl
  rw [dif_neg (show ¬ (keys (.inr u)).val < 2048 by omega)]
  exact congrArg (fun i => c (ix4 b h t i)) (Fin.ext (by show (keys (.inr u)).val - 2048 = u.val; omega))

end Cert.Proof.Ref

end
-- ==== Proof.RefOut.lean ====
/- The reference's softmax and weighted values at an index, and so its result. -/
module

public import proofs.«01_k».proof.Proof.RefValue

@[expose] public section

noncomputable section

namespace Cert.Proof.Ref

open Idealize.ShloMosaic Idealize.SL.Sem Cert.ReferenceIdeal Cert.ReferenceIdeal.Gen Idealize.ShloMosaic.TcCoe

theorem total_apply (w : FVec Ideal S32x4x2048x2304 .f32) (b : Fin 32) (h : Fin 4) (t : Fin 2048) :
    total w (ix3 b h t) = ∑ x : Fin 2304, (w (ix4 b h t x) : EReal) := by
  unfold total
  pointwise

theorem weights_apply (s : FVec Ideal S32x4x2048x2304 .f32) (g : FVec Ideal S32x4x2048 .f32) (b : Fin 32) (h : Fin 4) (t : Fin 2048) (u : Fin 2304) :
    weights s g (ix4 b h t u) = Ideal.exp ((s (ix4 b h t u) : EReal) - g (ix3 b h t)) := by
  unfold weights along
  pointwise

theorem probs_apply (w : FVec Ideal S32x4x2048x2304 .f32) (g : FVec Ideal S32x4x2048 .f32) (b : Fin 32) (h : Fin 4) (t : Fin 2048) (u : Fin 2304) :
    probs w g (ix4 b h t u) = Ideal.div (w (ix4 b h t u) : EReal) (g (ix3 b h t)) := by
  unfold probs along
  pointwise

theorem weigh_apply (p : FVec Ideal S32x4x2048x2304 .f32) (v : FVec Ideal S32x2048x4x64 .f32) (w : FVec Ideal S32x256x4x64 .f32)
    (b : Fin 32) (t : Fin 2048) (h : Fin 4) (d : Fin 64) :
    weigh p v w (ix4 b t h d)
      = ∑ x : Fin 2048, (p (ix4 b h t (keys (.inl x))) : EReal) * v (ix4 b x h d) + ∑ x : Fin 256, (p (ix4 b h t (keys (.inr x))) : EReal) * w (ix4 b x h d) := by
  unfold weigh
  pointwise
  congr 1
  · exact Finset.sum_congr rfl fun x _ => mul_comm _ _
  · exact Finset.sum_congr rfl fun x _ => mul_comm _ _

/-- The weighted values are the mean of the values by the exponentials of the scores. -/
theorem weigh_softmax (s : FVec Ideal S32x4x2048x2304 .f32) (v : FVec Ideal S32x2048x4x64 .f32) (w : FVec Ideal S32x256x4x64 .f32)
    (b : Fin 32) (t : Fin 2048) (h : Fin 4) (d : Fin 64) (S : Fin 2048 ⊕ Fin 256 → EReal) (hS : ∀ i, s (ix4 b h t (keys i)) = S i)
    (V : Fin 2048 → ℝ) (W : Fin 256 → ℝ) (hV : ∀ x, v (ix4 b x h d) = (V x : EReal)) (hW : ∀ x, w (ix4 b x h d) = (W x : EReal))
    (hs : ∀ k, s k ≠ (⊤ : EReal)) (r : ℝ) (hr : S (.inr 0) = (r : EReal)) :
    weigh (softmax s) v w (ix4 b t h d) = (mix S (Sum.elim V W) : ℝ) := by
  obtain ⟨m, hm⟩ := top_real s b h t hs (keys (.inr 0)) (by rw [hS, hr]; exact EReal.coe_ne_bot r)
  have e : ∀ i, softmax s (ix4 b h t (keys i)) = Ideal.div (Ideal.exp (S i - m)) (∑ j, Ideal.exp (S j - m)) := fun i => by
    unfold softmax
    rw [probs_apply, total_apply, weights_apply, hS, hm]
    refine congrArg (Ideal.div _) ?_
    rw [← keys.sum_comp]
    exact Finset.sum_congr rfl fun j _ => by rw [weights_apply, hS, hm]
  have hp : 0 < wt (S (.inr 0)) := by rw [hr, wt_coe]; exact Real.exp_pos r
  have hpos : 0 < ∑ i, wt (S i) := hp.trans_le (Finset.single_le_sum (f := fun i => wt (S i)) (fun i _ => wt_nonneg _) (Finset.mem_univ (Sum.inr 0)))
  have hne : ∀ i, S i ≠ ⊤ := fun i => by rw [← hS]; exact hs _
  rw [weigh_apply, ← mix_of_softmax S (Sum.elim V W) hne hpos m, Fintype.sum_sum_type]
  simp only [e, hV, hW, Sum.elim_inl, Sum.elim_inr]

/-- The scores are below +∞. -/
theorem own_ne_top (a2 : FVec Ideal S4x15x31 .f32) (P0 : Fin 65536 → Fin 2944 → ℝ) (b : Fin 32) (h : Fin 4) (t u : Fin 2048)
    (hb : bias a2 (ix3 h t u) ≠ (⊤ : EReal)) : own a2 P0 b h t u ≠ ⊤ := by
  unfold own
  split
  · exact EReal.add_ne_top (EReal.coe_ne_top _) hb
  · exact bot_ne_top

variable (a0 : FVec Ideal S65536x2944 .bf16) (a1 : FVec Ideal S8192x2944 .bf16) (a2 : FVec Ideal S4x15x31 .f32)
variable (P0 : Fin 65536 → Fin 2944 → ℝ) (P1 : Fin 8192 → Fin 2944 → ℝ)

theorem allScores_apply (h0 : ∀ r x, a0 (ix2 r x) = (P0 r x : EReal)) (h1 : ∀ r x, a1 (ix2 r x) = (P1 r x : EReal)) (b : Fin 32) (h : Fin 4) (t : Fin 2048)
    (i : Fin 2048 ⊕ Fin 256) : allScores a0 a1 a2 (ix4 b h t (keys i)) = Sum.elim (own a2 P0 b h t) (other P0 P1 b h t) i := by
  unfold allScores
  rcases i with u | u
  · rw [scores_own, winScores_apply a0 a2 P0 h0]; rfl
  · rw [scores_other, ctxScores_apply a0 a1 P0 P1 h0 h1]; rfl

/-- The reference's result at an image's row and a lane. -/
theorem out_apply (h0 : ∀ r x, a0 (ix2 r x) = (P0 r x : EReal)) (h1 : ∀ r x, a1 (ix2 r x) = (P1 r x : EReal))
    (hb : ∀ h t u, bias a2 (ix3 h t u) ≠ (⊤ : EReal)) (b : Fin 32) (t : Fin 2048) (l : Fin 256) :
    out a0 a1 a2 (ix2 (tok b t) l)
      = (mix (Sum.elim (own a2 P0 b (headOf l) t) (other P0 P1 b (headOf l) t))
          (Sum.elim (fun u => cols P0 1536 (by decide) (tok b u) l) (fun u => cols P1 1536 (by decide) (ctx b u) l)) : ℝ) := by
  unfold out
  rw [joined_apply]
  have hl : (⟨64 * (headOf l).val + (inHead l).val, by omega⟩ : Fin 256) = l := Fin.ext (by show 64 * (l.val / 64) + l.val % 64 = l.val; omega)
  refine weigh_softmax _ _ _ _ _ _ _ _ (allScores_apply a0 a1 a2 P0 P1 h0 h1 b (headOf l) t) _ _
    (fun x => by rw [part_apply a0 P0 h0 _ (by decide), hl]) (fun x => by rw [partCtx_apply a1 P1 h1 _ (by decide), hl]) ?_ _ rfl
  intro k
  obtain ⟨b', h', t', x, rfl⟩ : ∃ b' h' t' x, k = ix4 b' h' t' x := ⟨k 0, k 1, k 2, k 3, by funext d; fin_cases d <;> rfl⟩
  obtain ⟨i, rfl⟩ := keys.surjective x
  rw [allScores_apply a0 a1 a2 P0 P1 h0 h1]
  rcases i with u | u
  · exact own_ne_top a2 P0 b' h' t' u (hb _ _ _)
  · exact EReal.coe_ne_top _

end Cert.Proof.Ref

end
-- ==== Proof.RefBias.lean ====
/- The reference's mask and bias at a query and a key, in the words of its tables. -/
module

public import proofs.«01_k».proof.Proof.RefOut
public import proofs.«01_k».proof.Proof.Gathers

@[expose] public section

noncomputable section

namespace Cert.Proof.Ref

open Idealize.ShloMosaic Idealize.SL.Sem Cert.ReferenceIdeal Cert.ReferenceIdeal.Gen Idealize.ShloMosaic.TcCoe

/-- The entry of query row `a` and key row `b` in the tables over rows, and of the columns in those over columns. -/
abbrev atRow (a b : Fin 32) : Fin 1024 := ⟨a.val * 32 + b.val, by omega⟩
@[inherit_doc atRow] abbrev atCol (a b : Fin 64) : Fin 4096 := ⟨a.val * 64 + b.val, by omega⟩
/-- The image row and column of a token. -/
abbrev rowOf (t : Fin 2048) : Fin 32 := ⟨t.val / 64, by omega⟩
@[inherit_doc rowOf] abbrev colOf (t : Fin 2048) : Fin 64 := ⟨t.val % 64, by omega⟩
/-- A difference word as an index. -/
abbrev rowDiff (w : BitVec 32) : Fin 15 := ⟨min w.toInt.toNat 14, by omega⟩
@[inherit_doc rowDiff] abbrev colDiff (w : BitVec 32) : Fin 31 := ⟨min w.toInt.toNat 30, by omega⟩

theorem mask_apply (t u : Fin 2048) :
    mask (ix2 t u) = IntOp.andi (lit0 (atRow (rowOf t) (rowOf u))) (lit1 (atCol (colOf t) (colOf u))) := by
  unfold mask
  pointwise
  exact congrArg₂ IntOp.andi (congrArg lit0 (Fin.ext (Shape.rowMajor_val_two _))) (congrArg lit1 (Fin.ext (Shape.rowMajor_val_two _)))

theorem rowIdx_apply (a b : Fin 32) : rowIdx (ix3 a b 0) = lit2 (atRow a b) := by
  unfold rowIdx
  pointwise
  exact congrArg lit2 (Fin.ext (Shape.rowMajor_val_two _))

theorem colIdx_apply (a b : Fin 64) : colIdx (ix3 a b 0) = lit3 (atCol a b) := by
  unfold colIdx
  pointwise
  exact congrArg lit3 (Fin.ext (Shape.rowMajor_val_two _))

theorem bias_apply (a2 : FVec Ideal S4x15x31 .f32) (h : Fin 4) (t u : Fin 2048) :
    bias a2 (ix3 h t u) = a2 (ix3 h (rowDiff (lit2 (atRow (rowOf t) (rowOf u)))) (colDiff (lit3 (atCol (colOf t) (colOf u))))) := by
  have e : bias a2 (ix3 h t u) = gathered a2 (ix5 h (rowOf t) (rowOf u) (colOf t) (colOf u)) := by
    unfold bias
    generalize gathered a2 = g
    pointwise
  rw [e]
  unfold gathered
  rw [gather_colsOf, gather_rowsOf]
  exact congrArg₂ (fun w v => a2 (ix3 h (rowDiff w) (colDiff v))) (rowIdx_apply _ _) (colIdx_apply _ _)

end Cert.Proof.Ref

end
-- ==== Proof.Compare.lean ====
/- The kernel's result array is the reference's: outside a block's window the mask leaves nothing, inside it the two agree. -/
module

public import proofs.«01_k».proof.Proof.KerValue
public import proofs.«01_k».proof.Proof.RefBias

@[expose] public section

noncomputable section

namespace Cert.Proof

open Idealize.ShloMosaic Idealize.SL.Sem Cert.KernelIdeal Cert.KernelIdeal.Gen Idealize.ShloMosaic.TcCoe

section
variable (j : Fin 8) (r : Fin 256) (u : Fin 768)

theorem row_at (n : ℕ) (hn : n < 32) (hn' : (4 * j.val + r.val / 64) * 32 + n < 1024) (k : Fin 2048) (hk : k.val / 64 = n) :
    (⟨(4 * j.val + (⟨r.val / 64, by omega⟩ : Fin 4).val) * 32 + n, hn'⟩ : Fin 1024) = Ref.atRow (Ref.rowOf (blkRow j r)) (Ref.rowOf k) :=
  Fin.ext (by
    show (4 * j.val + r.val / 64) * 32 + n = (256 * j.val + r.val) / 64 * 32 + k.val / 64
    have : (256 * j.val + r.val) / 64 = 4 * j.val + r.val / 64 := by omega
    rw [this, hk])

theorem win_div : (winRow j u).val / 64 = (firstRow j).val + u.val / 64 := by
  show (64 * (firstRow j).val + u.val) / 64 = _; omega

theorem row_words :
    lit3 (flatRow (patOf j) ⟨r.val / 64, by omega⟩ ⟨u.val / 64, by omega⟩)
        = Cert.ReferenceIdeal.lit2 (Ref.atRow (Ref.rowOf (blkRow j r)) (Ref.rowOf (winRow j u)))
    ∧ lit1 (flatRow (patOf j) ⟨r.val / 64, by omega⟩ ⟨u.val / 64, by omega⟩)
        = Cert.ReferenceIdeal.lit0 (Ref.atRow (Ref.rowOf (blkRow j r)) (Ref.rowOf (winRow j u))) := by
  have h := row_eq j ⟨r.val / 64, by omega⟩ ⟨u.val / 64, by omega⟩
  have e := row_at j r ((firstRow j).val + u.val / 64) (by omega) (by omega) (winRow j u) (win_div j u)
  exact ⟨h.1.trans (congrArg Cert.ReferenceIdeal.lit2 e), h.2.trans (congrArg Cert.ReferenceIdeal.lit0 e)⟩

theorem col_words :
    lit0 (flatCol ⟨r.val % 64, by omega⟩ ⟨u.val % 64, by omega⟩)
        = Cert.ReferenceIdeal.lit3 (Ref.atCol (Ref.colOf (blkRow j r)) (Ref.colOf (winRow j u)))
    ∧ lit2 (flatCol ⟨r.val % 64, by omega⟩ ⟨u.val % 64, by omega⟩)
        = Cert.ReferenceIdeal.lit1 (Ref.atCol (Ref.colOf (blkRow j r)) (Ref.colOf (winRow j u))) := by
  have h := col_eq (flatCol ⟨r.val % 64, by omega⟩ ⟨u.val % 64, by omega⟩)
  have e : flatCol ⟨r.val % 64, by omega⟩ ⟨u.val % 64, by omega⟩ = Ref.atCol (Ref.colOf (blkRow j r)) (Ref.colOf (winRow j u)) :=
    Fin.ext (by
      show r.val % 64 * 64 + u.val % 64 = (256 * j.val + r.val) % 64 * 64 + (64 * (firstRow j).val + u.val) % 64
      omega)
  exact ⟨h.1.trans (congrArg Cert.ReferenceIdeal.lit3 e), h.2.trans (congrArg Cert.ReferenceIdeal.lit1 e)⟩

/-- A key outside the window is masked. -/
theorem mask_out (k : Fin 2048) (hk : ¬ (64 * (firstRow j).val ≤ k.val ∧ k.val < 64 * (firstRow j).val + 768)) :
    Ref.mask (ix2 (blkRow j r) k) ≠ 1#1 := by
  have h := row_out j ⟨r.val / 64, by omega⟩ ⟨k.val / 64, by omega⟩ (by
    show ¬ ((firstRow j).val ≤ k.val / 64 ∧ k.val / 64 < (firstRow j).val + 12); omega)
  have e := row_at j r (k.val / 64) (by omega) (by omega) k rfl
  rw [Ref.mask_apply, ← e]
  intro h'
  exact absurd (h.symm.trans (IntOp.andi_eq_one.1 h').1) (by decide)

end

/-- The two result arrays are equal where the arguments are real numbers. -/
theorem result_eq (m : (ℓ : Loc nD τ sig) → Buf (Elt Ideal) ℓ) (c : Dev nD)
    (f0 : ∀ i, ∃ x : ℝ, m ((c : Thread nD τ).loc main_arg0) i = (x : EReal)) (f1 : ∀ i, ∃ x : ℝ, m ((c : Thread nD τ).loc main_arg1) i = (x : EReal))
    (f2 : ∀ i, ∃ x : ℝ, m ((c : Thread nD τ).loc main_arg2) i = (x : EReal)) :
    ∀ y : S65536x256.Idx, ((dats m 0 c).arrAt 6 cfg0.N y : EReal)
      = Ref.out (F := Ideal) (m ((c : Thread nD τ).loc main_arg0)) (m ((c : Thread nD τ).loc main_arg1)) (m ((c : Thread nD τ).loc main_arg2)) y := by
  choose g0 h0 using f0
  choose g1 h1 using f1
  have h2 : ∀ i, m ((c : Thread nD τ).loc main_arg2) i ≠ (⊤ : EReal) := fun i => by
    obtain ⟨x, hx⟩ := f2 i
    rw [hx]; exact EReal.coe_ne_top x
  have hp := points
  intro y
  obtain ⟨t, j, r, l, rfl⟩ : ∃ (t : Fin grid0.N) (j : Fin 8) (r l : Fin 256), y = ix2 (imgRow t (blkRow j r)) l := by
    obtain ⟨R, l, rfl⟩ : ∃ (R : Fin 65536) (l : Fin 256), y = ix2 R l := ⟨y 0, y 1, by funext d; fin_cases d <;> rfl⟩
    exact ⟨⟨R.val / 2048, by omega⟩, ⟨R.val % 2048 / 256, by omega⟩, ⟨R.val % 256, by omega⟩, l,
      congrArg (fun R => ix2 R l) (Fin.ext (by show R.val = R.val / 2048 * 2048 + (256 * (R.val % 2048 / 256) + R.val % 256); omega))⟩
  refine (result_apply m c (fun a x => g0 (ix2 a x)) (fun a x => g1 (ix2 a x)) (fun a x => h0 _) (fun a x => h1 _) h2 t j r l).trans ?_
  refine Eq.symm ((Ref.out_apply _ _ _ (fun a x => g0 (ix2 a x)) (fun a x => g1 (ix2 a x)) (fun a x => h0 _) (fun a x => h1 _)
    (fun h t u => by rw [Ref.bias_apply]; exact h2 _) ⟨t.val, by omega⟩ (blkRow j r) l).trans ?_)
  refine congrArg (fun x : ℝ => (x : EReal)) ?_
  have hf := (firstRow j).isLt
  refine mix_window (o := 64 * (firstRow j).val) (n := 768) (by omega) _ _ _ _ _ _ _ _ ?_ ?_ (fun u => rfl) (fun u => rfl) (fun u => rfl)
  · intro k hk
    unfold Ref.own
    rw [if_neg (mask_out j r k hk)]
  · intro u
    show Ref.own _ _ _ _ (blkRow j r) (winRow j u) = _
    rw [table_apply, (row_words j r u).1, (row_words j r u).2, (col_words j r u).1, (col_words j r u).2]
    unfold Ref.own winS
    rw [Ref.mask_apply, Ref.bias_apply]
    by_cases hc : Cert.ReferenceIdeal.lit0 (Ref.atRow (Ref.rowOf (blkRow j r)) (Ref.rowOf (winRow j u))) = 1#1
        ∧ Cert.ReferenceIdeal.lit1 (Ref.atCol (Ref.colOf (blkRow j r)) (Ref.colOf (winRow j u))) = 1#1
    · rw [if_pos hc, if_pos (IntOp.andi_eq_one.2 hc)]
    · rw [if_neg hc, if_neg (fun h => hc (IntOp.andi_eq_one.1 h)), EReal.add_bot]

end Cert.Proof

end
-- ==== Proof.FfnBlock.lean ====
/- The feed-forward body in named stages, each written once: the mixed residual, the normed rows, and one chunk of 256
   hidden units. The body's store is the residual plus the gated sum of eleven chunks. -/
module

public import proofs.«01_k».proof.Proof.Gen.KernelFfnIdeal.Value

@[expose] public section

noncomputable section

namespace Cert.Proof.Ffn

open Idealize.ShloMosaic Idealize.SL.Sem Cert.KernelFfnIdeal Cert.KernelFfnIdeal.Gen Idealize.ShloMosaic.TcCoe

variable {F : FTy → Type} [FloatOps F]

/-- One row of the modulation, on every row of a block. -/
def along (v : FVec F S1x1x1024 .f32) : FVec F S512x1024 .f32 :=
  broadcastTo S512x1024 (shapeCast S1x1024 v shapeCasts_S1x1x1024_S1x1024) broadcasts_S1x1024_S512x1024

/-- One head group's part of the output projection. -/
def partProd (a : FVec F S512x256 .bf16) (w : FVec F S256x1024 .bf16) : FVec F S512x1024 .f32 :=
  matmul dot_S512x256_S256x1024_S512x1024_1_0_0_1_n_n none a (shapeCast S256x1024 w shapeCasts_S256x1024_S256x1024) (constant S512x1024 .f32 0x00000000#32)

/-- The hidden units' products with 256 columns of a weight. -/
def hidden (h : FVec F S512x1024 .bf16) (w : FVec F S1024x256 .bf16) : FVec F S512x256 .f32 :=
  matmul dot_S512x1024_S1024x256_S512x256_1_0_0_1_n_n none h (shapeCast S1024x256 w shapeCasts_S1024x256_S1024x256) (constant S512x256 .f32 0x00000000#32)

/-- 256 hidden units' contribution. -/
def chunk (h : FVec F S512x1024 .bf16) (wg wu : FVec F S1024x256 .bf16) (wd : FVec F S256x1024 .bf16) : FVec F S512x1024 .f32 :=
  partProd (truncf .bf16 (mulf (mulf (hidden h wg) (logistic (hidden h wg))) (hidden h wu)) bitsLt_bf16_f32) wd

/-- Rows after normalization, scale and shift. -/
def normed (x : FVec F S512x1024 .f32) (g : FVec F S1x1024 .f32) (scale shift : FVec F S1x1x1024 .f32) : FVec F S512x1024 .bf16 :=
  truncf .bf16 (addf (mulf (mulf (mulf x (broadcastTo S512x1024 (rsqrt (addf (divf (shapeCast S512x1 (multiReduction .add [1] S512 (mulf x x) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 scale shapeCasts_S1x1x1024_S1x1024)) broadcasts_S1x1024_S512x1024))
    (along shift)) bitsLt_bf16_f32

section
variable (x0 : Vec F S512x1024 .f32) (x1 : Vec F S1x1024 .f32) (x2 : Vec F S1x6x1024 .f32) (x3 : Vec F S1024x1024 .bf16) (x4 : Vec F S1024x5632 .bf16) (x5 : Vec F S2816x1024 .bf16) (x6 x7 x8 x9 : Vec F S512x256 .bf16)

theorem mod_le : ∀ k : Fin 6, ∀ a, (![0, k.val, 0] : Fin 3 → ℕ) a + S1x1x1024.size a ≤ S1x6x1024.size a := by decide
theorem out_le : ∀ k : Fin 4, ∀ a, (![256 * k.val, 0] : Fin 2 → ℕ) a + S256x1024.size a ≤ S1024x1024.size a := by decide
theorem gate_le : ∀ c : Fin 11, ∀ a, (![0, 256 * c.val] : Fin 2 → ℕ) a + S1024x256.size a ≤ S1024x5632.size a := by decide
theorem up_le : ∀ c : Fin 11, ∀ a, (![0, 2816 + 256 * c.val] : Fin 2 → ℕ) a + S1024x256.size a ≤ S1024x5632.size a := by decide
theorem down_le : ∀ c : Fin 11, ∀ a, (![256 * c.val, 0] : Fin 2 → ℕ) a + S256x1024.size a ≤ S2816x1024.size a := by decide

/-- Row `k` of the image's modulation. -/
def modAt (k : Fin 6) : FVec F S1x1x1024 .f32 := View.ld x2 (Rect.unit ![0, k.val, 0] S1x1x1024.size (mod_le k))
/-- The output projection's rows of head group `k`. -/
def outAt (k : Fin 4) : FVec F S256x1024 .bf16 := View.ld x3 (Rect.unit ![256 * k.val, 0] S256x1024.size (out_le k))

/-- The residual's block, one head group's block, and the gain, as loaded. -/
def resAt : FVec F S512x1024 .f32 := View.ld x0 r0_0
@[inherit_doc resAt] def partAt : FVec F S512x256 .bf16 := View.ld x6 r0_1
@[inherit_doc resAt] def gainAt : FVec F S1x1024 .f32 := View.ld x1 r0_7
/-- Chunk `c`'s columns of the gate weight, and of the other hidden weight, and its rows of the last weight. -/
def gateAt (c : Fin 11) : FVec F S1024x256 .bf16 := View.ld x4 (Rect.unit ![0, 256 * c.val] S1024x256.size (gate_le c))
@[inherit_doc gateAt] def upAt (c : Fin 11) : FVec F S1024x256 .bf16 := View.ld x4 (Rect.unit ![0, 2816 + 256 * c.val] S1024x256.size (up_le c))
@[inherit_doc gateAt] def downAt (c : Fin 11) : FVec F S256x1024 .bf16 := View.ld x5 (Rect.unit ![256 * c.val, 0] S256x1024.size (down_le c))

/-- Chunk `c` of the hidden units. -/
def chunkAt (h : FVec F S512x1024 .bf16) (c : Fin 11) : FVec F S512x1024 .f32 :=
  chunk h (gateAt x4 c) (upAt x4 c) (downAt x5 c)

/-- The residual with the mixed head groups. -/
def mixed : FVec F S512x1024 .f32 :=
  addf (resAt x0) (mulf (along (modAt x2 2))
    (addf (addf (addf (partProd (partAt x6) (outAt x3 0)) (partProd (partAt x7) (outAt x3 1))) (partProd (partAt x8) (outAt x3 2))) (partProd (partAt x9) (outAt x3 3))))

/-- The normed rows. -/
def rows : FVec F S512x1024 .bf16 := normed (mixed x0 x2 x3 x6 x7 x8 x9) (gainAt x1) (modAt x2 4) (modAt x2 3)

/-- The eleven chunks, added in order. -/
def chunks (h : FVec F S512x1024 .bf16) : FVec F S512x1024 .f32 :=
  addf (addf (addf (addf (addf (addf (addf (addf (addf (addf (chunkAt x4 x5 h 0) (chunkAt x4 x5 h 1)) (chunkAt x4 x5 h 2)) (chunkAt x4 x5 h 3)) (chunkAt x4 x5 h 4))
    (chunkAt x4 x5 h 5)) (chunkAt x4 x5 h 6)) (chunkAt x4 x5 h 7)) (chunkAt x4 x5 h 8)) (chunkAt x4 x5 h 9)) (chunkAt x4 x5 h 10)

/-- What the body stores. -/
def stored : FVec F S512x1024 .f32 :=
  addf (mixed x0 x2 x3 x6 x7 x8 x9) (mulf (along (modAt x2 5)) (chunks x4 x5 (rows x0 x1 x2 x3 x6 x7 x8 x9)))

theorem stored_eq : out0_10 x0 x1 x2 x3 x4 x5 x6 x7 x8 x9 = View.canon [⟨r0_0, stored x0 x1 x2 x3 x4 x5 x6 x7 x8 x9⟩] := rfl
end

end Cert.Proof.Ffn

end
-- ==== Proof.Rows.lean ====
/- Functions of one token's row over the extended reals, shared by the kernel's and the reference's readings: the residual
   after a projection, the normed row, a gated hidden unit; and sums taken block by block. -/
module

public import Idealize.ShloMosaic.PureOps.Ideal

@[expose] public section

noncomputable section

namespace Cert.Proof.Rows

open Idealize.ShloMosaic

/-- Place `x` of block `c`. -/
abbrev place {n k : ℕ} (c : Fin n) (x : Fin k) : Fin (n * k) :=
  ⟨k * c.val + x.val, by
    have h := Nat.mul_le_mul_left k (Nat.succ_le_of_lt c.isLt)
    rw [Nat.mul_comm n k]; rw [Nat.mul_succ] at h; omega⟩

/-- Place `x` of group `c` of a row of 1024. -/
abbrev inGroup (c : Fin 4) (x : Fin 256) : Fin 1024 := place c x
/-- Unit `x` of chunk `c` of the hidden units. -/
abbrev inChunk (c : Fin 11) (x : Fin 256) : Fin 2816 := place c x

/-- A sum over all places is the sum of the blocks' sums. -/
theorem sum_blocks {n k : ℕ} (f : Fin (n * k) → EReal) : ∑ i, f i = ∑ c : Fin n, ∑ x : Fin k, f (place c x) := by
  rw [← Fintype.sum_prod_type' (f := fun c x => f (place c x))]
  refine (Fintype.sum_equiv finProdFinEquiv _ _ fun p => congrArg f (Fin.ext ?_)).symm
  show k * p.1.val + p.2.val = p.2.val + k * p.1.val
  omega

theorem sum_four (f : Fin 4 → EReal) : ∑ c, f c = f 0 + f 1 + f 2 + f 3 := Fin.sum_univ_four f

theorem sum_eleven (f : Fin 11 → EReal) : ∑ c, f c = f 0 + f 1 + f 2 + f 3 + f 4 + f 5 + f 6 + f 7 + f 8 + f 9 + f 10 := by
  simp only [Fin.sum_univ_castSucc, Fin.sum_univ_zero, zero_add]
  rfl

/-- A row over its root mean square, by the gain `g`, scaled and shifted. -/
def normed (x g scale shift : Fin 1024 → EReal) (l : Fin 1024) : EReal :=
  x l * Ideal.rsqrt (Ideal.div (∑ k, x k * x k) (Ideal.ofBits FTy.f32 0x44800000#32) + Ideal.ofBits FTy.f32 0x358637BD#32) * g l * (1 + scale l) + shift l

/-- A hidden unit: the gate's product by its logistic, times the other product. -/
def gated (h a b : Fin 1024 → EReal) : EReal := (∑ x, h x * a x) * Ideal.logistic (∑ x, h x * a x) * ∑ x, h x * b x

/-- Four groups of 256, as one row. -/
def joined (p : Fin 4 → Fin 256 → EReal) (k : Fin 1024) : EReal := p ⟨k.val / 256, by omega⟩ ⟨k.val % 256, by omega⟩

theorem joined_group (p : Fin 4 → Fin 256 → EReal) (c : Fin 4) (x : Fin 256) : joined p (inGroup c x) = p c x :=
  congrArg₂ p (Fin.ext (by show (256 * c.val + x.val) / 256 = c.val; omega)) (Fin.ext (by show (256 * c.val + x.val) % 256 = x.val; omega))

/-- The residual with the four groups, projected and gated. -/
def residual (x gate : Fin 1024 → EReal) (p : Fin 4 → Fin 256 → EReal) (w : Fin 1024 → Fin 1024 → EReal) (l : Fin 1024) : EReal :=
  x l + gate l * ∑ k, joined p k * w k l

/-- The groups' products with their rows of the weight add up to the joined row's product. -/
theorem sum_groups (p : Fin 4 → Fin 256 → EReal) (w : Fin 1024 → EReal) :
    ∑ x, p 0 x * w (inGroup 0 x) + ∑ x, p 1 x * w (inGroup 1 x) + ∑ x, p 2 x * w (inGroup 2 x) + ∑ x, p 3 x * w (inGroup 3 x) = ∑ k, joined p k * w k := by
  rw [show ∑ k, joined p k * w k = ∑ c : Fin 4, ∑ x : Fin 256, joined p (inGroup c x) * w (inGroup c x) from sum_blocks (n := 4) (k := 256) fun k => joined p k * w k]
  simp only [joined_group]
  exact (sum_four fun c => ∑ x, p c x * w (inGroup c x)).symm

/-- Unit `k`'s column in the second half of the hidden weight. -/
abbrev upper (k : Fin 2816) : Fin 5632 := ⟨2816 + k.val, by omega⟩
/-- Unit `k`'s column in the first half. -/
abbrev lower (k : Fin 2816) : Fin 5632 := ⟨k.val, by omega⟩

/-- The feed-forward part of a row: all hidden units, gated, projected back and added to the residual. -/
def feed (x h gate : Fin 1024 → EReal) (w : Fin 1024 → Fin 5632 → EReal) (d : Fin 2816 → Fin 1024 → EReal) (l : Fin 1024) : EReal :=
  x l + gate l * ∑ k, gated h (fun j => w j (lower k)) (fun j => w j (upper k)) * d k l

/-- One layer's dense part of a token's row. -/
def dense (x g gate1 shift scale gate2 : Fin 1024 → EReal) (p : Fin 4 → Fin 256 → EReal) (wo : Fin 1024 → Fin 1024 → EReal)
    (w : Fin 1024 → Fin 5632 → EReal) (d : Fin 2816 → Fin 1024 → EReal) : Fin 1024 → EReal :=
  feed (residual x gate1 p wo) (normed (residual x gate1 p wo) g scale shift) gate2 w d

end Cert.Proof.Rows

end
-- ==== Proof.FfnValue.lean ====
/- The feed-forward body's stored block at a row and lane, from the contents of its input blocks. -/
module

public import proofs.«01_k».proof.Proof.FfnBlock
public import proofs.«01_k».proof.Proof.Rows
public import Idealize.ShloMosaic.Lib.Pointwise
public import Idealize.ShloMosaic.Lib.Pipeline.ValueKit.Tiles

@[expose] public section

noncomputable section

namespace Cert.Proof.Ffn

open Idealize.ShloMosaic Idealize.SL.Sem Cert.KernelFfnIdeal Cert.KernelFfnIdeal.Gen Idealize.ShloMosaic.TcCoe
open Cert.Proof.Rows (inGroup inChunk upper lower sum_blocks sum_groups sum_eleven)

theorem partProd_at (a : FVec Ideal S512x256 .bf16) (w : FVec Ideal S256x1024 .bf16) (r : Fin 512) (l : Fin 1024) :
    partProd a w (ix2 r l) = ∑ x, a (ix2 r x) * w (ix2 x l) := by
  unfold partProd; pointwise

theorem along_at (v : FVec Ideal S1x1x1024 .f32) (r : Fin 512) (l : Fin 1024) : along v (ix2 r l) = v (ix3 0 0 l) := by
  unfold along; pointwise

theorem chunk_at (h : FVec Ideal S512x1024 .bf16) (wg wu : FVec Ideal S1024x256 .bf16) (wd : FVec Ideal S256x1024 .bf16) (r : Fin 512) (l : Fin 1024) :
    chunk h wg wu wd (ix2 r l) = ∑ x, Rows.gated (fun j => h (ix2 r j)) (fun j => wg (ix2 j x)) (fun j => wu (ix2 j x)) * wd (ix2 x l) := by
  unfold chunk partProd hidden; pointwise; rfl

theorem normed_at (x : FVec Ideal S512x1024 .f32) (g : FVec Ideal S1x1024 .f32) (scale shift : FVec Ideal S1x1x1024 .f32) (r : Fin 512) (l : Fin 1024) :
    normed x g scale shift (ix2 r l)
      = Rows.normed (fun k => x (ix2 r k)) (fun k => g (ix2 0 k)) (fun k => scale (ix3 0 0 k)) (fun k => shift (ix3 0 0 k)) l := by
  unfold normed along; pointwise; rfl

section
variable (x0 : Vec Ideal S512x1024 .f32) (x1 : Vec Ideal S1x1024 .f32) (x2 : Vec Ideal S1x6x1024 .f32) (x3 : Vec Ideal S1024x1024 .bf16) (x4 : Vec Ideal S1024x5632 .bf16) (x5 : Vec Ideal S2816x1024 .bf16) (x6 x7 x8 x9 : Vec Ideal S512x256 .bf16)

theorem ld_res (r : Fin 512) (l : Fin 1024) : resAt x0 (ix2 r l) = x0 (ix2 r l) :=
  View.ld_unit_apply_of x0 _ _ _ _ _ fun d => match d with
    | ⟨0, _⟩ => (Nat.zero_add _).symm
    | ⟨1, _⟩ => (Nat.zero_add _).symm
theorem ld_part (r : Fin 512) (l : Fin 256) : partAt x6 (ix2 r l) = x6 (ix2 r l) :=
  View.ld_unit_apply_of x6 _ _ _ _ _ fun d => match d with
    | ⟨0, _⟩ => (Nat.zero_add _).symm
    | ⟨1, _⟩ => (Nat.zero_add _).symm
theorem ld_gain (l : Fin 1024) : gainAt x1 (ix2 0 l) = x1 (ix2 0 l) :=
  View.ld_unit_apply_of x1 _ _ _ _ _ fun d => match d with
    | ⟨0, _⟩ => (Nat.zero_add _).symm
    | ⟨1, _⟩ => (Nat.zero_add _).symm
theorem ld_mod (k : Fin 6) (l : Fin 1024) : modAt x2 k (ix3 0 0 l) = x2 (ix3 0 k l) :=
  View.ld_unit_apply_of x2 _ _ _ _ _ fun d => match d with
    | ⟨0, _⟩ => (Nat.zero_add _).symm
    | ⟨1, _⟩ => rfl
    | ⟨2, _⟩ => (Nat.zero_add _).symm
theorem ld_out (k : Fin 4) (x : Fin 256) (l : Fin 1024) : outAt x3 k (ix2 x l) = x3 (ix2 (inGroup k x) l) :=
  View.ld_unit_apply_of x3 _ _ _ _ _ fun d => match d with
    | ⟨0, _⟩ => rfl
    | ⟨1, _⟩ => (Nat.zero_add _).symm
theorem ld_gate (c : Fin 11) (j : Fin 1024) (x : Fin 256) : gateAt x4 c (ix2 j x) = x4 (ix2 j (lower (inChunk c x))) :=
  View.ld_unit_apply_of x4 _ _ _ _ _ fun d => match d with
    | ⟨0, _⟩ => (Nat.zero_add _).symm
    | ⟨1, _⟩ => rfl
theorem ld_up (c : Fin 11) (j : Fin 1024) (x : Fin 256) : upAt x4 c (ix2 j x) = x4 (ix2 j (upper (inChunk c x))) :=
  View.ld_unit_apply_of x4 _ _ _ _ _ fun d => match d with
    | ⟨0, _⟩ => (Nat.zero_add _).symm
    | ⟨1, _⟩ => by show 2816 + (256 * c.val + x.val) = 2816 + 256 * c.val + x.val; omega
theorem ld_down (c : Fin 11) (x : Fin 256) (l : Fin 1024) : downAt x5 c (ix2 x l) = x5 (ix2 (inChunk c x) l) :=
  View.ld_unit_apply_of x5 _ _ _ _ _ fun d => match d with
    | ⟨0, _⟩ => rfl
    | ⟨1, _⟩ => (Nat.zero_add _).symm

/-- The four head groups of a row. -/
abbrev parts (r : Fin 512) : Fin 4 → Fin 256 → EReal := ![fun x => x6 (ix2 r x), fun x => x7 (ix2 r x), fun x => x8 (ix2 r x), fun x => x9 (ix2 r x)]

theorem mixed_at (r : Fin 512) (l : Fin 1024) : mixed x0 x2 x3 x6 x7 x8 x9 (ix2 r l)
    = Rows.residual (fun k => x0 (ix2 r k)) (fun k => x2 (ix3 0 2 k)) (parts x6 x7 x8 x9 r) (fun k j => x3 (ix2 k j)) l := by
  unfold mixed Rows.residual
  rw [← sum_groups (parts x6 x7 x8 x9 r) fun k => x3 (ix2 k l)]
  simp only [addf_apply, mulf_apply, partProd_at, along_at, ld_res, ld_part, ld_mod, ld_out]
  rfl

theorem rows_at (r : Fin 512) (l : Fin 1024) : rows x0 x1 x2 x3 x6 x7 x8 x9 (ix2 r l)
    = Rows.normed (Rows.residual (fun k => x0 (ix2 r k)) (fun k => x2 (ix3 0 2 k)) (parts x6 x7 x8 x9 r) (fun k j => x3 (ix2 k j)))
        (fun k => x1 (ix2 0 k)) (fun k => x2 (ix3 0 4 k)) (fun k => x2 (ix3 0 3 k)) l := by
  unfold rows
  rw [normed_at]
  simp only [mixed_at, ld_gain, ld_mod]

theorem chunkAt_at (h : FVec Ideal S512x1024 .bf16) (c : Fin 11) (r : Fin 512) (l : Fin 1024) : chunkAt x4 x5 h c (ix2 r l)
    = ∑ x : Fin 256, Rows.gated (fun j => h (ix2 r j)) (fun j => x4 (ix2 j (lower (inChunk c x)))) (fun j => x4 (ix2 j (upper (inChunk c x)))) * x5 (ix2 (inChunk c x) l) := by
  unfold chunkAt
  rw [chunk_at]
  simp only [ld_gate, ld_up, ld_down]

theorem chunks_at (h : FVec Ideal S512x1024 .bf16) (r : Fin 512) (l : Fin 1024) : chunks x4 x5 h (ix2 r l)
    = ∑ k : Fin 2816, Rows.gated (fun j => h (ix2 r j)) (fun j => x4 (ix2 j (lower k))) (fun j => x4 (ix2 j (upper k))) * x5 (ix2 k l) := by
  refine Eq.trans ?_ (sum_blocks (n := 11) (k := 256) fun k : Fin 2816 =>
    Rows.gated (fun j => h (ix2 r j)) (fun j => x4 (ix2 j (lower k))) (fun j => x4 (ix2 j (upper k))) * x5 (ix2 k l)).symm
  rw [sum_eleven]
  unfold chunks
  simp only [addf_apply, chunkAt_at]
  rfl

/-- The stored block at row `r`, lane `l`. -/
theorem stored_at (r : Fin 512) (l : Fin 1024) : stored x0 x1 x2 x3 x4 x5 x6 x7 x8 x9 (ix2 r l)
    = Rows.dense (fun k => x0 (ix2 r k)) (fun k => x1 (ix2 0 k)) (fun k => x2 (ix3 0 2 k)) (fun k => x2 (ix3 0 3 k)) (fun k => x2 (ix3 0 4 k)) (fun k => x2 (ix3 0 5 k))
        (parts x6 x7 x8 x9 r) (fun k j => x3 (ix2 k j)) (fun k j => x4 (ix2 k j)) (fun k j => x5 (ix2 k j)) l := by
  unfold stored Rows.dense Rows.feed
  simp only [addf_apply, mulf_apply, mixed_at, along_at, ld_mod, chunks_at, rows_at]
  rfl

theorem whole (w : Vec Ideal S512x1024 .f32) (r : Fin 512) (l : Fin 1024) : View.canon [(⟨r0_0, w⟩ : View.Piece (Elt Ideal) S512x1024 .f32)] (ix2 r l) = w (ix2 r l) := by
  have e : r0_0.emb (ix2 r l) = ix2 r l := by
    funext a
    refine Fin.ext ?_
    rw [Rect.emb_apply]
    match a with
    | ⟨0, _⟩ => show 0 + 1 * r.val = r.val; omega
    | ⟨1, _⟩ => show 0 + 1 * l.val = l.val; omega
  exact (congrArg _ e.symm).trans (View.canon_cons_emb r0_0 w [] (ix2 r l))

/-- What the body leaves in its result block. -/
theorem left_at (r : Fin 512) (l : Fin 1024) : out0_10 x0 x1 x2 x3 x4 x5 x6 x7 x8 x9 (ix2 r l)
    = Rows.dense (fun k => x0 (ix2 r k)) (fun k => x1 (ix2 0 k)) (fun k => x2 (ix3 0 2 k)) (fun k => x2 (ix3 0 3 k)) (fun k => x2 (ix3 0 4 k)) (fun k => x2 (ix3 0 5 k))
        (parts x6 x7 x8 x9 r) (fun k j => x3 (ix2 k j)) (fun k j => x4 (ix2 k j)) (fun k j => x5 (ix2 k j)) l := by
  rw [stored_eq, ← stored_at, whole]
end

end Cert.Proof.Ffn

end
-- ==== Proof.FfnKer.lean ====
/- What the feed-forward kernel's staging buffers hold at a grid point, and its result at a row and lane. -/
module

public import proofs.«01_k».proof.Proof.FfnValue
public import Idealize.ShloMosaic.Lib.StableHlo.ReadAt

@[expose] public section

noncomputable section

namespace Cert.Proof.Ffn

open Idealize.ShloMosaic Idealize.SL.Sem Cert.KernelFfnIdeal Cert.KernelFfnIdeal.Gen Idealize.ShloMosaic.TcCoe

section
variable {F : FTy → Type} [FloatOps F] (m : (ℓ : Loc nD τ sig) → Buf (Elt F) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 4, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val, 0] := by decide +kernel

theorem points : grid0.N = 128 := by decide

/-- Row `r` of point `t`'s block. -/
abbrev rowOf (t : Fin grid0.N) (r : Fin 512) : Fin 65536 := ⟨t.val * 512 + r.val, by have := points; omega⟩
/-- The image point `t`'s rows belong to. -/
abbrev imgOf (t : Fin grid0.N) : Fin 32 := ⟨t.val / 4, by have := points; omega⟩

theorem staged0 (c : Dev nD) (t : Fin grid0.N) (r : Fin 512) (x : Fin 1024) :
    iblk m c 0 t (ix2 r x) = m ((c : Thread nD τ).loc main_arg0) (ix2 (rowOf t r) x) := by
  unfold iblk
  show V m c main_arg0 ((win0_0.rect t).emb _) = _
  rw [V_main_arg0]
  refine congrArg _ (funext fun a => Fin.ext ?_)
  rw [Rect.emb_apply]
  match a with
  | ⟨0, _⟩ => show win0_0.index t 0 * 512 + 1 * r.val = _; rw [index0, Nat.one_mul]; rfl
  | ⟨1, _⟩ => show win0_0.index t 1 * 1024 + 1 * x.val = _; rw [index0, Nat.one_mul]; exact Nat.zero_add _

theorem staged2 (c : Dev nD) (t : Fin grid0.N) (k : Fin 6) (x : Fin 1024) :
    iblk m c 2 t (ix3 0 k x) = m ((c : Thread nD τ).loc main_arg6) (ix3 (imgOf t) k x) := by
  unfold iblk
  show V m c main_arg6 ((win0_2.rect t).emb _) = _
  rw [V_main_arg6]
  refine congrArg _ (funext fun a => Fin.ext ?_)
  rw [Rect.emb_apply]
  match a with
  | ⟨0, _⟩ => show win0_2.index t 0 * 1 + 1 * 0 = _; rw [index2]; exact Nat.mul_one _
  | ⟨1, _⟩ => show win0_2.index t 1 * 6 + 1 * k.val = _; rw [index2, Nat.one_mul]; exact Nat.zero_add _
  | ⟨2, _⟩ => show win0_2.index t 2 * 1024 + 1 * x.val = _; rw [index2, Nat.one_mul]; exact Nat.zero_add _

theorem staged6 (c : Dev nD) (t : Fin grid0.N) (r : Fin 512) (x : Fin 256) :
    iblk m c 6 t (ix2 r x) = m ((c : Thread nD τ).loc main_arg1) (ix2 (rowOf t r) x) := by
  unfold iblk
  show V m c main_arg1 ((win0_6.rect t).emb _) = _
  rw [V_main_arg1]
  refine congrArg _ (funext fun a => Fin.ext ?_)
  rw [Rect.emb_apply]
  match a with
  | ⟨0, _⟩ => show win0_6.index t 0 * 512 + 1 * r.val = _; rw [index6, Nat.one_mul]; rfl
  | ⟨1, _⟩ => show win0_6.index t 1 * 256 + 1 * x.val = _; rw [index6, Nat.one_mul]; exact Nat.zero_add _

theorem staged7 (c : Dev nD) (t : Fin grid0.N) (r : Fin 512) (x : Fin 256) :
    iblk m c 7 t (ix2 r x) = m ((c : Thread nD τ).loc main_arg2) (ix2 (rowOf t r) x) := by
  unfold iblk
  show V m c main_arg2 ((win0_7.rect t).emb _) = _
  rw [V_main_arg2]
  refine congrArg _ (funext fun a => Fin.ext ?_)
  rw [Rect.emb_apply]
  match a with
  | ⟨0, _⟩ => show win0_7.index t 0 * 512 + 1 * r.val = _; rw [index7, Nat.one_mul]; rfl
  | ⟨1, _⟩ => show win0_7.index t 1 * 256 + 1 * x.val = _; rw [index7, Nat.one_mul]; exact Nat.zero_add _

theorem staged8 (c : Dev nD) (t : Fin grid0.N) (r : Fin 512) (x : Fin 256) :
    iblk m c 8 t (ix2 r x) = m ((c : Thread nD τ).loc main_arg3) (ix2 (rowOf t r) x) := by
  unfold iblk
  show V m c main_arg3 ((win0_8.rect t).emb _) = _
  rw [V_main_arg3]
  refine congrArg _ (funext fun a => Fin.ext ?_)
  rw [Rect.emb_apply]
  match a with
  | ⟨0, _⟩ => show win0_8.index t 0 * 512 + 1 * r.val = _; rw [index8, Nat.one_mul]; rfl
  | ⟨1, _⟩ => show win0_8.index t 1 * 256 + 1 * x.val = _; rw [index8, Nat.one_mul]; exact Nat.zero_add _

theorem staged9 (c : Dev nD) (t : Fin grid0.N) (r : Fin 512) (x : Fin 256) :
    iblk m c 9 t (ix2 r x) = m ((c : Thread nD τ).loc main_arg4) (ix2 (rowOf t r) x) := by
  unfold iblk
  show V m c main_arg4 ((win0_9.rect t).emb _) = _
  rw [V_main_arg4]
  refine congrArg _ (funext fun a => Fin.ext ?_)
  rw [Rect.emb_apply]
  match a with
  | ⟨0, _⟩ => show win0_9.index t 0 * 512 + 1 * r.val = _; rw [index9, Nat.one_mul]; rfl
  | ⟨1, _⟩ => show win0_9.index t 1 * 256 + 1 * x.val = _; rw [index9, Nat.one_mul]; exact Nat.zero_add _

/-- A resident array's block is the array. -/
theorem resident {ix n : Fin 2 → ℕ} (hix : ix = ![0, 0]) (y : ℕ) (a : Fin 2) : ix a * n a + 1 * y = y := by
  rw [hix, show (![0, 0] : Fin 2 → ℕ) a = 0 by revert a; decide, Nat.zero_mul, Nat.zero_add, Nat.one_mul]

theorem staged1 (c : Dev nD) (t : Fin grid0.N) (y : S1x1024.Idx) : iblk m c 1 t y = V m c main_v0 y := by
  unfold iblk
  show V m c main_v0 ((win0_1.rect t).emb _) = _
  refine congrArg _ (funext fun a => Fin.ext ?_)
  rw [Rect.emb_apply]
  exact resident (index1 t) _ a
theorem staged3 (c : Dev nD) (t : Fin grid0.N) (y : S1024x1024.Idx) : iblk m c 3 t y = V m c main_v1 y := by
  unfold iblk
  show V m c main_v1 ((win0_3.rect t).emb _) = _
  refine congrArg _ (funext fun a => Fin.ext ?_)
  rw [Rect.emb_apply]
  exact resident (index3 t) _ a
theorem staged4 (c : Dev nD) (t : Fin grid0.N) (y : S1024x5632.Idx) : iblk m c 4 t y = V m c main_v2 y := by
  unfold iblk
  show V m c main_v2 ((win0_4.rect t).emb _) = _
  refine congrArg _ (funext fun a => Fin.ext ?_)
  rw [Rect.emb_apply]
  exact resident (index4 t) _ a
theorem staged5 (c : Dev nD) (t : Fin grid0.N) (y : S2816x1024.Idx) : iblk m c 5 t y = V m c main_v3 y := by
  unfold iblk
  show V m c main_v3 ((win0_5.rect t).emb _) = _
  refine congrArg _ (funext fun a => Fin.ext ?_)
  rw [Rect.emb_apply]
  exact resident (index5 t) _ a

theorem V_gain (c : Dev nD) : V m c main_v0 = broadcastInDim S1x1024 ![1] bcast_S1024_S1x1024_1 (m ((c : Thread nD τ).loc main_arg5)) := by
  unfold V; after_reads_simp
theorem V_out (c : Dev nD) : V m c main_v1 = truncf .bf16 (m ((c : Thread nD τ).loc main_arg7)) bitsLt_bf16_f32 := by
  unfold V; after_reads_simp
theorem V_up (c : Dev nD) : V m c main_v2 = truncf .bf16 (m ((c : Thread nD τ).loc main_arg8)) bitsLt_bf16_f32 := by
  unfold V; after_reads_simp
theorem V_down (c : Dev nD) : V m c main_v3 = truncf .bf16 (m ((c : Thread nD τ).loc main_arg9)) bitsLt_bf16_f32 := by
  unfold V; after_reads_simp

/-- A result row's place: written at point `t`, row `r` of its block. -/
theorem place10 (t : Fin grid0.N) (r : Fin 512) (x : Fin 1024) :
    (win0_10.rect t).emb (ix2 r x) = (ix2 (rowOf t r) x : S65536x1024.Idx) := by
  refine funext fun a => Fin.ext ?_
  rw [Rect.emb_apply]
  match a with
  | ⟨0, _⟩ => show win0_10.index t 0 * 512 + 1 * r.val = _; rw [index10, Nat.one_mul]; rfl
  | ⟨1, _⟩ => show win0_10.index t 1 * 1024 + 1 * x.val = _; rw [index10, Nat.one_mul]; exact Nat.zero_add _

/-- The result array at row `r` of point `t` is what the body leaves there. -/
theorem result_left (c : Dev nD) (t : Fin grid0.N) (r : Fin 512) (l : Fin 1024) :
    (dats m 0 c).arrAt 10 cfg0.N (ix2 (rowOf t r) l : S65536x1024.Idx)
      = out0_10 (iblk m c 0 t) (iblk m c 1 t) (iblk m c 2 t) (iblk m c 3 t) (iblk m c 4 t) (iblk m c 5 t) (iblk m c 6 t) (iblk m c 7 t) (iblk m c 8 t) (iblk m c 9 t) (ix2 r l) := by
  have hb := congrFun (Value.blocks10 m c t (flush0_10 t)) (ix2 r l)
  rw [Value.flushed10] at hb
  rw [← place10 t r l]
  exact hb
end

variable (m : (ℓ : Loc nD τ sig) → Buf (Elt Ideal) ℓ)

theorem gain_at (c : Dev nD) (t : Fin grid0.N) (l : Fin 1024) : iblk m c 1 t (ix2 0 l) = m ((c : Thread nD τ).loc main_arg5) (ix1 l) := by
  rw [staged1, V_gain]; pointwise
theorem out_at (c : Dev nD) (t : Fin grid0.N) (k l : Fin 1024) : iblk m c 3 t (ix2 k l) = m ((c : Thread nD τ).loc main_arg7) (ix2 k l) := by
  rw [staged3, V_out]; pointwise
theorem up_at (c : Dev nD) (t : Fin grid0.N) (k : Fin 1024) (l : Fin 5632) : iblk m c 4 t (ix2 k l) = m ((c : Thread nD τ).loc main_arg8) (ix2 k l) := by
  rw [staged4, V_up]; pointwise
theorem down_at (c : Dev nD) (t : Fin grid0.N) (k : Fin 2816) (l : Fin 1024) : iblk m c 5 t (ix2 k l) = m ((c : Thread nD τ).loc main_arg9) (ix2 k l) := by
  rw [staged5, V_down]; pointwise

/-- The kernel's result at row `r` of point `t`, lane `l`. -/
theorem result_at (c : Dev nD) (t : Fin grid0.N) (r : Fin 512) (l : Fin 1024) :
    (dats m 0 c).arrAt 10 cfg0.N (ix2 (rowOf t r) l : S65536x1024.Idx)
      = Rows.dense (fun k => m ((c : Thread nD τ).loc main_arg0) (ix2 (rowOf t r) k)) (fun k => m ((c : Thread nD τ).loc main_arg5) (ix1 k))
          (fun k => m ((c : Thread nD τ).loc main_arg6) (ix3 (imgOf t) 2 k)) (fun k => m ((c : Thread nD τ).loc main_arg6) (ix3 (imgOf t) 3 k))
          (fun k => m ((c : Thread nD τ).loc main_arg6) (ix3 (imgOf t) 4 k)) (fun k => m ((c : Thread nD τ).loc main_arg6) (ix3 (imgOf t) 5 k))
          ![fun x => m ((c : Thread nD τ).loc main_arg1) (ix2 (rowOf t r) x), fun x => m ((c : Thread nD τ).loc main_arg2) (ix2 (rowOf t r) x),
            fun x => m ((c : Thread nD τ).loc main_arg3) (ix2 (rowOf t r) x), fun x => m ((c : Thread nD τ).loc main_arg4) (ix2 (rowOf t r) x)]
          (fun k j => m ((c : Thread nD τ).loc main_arg7) (ix2 k j)) (fun k j => m ((c : Thread nD τ).loc main_arg8) (ix2 k j))
          (fun k j => m ((c : Thread nD τ).loc main_arg9) (ix2 k j)) l := by
  rw [result_left, left_at]
  simp only [parts, staged0, staged2, staged6, staged7, staged8, staged9, gain_at, out_at, up_at, down_at]

end Cert.Proof.Ffn

end
-- ==== Proof.FfnRef.lean ====
/- The reference's dense part in named stages, and its result at an image's row and lane. -/
module

public import proofs.«01_k».proof.Proof.Gen.ReferenceFfnIdeal.Run
public import proofs.«01_k».proof.Proof.Rows
public import Idealize.ShloMosaic.Lib.Pointwise

@[expose] public section

noncomputable section

namespace Cert.Proof.FfnRef

open Idealize.ShloMosaic Idealize.SL.Sem Cert.ReferenceFfnIdeal Cert.ReferenceFfnIdeal.Gen Idealize.ShloMosaic.TcCoe
open Cert.Proof.Rows (inGroup lower upper joined joined_group)

section
variable {F : FTy → Type} [FloatOps F]

/-- Row `k` of every image's modulation. -/
def modRow (k : ℕ) (hs : S32x6x1024.Slices ![0, k, 0] S32x1x1024) (x : FVec F S32x6x1024 .f32) : FVec F S32x1x1024 .f32 :=
  broadcastInDim S32x1x1024 ![0, 2] bcast_S32x1024_S32x1x1024_0_2 (shapeCast S32x1024 (extractStridedSlice S32x1x1024 ![0, k, 0] x hs) shapeCasts_S32x1x1024_S32x1024)

/-- One row per image, on all of its rows. -/
def spread (x : FVec F S32x1x1024 .f32) : FVec F S32x2048x1024 .f32 := broadcastInDim S32x2048x1024 ![0, 1, 2] bcast_S32x1x1024_S32x2048x1024_0_1_2 x

/-- One head group's output by image. -/
def byImage (x : FVec F S65536x256 .bf16) : FVec F S32x2048x256 .f32 := shapeCast S32x2048x256 (extf .f32 x bitsLt_bf16_f32) shapeCasts_S65536x256_S32x2048x256

/-- The head groups joined. -/
def joinedAll (a b c d : FVec F S32x2048x256 .f32) : FVec F S32x2048x1024 .f32 :=
  concatenate S32x2048x1024 2 [⟨S32x2048x256, a⟩, ⟨S32x2048x256, b⟩, ⟨S32x2048x256, c⟩, ⟨S32x2048x256, d⟩] concatenates_S32x2048x256_S32x2048x256_S32x2048x256_S32x2048x256_S32x2048x1024_d2

/-- The residual with the projected heads. -/
def mixed (x : FVec F S65536x1024 .f32) (gate : FVec F S32x1x1024 .f32) (o : FVec F S32x2048x1024 .f32) (w : FVec F S1024x1024 .f32) : FVec F S32x2048x1024 .f32 :=
  addf (shapeCast S32x2048x1024 x shapeCasts_S65536x1024_S32x2048x1024) (mulf (spread gate) (Host.dotGeneral dot_S32x2048x1024_S1024x1024_S32x2048x1024_2_0_01_1_n_n none o w))

/-- Each row over its root mean square, by the gain, scaled and shifted. -/
def norm (x : FVec F S32x2048x1024 .f32) (g : FVec F S1024 .f32) (scale shift : FVec F S32x1x1024 .f32) : FVec F S32x2048x1024 .f32 :=
  addf (mulf (mulf (mulf x (broadcastInDim S32x2048x1024 ![0, 1, 2] bcast_S32x2048x1_S32x2048x1024_0_1_2 (Host.rsqrt (addf (Host.divf
        (broadcastInDim S32x2048x1 ![0, 1] bcast_S32x2048_S32x2048x1_0_1 (Host.reduceAdd (mulf x x) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      (spread (addf (broadcastInDim S32x1x1024 ![] bcast_S_S32x1x1024 (constant S_ .f32 0x3F800000#32)) scale)))
    (spread shift)

/-- The hidden units from the two halves of one product. -/
def units (p : FVec F S32x2048x5632 .f32) : FVec F S32x2048x2816 .f32 :=
  mulf (mulf (extractStridedSlice S32x2048x2816 ![0, 0, 0] p slices_S32x2048x5632_S32x2048x2816_0_0_0)
      (Host.divf (broadcastInDim S32x2048x2816 ![] bcast_S_S32x2048x2816 (constant S_ .f32 0x3F800000#32))
        (addf (broadcastInDim S32x2048x2816 ![] bcast_S_S32x2048x2816 (constant S_ .f32 0x3F800000#32)) (Host.exp (Host.negf (extractStridedSlice S32x2048x2816 ![0, 0, 0] p slices_S32x2048x5632_S32x2048x2816_0_0_0))))))
    (extractStridedSlice S32x2048x2816 ![0, 0, 2816] p slices_S32x2048x5632_S32x2048x2816_0_0_2816)

/-- The product with the hidden weight. -/
def widened (h : FVec F S32x2048x1024 .f32) (w : FVec F S1024x5632 .f32) : FVec F S32x2048x5632 .f32 :=
  Host.dotGeneral dot_S32x2048x1024_S1024x5632_S32x2048x5632_2_0_01_1_n_n none h w

/-- The feed-forward part. -/
def fed (x : FVec F S32x2048x1024 .f32) (gate : FVec F S32x1x1024 .f32) (u : FVec F S32x2048x2816 .f32) (d : FVec F S2816x1024 .f32) : FVec F S32x2048x1024 .f32 :=
  addf x (mulf (spread gate) (Host.dotGeneral dot_S32x2048x2816_S2816x1024_S32x2048x1024_2_0_01_1_n_n none u d))

/-- All rows, one after another. -/
def flat (x : FVec F S32x2048x1024 .f32) : FVec F S65536x1024 .f32 := shapeCast S65536x1024 x shapeCasts_S32x2048x1024_S65536x1024

variable (a0 : FVec F S65536x1024 .f32) (a1 a2 a3 a4 : FVec F S65536x256 .bf16) (a5 : FVec F S1024 .f32) (a6 : FVec F S32x6x1024 .f32)
  (a7 : FVec F S1024x1024 .f32) (a8 : FVec F S1024x5632 .f32) (a9 : FVec F S2816x1024 .f32)

/-- The residual after the heads. -/
def after : FVec F S32x2048x1024 .f32 :=
  mixed a0 (modRow 2 slices_S32x6x1024_S32x1x1024_0_2_0 a6) (joinedAll (byImage a1) (byImage a2) (byImage a3) (byImage a4)) a7

/-- The whole. -/
def whole : FVec F S65536x1024 .f32 :=
  flat (fed (after a0 a1 a2 a3 a4 a6 a7) (modRow 5 slices_S32x6x1024_S32x1x1024_0_5_0 a6)
    (units (widened (norm (after a0 a1 a2 a3 a4 a6 a7) a5 (modRow 4 slices_S32x6x1024_S32x1x1024_0_4_0 a6) (modRow 3 slices_S32x6x1024_S32x1x1024_0_3_0 a6)) a8)) a9)

theorem whole_eq (m : (ℓ : Loc nD τ sig) → Buf (Elt F) ℓ) (c : Dev nD) : Value.res_out0 m c
    = whole (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := rfl
end

/-- Row `t` of image `b`, among all rows. -/
abbrev tok (b : Fin 32) (t : Fin 2048) : Fin 65536 := ⟨b.val * 2048 + t.val, by omega⟩

theorem modRow_at (k : Fin 6) (hs : S32x6x1024.Slices ![0, k.val, 0] S32x1x1024) (x : FVec Ideal S32x6x1024 .f32) (b : Fin 32) (l : Fin 1024) :
    modRow k.val hs x (ix3 b 0 l) = x (ix3 b k l) := by
  unfold modRow
  pointwise

theorem spread_at (x : FVec Ideal S32x1x1024 .f32) (b : Fin 32) (t : Fin 2048) (l : Fin 1024) : spread x (ix3 b t l) = x (ix3 b 0 l) := by
  unfold spread
  pointwise

theorem byImage_at (x : FVec Ideal S65536x256 .bf16) (b : Fin 32) (t : Fin 2048) (l : Fin 256) : byImage x (ix3 b t l) = x (ix2 (tok b t) l) := by
  unfold byImage
  pointwise

theorem joinedAll_at (p : Fin 4 → FVec Ideal S32x2048x256 .f32) (b : Fin 32) (t : Fin 2048) (k : Fin 1024) :
    joinedAll (p 0) (p 1) (p 2) (p 3) (ix3 b t k) = joined (fun i x => p i (ix3 b t x)) k := by
  have hk := k.isLt
  have pick : ∀ (i : Fin 4) (x : Fin 256), i.val = k.val / 256 → x.val = k.val % 256 →
      p i (ix3 b t x) = joined (fun i x => p i (ix3 b t x)) k := fun i x hi hx =>
    congrArg₂ (fun i x => p i (ix3 b t x)) (Fin.ext hi) (Fin.ext hx)
  unfold joinedAll
  pointwise
  by_cases h0 : k.val < 256
  · rw [dif_pos h0]; exact pick 0 ⟨k.val, h0⟩ (by show 0 = k.val / 256; omega) (by show k.val = k.val % 256; omega)
  rw [dif_neg h0]
  by_cases h1 : k.val - 256 < 256
  · rw [dif_pos h1]; exact pick 1 ⟨k.val - 256, h1⟩ (by show 1 = k.val / 256; omega) (by show k.val - 256 = k.val % 256; omega)
  rw [dif_neg h1]
  by_cases h2 : k.val - 256 - 256 < 256
  · rw [dif_pos h2]; exact pick 2 ⟨k.val - 256 - 256, h2⟩ (by show 2 = k.val / 256; omega) (by show k.val - 256 - 256 = k.val % 256; omega)
  rw [dif_neg h2]
  exact pick 3 ⟨k.val - 256 - 256 - 256, by omega⟩ (by show 3 = k.val / 256; omega) (by show k.val - 256 - 256 - 256 = k.val % 256; omega)

theorem mixed_at (x : FVec Ideal S65536x1024 .f32) (gate : FVec Ideal S32x1x1024 .f32) (o : FVec Ideal S32x2048x1024 .f32) (w : FVec Ideal S1024x1024 .f32)
    (b : Fin 32) (t : Fin 2048) (l : Fin 1024) :
    mixed x gate o w (ix3 b t l) = x (ix2 (tok b t) l) + gate (ix3 b 0 l) * ∑ k, o (ix3 b t k) * w (ix2 k l) := by
  unfold mixed spread
  pointwise

theorem norm_at (x : FVec Ideal S32x2048x1024 .f32) (g : FVec Ideal S1024 .f32) (scale shift : FVec Ideal S32x1x1024 .f32) (b : Fin 32) (t : Fin 2048) (l : Fin 1024) :
    norm x g scale shift (ix3 b t l)
      = Rows.normed (fun k => x (ix3 b t k)) (fun k => g (ix1 k)) (fun k => scale (ix3 b 0 k)) (fun k => shift (ix3 b 0 k)) l := by
  unfold norm spread Rows.normed
  pointwise

theorem units_at (h : FVec Ideal S32x2048x1024 .f32) (w : FVec Ideal S1024x5632 .f32) (b : Fin 32) (t : Fin 2048) (k : Fin 2816) :
    units (widened h w) (ix3 b t k) = Rows.gated (fun j => h (ix3 b t j)) (fun j => w (ix2 j (lower k))) (fun j => w (ix2 j (upper k))) := by
  unfold units widened Rows.gated Ideal.logistic
  pointwise

theorem fed_at (x : FVec Ideal S32x2048x1024 .f32) (gate : FVec Ideal S32x1x1024 .f32) (u : FVec Ideal S32x2048x2816 .f32) (d : FVec Ideal S2816x1024 .f32)
    (b : Fin 32) (t : Fin 2048) (l : Fin 1024) :
    fed x gate u d (ix3 b t l) = x (ix3 b t l) + gate (ix3 b 0 l) * ∑ k, u (ix3 b t k) * d (ix2 k l) := by
  unfold fed spread
  pointwise

theorem flat_at (x : FVec Ideal S32x2048x1024 .f32) (b : Fin 32) (t : Fin 2048) (l : Fin 1024) : flat x (ix2 (tok b t) l) = x (ix3 b t l) := by
  unfold flat
  pointwise
  exact congrArg x (congrArg₂ (fun i j => ix3 i j l) (Fin.ext (by show (b.val * 2048 + t.val) / 2048 = b.val; omega))
    (Fin.ext (by show (b.val * 2048 + t.val) % 2048 = t.val; omega)))

variable (a0 : FVec Ideal S65536x1024 .f32) (a1 a2 a3 a4 : FVec Ideal S65536x256 .bf16) (a5 : FVec Ideal S1024 .f32) (a6 : FVec Ideal S32x6x1024 .f32)
  (a7 : FVec Ideal S1024x1024 .f32) (a8 : FVec Ideal S1024x5632 .f32) (a9 : FVec Ideal S2816x1024 .f32)

theorem after_at (b : Fin 32) (t : Fin 2048) (l : Fin 1024) : after a0 a1 a2 a3 a4 a6 a7 (ix3 b t l)
    = Rows.residual (fun k => a0 (ix2 (tok b t) k)) (fun k => a6 (ix3 b 2 k))
        ![fun x => a1 (ix2 (tok b t) x), fun x => a2 (ix2 (tok b t) x), fun x => a3 (ix2 (tok b t) x), fun x => a4 (ix2 (tok b t) x)] (fun k j => a7 (ix2 k j)) l := by
  unfold after Rows.residual
  rw [mixed_at, show modRow 2 slices_S32x6x1024_S32x1x1024_0_2_0 a6 (ix3 b 0 l) = a6 (ix3 b 2 l) from modRow_at 2 _ a6 b l]
  refine congrArg (fun z => _ + _ * z) (Finset.sum_congr rfl fun k _ => congrArg (· * _) ?_)
  refine (joinedAll_at ![byImage a1, byImage a2, byImage a3, byImage a4] b t k).trans (congrArg (fun p => joined p k) (funext fun i => funext fun x => ?_))
  match i with
  | 0 => exact byImage_at a1 b t x
  | 1 => exact byImage_at a2 b t x
  | 2 => exact byImage_at a3 b t x
  | 3 => exact byImage_at a4 b t x

theorem whole_at (b : Fin 32) (t : Fin 2048) (l : Fin 1024) : whole a0 a1 a2 a3 a4 a5 a6 a7 a8 a9 (ix2 (tok b t) l)
    = Rows.dense (fun k => a0 (ix2 (tok b t) k)) (fun k => a5 (ix1 k)) (fun k => a6 (ix3 b 2 k)) (fun k => a6 (ix3 b 3 k)) (fun k => a6 (ix3 b 4 k)) (fun k => a6 (ix3 b 5 k))
        ![fun x => a1 (ix2 (tok b t) x), fun x => a2 (ix2 (tok b t) x), fun x => a3 (ix2 (tok b t) x), fun x => a4 (ix2 (tok b t) x)]
        (fun k j => a7 (ix2 k j)) (fun k j => a8 (ix2 k j)) (fun k j => a9 (ix2 k j)) l := by
  have row : ∀ (k : Fin 6) (hs : S32x6x1024.Slices ![0, k.val, 0] S32x1x1024) (j : Fin 1024), modRow k.val hs a6 (ix3 b 0 j) = a6 (ix3 b k j) := fun k hs j => modRow_at k hs a6 b j
  unfold whole Rows.dense Rows.feed
  rw [flat_at, fed_at]
  simp only [units_at, norm_at, after_at]
  rw [show modRow 5 slices_S32x6x1024_S32x1x1024_0_5_0 a6 (ix3 b 0 l) = a6 (ix3 b 5 l) from row 5 _ l]
  refine congrArg (fun z => _ + _ * z) (Finset.sum_congr rfl fun k _ => congrArg (· * _) (congrArg (fun h => Rows.gated h _ _) (funext fun j => ?_)))
  exact congrArg₂ (fun u v => Rows.normed _ _ u v j) (funext fun i => row 4 slices_S32x6x1024_S32x1x1024_0_4_0 i) (funext fun i => row 3 slices_S32x6x1024_S32x1x1024_0_3_0 i)

end Cert.Proof.FfnRef

end
-- ==== Proof.FfnCompare.lean ====
/- The two dense parts agree, row by row. -/
module

public import proofs.«01_k».proof.Proof.FfnKer
public import proofs.«01_k».proof.Proof.FfnRef

@[expose] public section

noncomputable section

namespace Cert.Proof.Ffn

open Idealize.ShloMosaic Idealize.SL.Sem Cert.KernelFfnIdeal Cert.KernelFfnIdeal.Gen Idealize.ShloMosaic.TcCoe

/-- The kernel's result is the reference's composed term of the same arguments. -/
theorem result_eq (m : (ℓ : Loc nD τ sig) → Buf (Elt Ideal) ℓ) (c : Dev nD) :
    ∀ i : S65536x1024.Idx, (dats m 0 c).arrAt 10 cfg0.N i
      = FfnRef.whole (F := Ideal) (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) i := by
  intro i
  obtain ⟨r, l, rfl⟩ : ∃ (r : Fin 65536) (l : Fin 1024), i = ix2 r l := ⟨i 0, i 1, funext fun a => match a with | ⟨0, _⟩ => rfl | ⟨1, _⟩ => rfl⟩
  have hr := r.isLt
  have er : r = rowOf ⟨r.val / 512, by have := points; omega⟩ ⟨r.val % 512, by omega⟩ := Fin.ext (by show r.val = r.val / 512 * 512 + r.val % 512; omega)
  have ei : (imgOf ⟨r.val / 512, by have := points; omega⟩ : Fin 32) = ⟨r.val / 2048, by omega⟩ := Fin.ext (by show r.val / 512 / 4 = r.val / 2048; omega)
  have et : r = FfnRef.tok ⟨r.val / 2048, by omega⟩ ⟨r.val % 2048, by omega⟩ := Fin.ext (by show r.val = r.val / 2048 * 2048 + r.val % 2048; omega)
  have hk := result_at m c ⟨r.val / 512, by have := points; omega⟩ ⟨r.val % 512, by omega⟩ l
  rw [← er, ei] at hk
  have hf := FfnRef.whole_at (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) ⟨r.val / 2048, by omega⟩ ⟨r.val % 2048, by omega⟩ l
  rw [← et] at hf
  exact hk.trans hf.symm

end Cert.Proof.Ffn

end
-- ==== Proof.Finite.lean ====
/- The precondition, read back: every entry of the three arguments is a real number. -/
module

public import proofs.«01_k».proof.Defs
public import Idealize.ShloMosaic.Lib.ReduceAll
public import Idealize.ShloMosaic.PureOps

@[expose] public section

noncomputable section

namespace Cert.Proof

open Idealize.ShloMosaic Idealize.SL.Sem Cert.Pre_finite

/-- The shape relations of the precondition. -/
theorem finiteFacts : Cert.Pre_finite.Facts where
  bcast_S_S65536x2944 := by decide
  reducesTo_S65536x2944_S_d0_1 := by decide
  h_S_ := by decide
  bcast_S_S8192x2944 := by decide
  reducesTo_S8192x2944_S_d0_1 := by decide
  bcast_S_S4x15x31 := by decide
  reducesTo_S4x15x31_S_d0_1_2 := by decide

theorem inf_bf16 : Ideal.ofBits FTy.bf16 0x7F80#16 = ⊤ := by simp [Ideal.ofBits, Ideal.ieee]
theorem inf_f32 : Ideal.ofBits FTy.f32 0x7F800000#32 = ⊤ := by simp [Ideal.ofBits, Ideal.ieee]

/-- A number whose size is below +∞ is real. -/
theorem real_of_abs_lt {x : EReal} (h : max x (-x) < ⊤) : ∃ r : ℝ, x = r := by
  rw [max_lt_iff] at h
  refine ⟨x.toReal, (EReal.coe_toReal h.1.ne ?_).symm⟩
  rintro rfl
  simp at h

instance : Subsingleton S_.Idx := ⟨fun a b => funext fun d => d.elim0⟩

/-- One `jnp.all` of sizes below +∞. -/
theorem real_of_all {s : Shape} {f : FTy} {axes : List (Fin s.rank)} (x : FVec Ideal s f) (w : BitVec f.bits) (hw : Ideal.ofBits f w = ⊤)
    (hb : S_.BroadcastsInDim s (![] : Fin 0 → Fin s.rank)) (hr : s.ReducesTo axes S_) (hu : 0 < S_.numel) (init : IVec S_ 1) (j : S_.Idx)
    (e : Host.reduce IntOp.andi (cmpf .olt (Host.absf x) (broadcastInDim s ![] hb (constant S_ f w))) init hr hu j = 1#1) (i : s.Idx) :
    ∃ r : ℝ, x i = (r : EReal) := by
  have h := Host.reduce_andi_all _ _ hr hu j e i
  refine real_of_abs_lt (x := x i) ?_
  have h' : BitVec.ofBool (decide (max (x i : EReal) (-(x i : EReal)) < Ideal.ofBits f w)) = 1#1 := h
  rw [hw] at h'
  by_contra hc
  simp [hc] at h'

/-- The precondition at the three arguments. -/
theorem finite_real [Cert.Pre_finite.Facts] (a0 : FVec Ideal S65536x2944 .bf16) (a1 : FVec Ideal S8192x2944 .bf16) (a2 : FVec Ideal S4x15x31 .f32)
    (h : Cert.Pre_finite.fn (F := Ideal) a0 a1 a2 = fun _ => 1#1) :
    (∀ i, ∃ r : ℝ, a0 i = (r : EReal)) ∧ (∀ i, ∃ r : ℝ, a1 i = (r : EReal)) ∧ ∀ i, ∃ r : ℝ, a2 i = (r : EReal) := by
  have j : S_.Idx := fun d => d.elim0
  have e := congrFun h j
  obtain ⟨e, e2⟩ := IntOp.andi_eq_one.1 e
  obtain ⟨e0, e1⟩ := IntOp.andi_eq_one.1 e
  exact ⟨real_of_all a0 _ inf_bf16 _ _ _ _ j e0, real_of_all a1 _ inf_bf16 _ _ _ _ j e1, real_of_all a2 _ inf_f32 _ _ _ _ j e2⟩

end Cert.Proof

end
-- ==== Proof.ProjBlock.lean ====
/- The input projection's body in named stages: for each half of its rows, the normed rows and their product with the
   whole weight; and the stored blocks at a row and lane. -/
module

public import proofs.«01_k».proof.Proof.Gen.KernelProjIdeal.Value
public import proofs.«01_k».proof.Proof.Rows
public import Idealize.ShloMosaic.Lib.Pointwise
public import Idealize.ShloMosaic.Lib.Pipeline.ValueKit.Tiles

@[expose] public section

noncomputable section

namespace Cert.Proof.Proj

open Idealize.ShloMosaic Idealize.SL.Sem Cert.KernelProjIdeal Cert.KernelProjIdeal.Gen Idealize.ShloMosaic.TcCoe

section
variable {F : FTy → Type} [FloatOps F]

/-- Rows after normalization, scale and shift. -/
def normed (x : FVec F S512x1024 .f32) (g : FVec F S1x1024 .f32) (scale shift : FVec F S1x1x1024 .f32) : FVec F S512x1024 .bf16 :=
  truncf .bf16 (addf (mulf (mulf (mulf x (broadcastTo S512x1024 (rsqrt (addf (divf (shapeCast S512x1 (multiReduction .add [1] S512 (mulf x x) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 scale shapeCasts_S1x1x1024_S1x1024)) broadcasts_S1x1024_S512x1024))
    (broadcastTo S512x1024 (shapeCast S1x1024 shift shapeCasts_S1x1x1024_S1x1024) broadcasts_S1x1024_S512x1024)) bitsLt_bf16_f32

/-- Rows times the weight. -/
def product (h : FVec F S512x1024 .bf16) (w : FVec F S1024x2944 .bf16) : FVec F S512x2944 .f32 :=
  matmul dot_S512x1024_S1024x2944_S512x2944_1_0_0_1_n_n none h (shapeCast S1024x2944 w shapeCasts_S1024x2944_S1024x2944) (constant S512x2944 .f32 0x00000000#32)

variable (x0 : Vec F S1024x1024 .f32) (x1 : Vec F S1x1024 .f32) (x2 : Vec F S1x6x1024 .f32) (x3 : Vec F S1024x2944 .bf16)

theorem half_le : ∀ j : Fin 2, ∀ a, (![512 * j.val, 0] : Fin 2 → ℕ) a + S512x1024.size a ≤ S1024x1024.size a := by decide
theorem mod_le : ∀ k : Fin 6, ∀ a, (![0, k.val, 0] : Fin 3 → ℕ) a + S1x1x1024.size a ≤ S1x6x1024.size a := by decide

/-- Half `j` of the rows; row `k` of the image's modulation; the gain; the weight; as loaded. -/
def halfAt (j : Fin 2) : FVec F S512x1024 .f32 := View.ld x0 (Rect.unit ![512 * j.val, 0] S512x1024.size (half_le j))
@[inherit_doc halfAt] def modAt (k : Fin 6) : FVec F S1x1x1024 .f32 := View.ld x2 (Rect.unit ![0, k.val, 0] S1x1x1024.size (mod_le k))
@[inherit_doc halfAt] def gainAt : FVec F S1x1024 .f32 := View.ld x1 r0_1
@[inherit_doc halfAt] def weightAt : FVec F S1024x2944 .bf16 := View.ld x3 r0_5

/-- Half `j`'s product. -/
def half (j : Fin 2) : FVec F S512x2944 .f32 := product (normed (halfAt x0 j) (gainAt x1) (modAt x2 1) (modAt x2 0)) (weightAt x3)

/-- What is stored of it in each result. -/
def narrow (p : FVec F S512x2944 .f32) : FVec F S512x2944 .bf16 := truncf .bf16 p bitsLt_bf16_f32
@[inherit_doc narrow] def tail (p : FVec F S512x2944 .f32) : FVec F S512x128 .f32 := extractStridedSlice S512x128 ![0, 2816] p slices_S512x2944_o0_2816_S512x128

theorem out4_eq : out0_4 x0 x1 x2 x3 = View.canon [⟨r0_8, narrow (half x0 x1 x2 x3 1)⟩, ⟨r0_6, narrow (half x0 x1 x2 x3 0)⟩] := rfl
theorem out5_eq : out0_5 x0 x1 x2 x3 = View.canon [⟨r0_9, tail (half x0 x1 x2 x3 1)⟩, ⟨r0_7, tail (half x0 x1 x2 x3 0)⟩] := rfl
end

theorem normed_at (x : FVec Ideal S512x1024 .f32) (g : FVec Ideal S1x1024 .f32) (scale shift : FVec Ideal S1x1x1024 .f32) (r : Fin 512) (l : Fin 1024) :
    normed x g scale shift (ix2 r l)
      = Rows.normed (fun k => x (ix2 r k)) (fun k => g (ix2 0 k)) (fun k => scale (ix3 0 0 k)) (fun k => shift (ix3 0 0 k)) l := by
  unfold normed; pointwise; rfl

theorem product_at (h : FVec Ideal S512x1024 .bf16) (w : FVec Ideal S1024x2944 .bf16) (r : Fin 512) (l : Fin 2944) :
    product h w (ix2 r l) = ∑ k, h (ix2 r k) * w (ix2 k l) := by
  unfold product; pointwise

theorem narrow_at (p : FVec Ideal S512x2944 .f32) (r : Fin 512) (l : Fin 2944) : narrow p (ix2 r l) = p (ix2 r l) := by
  unfold narrow; pointwise

/-- The last 128 of the lanes. -/
abbrev last (l : Fin 128) : Fin 2944 := ⟨2816 + l.val, by omega⟩
/-- Row `r` of half `j`. -/
abbrev inHalf (j : Fin 2) (r : Fin 512) : Fin 1024 := ⟨512 * j.val + r.val, by omega⟩

theorem tail_at (p : FVec Ideal S512x2944 .f32) (r : Fin 512) (l : Fin 128) : tail p (ix2 r l) = p (ix2 r (last l)) := by
  unfold tail; pointwise

section
variable (x0 : Vec Ideal S1024x1024 .f32) (x1 : Vec Ideal S1x1024 .f32) (x2 : Vec Ideal S1x6x1024 .f32) (x3 : Vec Ideal S1024x2944 .bf16)

theorem ld_half (j : Fin 2) (r : Fin 512) (l : Fin 1024) : halfAt x0 j (ix2 r l) = x0 (ix2 (inHalf j r) l) :=
  View.ld_unit_apply_of x0 _ _ _ _ _ fun d => match d with
    | ⟨0, _⟩ => rfl
    | ⟨1, _⟩ => (Nat.zero_add _).symm
theorem ld_gain (l : Fin 1024) : gainAt x1 (ix2 0 l) = x1 (ix2 0 l) :=
  View.ld_unit_apply_of x1 _ _ _ _ _ fun d => match d with
    | ⟨0, _⟩ => (Nat.zero_add _).symm
    | ⟨1, _⟩ => (Nat.zero_add _).symm
theorem ld_mod (k : Fin 6) (l : Fin 1024) : modAt x2 k (ix3 0 0 l) = x2 (ix3 0 k l) :=
  View.ld_unit_apply_of x2 _ _ _ _ _ fun d => match d with
    | ⟨0, _⟩ => (Nat.zero_add _).symm
    | ⟨1, _⟩ => rfl
    | ⟨2, _⟩ => (Nat.zero_add _).symm
theorem ld_weight (k : Fin 1024) (l : Fin 2944) : weightAt x3 (ix2 k l) = x3 (ix2 k l) :=
  View.ld_unit_apply_of x3 _ _ _ _ _ fun d => match d with
    | ⟨0, _⟩ => (Nat.zero_add _).symm
    | ⟨1, _⟩ => (Nat.zero_add _).symm

theorem half_at (j : Fin 2) (r : Fin 512) (l : Fin 2944) : half x0 x1 x2 x3 j (ix2 r l)
    = ∑ k, Rows.normed (fun i => x0 (ix2 (inHalf j r) i)) (fun i => x1 (ix2 0 i)) (fun i => x2 (ix3 0 1 i)) (fun i => x2 (ix3 0 0 i)) k * x3 (ix2 k l) := by
  unfold half
  rw [product_at]
  simp only [normed_at, ld_half, ld_gain, ld_mod, ld_weight]

end

section
variable {n : ℕ} {φ : EltTy}

theorem half_emb (o : ℕ) (h) (r : Fin 512) (l : Fin n) (i : Fin 1024) (hi : i.val = o + r.val) :
    (Rect.unit (s := ⟨2, ![1024, n]⟩) ![o, 0] ![512, n] h).emb (ix2 r l) = ix2 i l := by
  funext a
  refine Fin.ext ?_
  rw [Rect.emb_apply]
  match a with
  | ⟨0, _⟩ => show o + 1 * r.val = i.val; omega
  | ⟨1, _⟩ => show 0 + 1 * l.val = l.val; omega

theorem half_not_mem (h) (i : Fin 1024) (l : Fin n) (hi : i.val < 512) :
    (ix2 i l : (⟨2, ![1024, n]⟩ : Shape).Idx) ∉ (Rect.unit (s := ⟨2, ![1024, n]⟩) ![512, 0] ![512, n] h).set := by
  rw [Rect.mem_set_unit]
  intro hm
  have a : 512 ≤ i.val := (hm 0).1
  omega

/-- A row of the piece stored last, and a row that it misses. -/
theorem hit {o : ℕ} {h : ∀ a, (![o, 0] : Fin 2 → ℕ) a + (![512, n] : Fin 2 → ℕ) a ≤ (⟨2, ![1024, n]⟩ : Shape).size a}
    {w : (Rect.unit (s := ⟨2, ![1024, n]⟩) ![o, 0] ![512, n] h).shape.Idx → Elt Ideal φ} {L : List (View.Piece (Elt Ideal) ⟨2, ![1024, n]⟩ φ)} {i : Fin 1024} {r : Fin 512} {l : Fin n}
    (hi : i.val = o + r.val) :
    View.canon ((⟨Rect.unit (s := ⟨2, ![1024, n]⟩) ![o, 0] ![512, n] h, w⟩ : View.Piece (Elt Ideal) ⟨2, ![1024, n]⟩ φ) :: L) (ix2 i l) = w (ix2 r l) :=
  (congrArg _ (half_emb o h r l i hi).symm).trans (View.canon_cons_emb _ w L (ix2 r l))
@[inherit_doc hit] theorem skip {h : ∀ a, (![512, 0] : Fin 2 → ℕ) a + (![512, n] : Fin 2 → ℕ) a ≤ (⟨2, ![1024, n]⟩ : Shape).size a}
    {w : (Rect.unit (s := ⟨2, ![1024, n]⟩) ![512, 0] ![512, n] h).shape.Idx → Elt Ideal φ} {L : List (View.Piece (Elt Ideal) ⟨2, ![1024, n]⟩ φ)} {i : Fin 1024} {l : Fin n} {v : Elt Ideal φ}
    (hi : i.val < 512) (e : View.canon L (ix2 i l) = v) :
    View.canon ((⟨Rect.unit (s := ⟨2, ![1024, n]⟩) ![512, 0] ![512, n] h, w⟩ : View.Piece (Elt Ideal) ⟨2, ![1024, n]⟩ φ) :: L) (ix2 i l) = v :=
  (View.canon_cons_of_not_mem (y := ix2 i l) (⟨Rect.unit (s := ⟨2, ![1024, n]⟩) ![512, 0] ![512, n] h, w⟩ : View.Piece (Elt Ideal) ⟨2, ![1024, n]⟩ φ) L (half_not_mem h i l hi)).trans e

/-- Two halves stored one after the other: row `r` of half `j` is that half's row. -/
theorem halves {h0 : ∀ a, (![0, 0] : Fin 2 → ℕ) a + (![512, n] : Fin 2 → ℕ) a ≤ (⟨2, ![1024, n]⟩ : Shape).size a}
    {h1 : ∀ a, (![512, 0] : Fin 2 → ℕ) a + (![512, n] : Fin 2 → ℕ) a ≤ (⟨2, ![1024, n]⟩ : Shape).size a} (w : Fin 2 → (⟨2, ![512, n]⟩ : Shape).Idx → Elt Ideal φ)
    {w0 : (Rect.unit (s := ⟨2, ![1024, n]⟩) ![0, 0] ![512, n] h0).shape.Idx → Elt Ideal φ} {w1 : (Rect.unit (s := ⟨2, ![1024, n]⟩) ![512, 0] ![512, n] h1).shape.Idx → Elt Ideal φ}
    (e0 : w0 = w 0) (e1 : w1 = w 1) (j : Fin 2) (r : Fin 512) (l : Fin n) :
    View.canon [(⟨Rect.unit (s := ⟨2, ![1024, n]⟩) ![512, 0] ![512, n] h1, w1⟩ : View.Piece (Elt Ideal) ⟨2, ![1024, n]⟩ φ),
      ⟨Rect.unit (s := ⟨2, ![1024, n]⟩) ![0, 0] ![512, n] h0, w0⟩] (ix2 (inHalf j r) l) = w j (ix2 r l) := by
  match j with
  | 0 => exact (skip (by show 512 * 0 + r.val < 512; omega) (hit (by show 512 * 0 + r.val = 0 + r.val; omega))).trans (congrFun e0 _)
  | 1 => exact (hit (by show 512 * 1 + r.val = 512 + r.val; omega)).trans (congrFun e1 _)
end

section
variable (x0 : Vec Ideal S1024x1024 .f32) (x1 : Vec Ideal S1x1024 .f32) (x2 : Vec Ideal S1x6x1024 .f32) (x3 : Vec Ideal S1024x2944 .bf16)

theorem canon4 (p : Fin 2 → Vec Ideal S512x2944 .bf16) (j : Fin 2) (r : Fin 512) (l : Fin 2944) :
    View.canon [(⟨r0_8, p 1⟩ : View.Piece (Elt Ideal) S1024x2944 .bf16), ⟨r0_6, p 0⟩] (ix2 (inHalf j r) l) = p j (ix2 r l) := halves p rfl rfl j r l
theorem canon5 (p : Fin 2 → Vec Ideal S512x128 .f32) (j : Fin 2) (r : Fin 512) (l : Fin 128) :
    View.canon [(⟨r0_9, p 1⟩ : View.Piece (Elt Ideal) S1024x128 .f32), ⟨r0_7, p 0⟩] (ix2 (inHalf j r) l) = p j (ix2 r l) := halves p rfl rfl j r l

/-- The first result's block at a row and lane. -/
theorem out4_at (j : Fin 2) (r : Fin 512) (l : Fin 2944) : out0_4 x0 x1 x2 x3 (ix2 (inHalf j r) l)
    = ∑ k, Rows.normed (fun i => x0 (ix2 (inHalf j r) i)) (fun i => x1 (ix2 0 i)) (fun i => x2 (ix3 0 1 i)) (fun i => x2 (ix3 0 0 i)) k * x3 (ix2 k l) := by
  rw [out4_eq, canon4 (fun j => narrow (half x0 x1 x2 x3 j)), narrow_at, half_at]

/-- The second result's block at a row and lane. -/
theorem out5_at (j : Fin 2) (r : Fin 512) (l : Fin 128) : out0_5 x0 x1 x2 x3 (ix2 (inHalf j r) l)
    = ∑ k, Rows.normed (fun i => x0 (ix2 (inHalf j r) i)) (fun i => x1 (ix2 0 i)) (fun i => x2 (ix3 0 1 i)) (fun i => x2 (ix3 0 0 i)) k * x3 (ix2 k (last l)) := by
  rw [out5_eq, canon5 (fun j => tail (half x0 x1 x2 x3 j)), tail_at, half_at]
end

end Cert.Proof.Proj

end
-- ==== Proof.Padded.lean ====
/- Rows of 2824 entries padded to 2944, at an index. -/
module

public import Idealize.ShloMosaic.Lib.Pointwise
public import Idealize.ShloMosaic.PureOps.Ideal

@[expose] public section

noncomputable section

namespace Cert.Proof.Proj

open Idealize.ShloMosaic

variable {n : ℕ}

/-- Inside, the entry; past it, the padding's value. -/
theorem padded_at (x : (⟨2, ![n, 2824]⟩ : Shape).Idx → EReal) {u : Shape} (v : u.Idx → EReal) (h : (⟨2, ![n, 2824]⟩ : Shape).Pads ![0, 0] ![0, 120] ![0, 0] ⟨2, ![n, 2944]⟩)
    (hu : 0 < u.numel) (hv : v (Shape.Idx.first hu) = 0) (r : Fin n) (l : Fin 2944) :
    pad ⟨2, ![n, 2944]⟩ ![0, 0] ![0, 120] ![0, 0] x v h hu (ix2 r l) = if hl : l.val < 2824 then x (ix2 r ⟨l.val, hl⟩) else 0 := by
  rw [pad_apply]
  by_cases hl : l.val < 2824
  · rw [dif_pos hl, dif_pos]
    · refine congrArg x (funext fun a => Fin.ext ?_)
      match a with
      | ⟨0, _⟩ => show (r.val - 0) / (0 + 1) = r.val; omega
      | ⟨1, _⟩ => show (l.val - 0) / (0 + 1) = l.val; omega
    · intro a
      match a with
      | ⟨0, _⟩ => exact ⟨Nat.zero_le _, Nat.mod_one _, by show (r.val - 0) / (0 + 1) < n; have := r.isLt; omega⟩
      | ⟨1, _⟩ => exact ⟨Nat.zero_le _, Nat.mod_one _, by show (l.val - 0) / (0 + 1) < 2824; omega⟩
  · rw [dif_neg hl, dif_neg, hv]
    intro hin
    have h1 : (l.val - 0) / (0 + 1) < 2824 := (hin 1).2.2
    omega

end Cert.Proof.Proj

end
-- ==== Proof.ProjKer.lean ====
/- What the input projection's staging buffers hold at a grid point, and its two results at a row and lane. -/
module

public import proofs.«01_k».proof.Proof.ProjBlock
public import proofs.«01_k».proof.Proof.Padded
public import Idealize.ShloMosaic.Lib.StableHlo.ReadAt

@[expose] public section

noncomputable section

namespace Cert.Proof.Proj

open Idealize.ShloMosaic Idealize.SL.Sem Cert.KernelProjIdeal Cert.KernelProjIdeal.Gen Idealize.ShloMosaic.TcCoe

section
variable {F : FTy → Type} [FloatOps F] (m : (ℓ : Loc nD τ sig) → Buf (Elt F) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 2, 0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem points : grid0.N = 64 := by decide

/-- Row `r` of point `t`'s block. -/
abbrev rowOf (t : Fin grid0.N) (r : Fin 1024) : Fin 65536 := ⟨t.val * 1024 + r.val, by have := points; omega⟩
/-- The image point `t`'s rows belong to. -/
abbrev imgOf (t : Fin grid0.N) : Fin 32 := ⟨t.val / 2, by have := points; omega⟩

theorem staged0 (c : Dev nD) (t : Fin grid0.N) (r x : Fin 1024) :
    iblk m c 0 t (ix2 r x) = m ((c : Thread nD τ).loc main_arg0) (ix2 (rowOf t r) x) := by
  unfold iblk
  show V m c main_arg0 ((win0_0.rect t).emb _) = _
  rw [V_main_arg0]
  refine congrArg _ (funext fun a => Fin.ext ?_)
  rw [Rect.emb_apply]
  match a with
  | ⟨0, _⟩ => show win0_0.index t 0 * 1024 + 1 * r.val = _; rw [index0, Nat.one_mul]; rfl
  | ⟨1, _⟩ => show win0_0.index t 1 * 1024 + 1 * x.val = _; rw [index0, Nat.one_mul]; exact Nat.zero_add _

theorem staged2 (c : Dev nD) (t : Fin grid0.N) (k : Fin 6) (x : Fin 1024) :
    iblk m c 2 t (ix3 0 k x) = m ((c : Thread nD τ).loc main_arg2) (ix3 (imgOf t) k x) := by
  unfold iblk
  show V m c main_arg2 ((win0_2.rect t).emb _) = _
  rw [V_main_arg2]
  refine congrArg _ (funext fun a => Fin.ext ?_)
  rw [Rect.emb_apply]
  match a with
  | ⟨0, _⟩ => show win0_2.index t 0 * 1 + 1 * 0 = _; rw [index2]; exact Nat.mul_one _
  | ⟨1, _⟩ => show win0_2.index t 1 * 6 + 1 * k.val = _; rw [index2, Nat.one_mul]; exact Nat.zero_add _
  | ⟨2, _⟩ => show win0_2.index t 2 * 1024 + 1 * x.val = _; rw [index2, Nat.one_mul]; exact Nat.zero_add _

/-- A resident array's block is the array. -/
theorem resident {ix n : Fin 2 → ℕ} (hix : ix = ![0, 0]) (y : ℕ) (a : Fin 2) : ix a * n a + 1 * y = y := by
  rw [hix, show (![0, 0] : Fin 2 → ℕ) a = 0 by revert a; decide, Nat.zero_mul, Nat.zero_add, Nat.one_mul]

theorem staged1 (c : Dev nD) (t : Fin grid0.N) (y : S1x1024.Idx) : iblk m c 1 t y = V m c main_v2 y := by
  unfold iblk
  show V m c main_v2 ((win0_1.rect t).emb _) = _
  refine congrArg _ (funext fun a => Fin.ext ?_)
  rw [Rect.emb_apply]
  exact resident (index1 t) _ a
theorem staged3 (c : Dev nD) (t : Fin grid0.N) (y : S1024x2944.Idx) : iblk m c 3 t y = V m c main_v1 y := by
  unfold iblk
  show V m c main_v1 ((win0_3.rect t).emb _) = _
  refine congrArg _ (funext fun a => Fin.ext ?_)
  rw [Rect.emb_apply]
  exact resident (index3 t) _ a

theorem V_gain (c : Dev nD) : V m c main_v2 = broadcastInDim S1x1024 ![1] bcast_S1024_S1x1024_1 (m ((c : Thread nD τ).loc main_arg1)) := by
  unfold V; after_reads_simp
theorem V_weight (c : Dev nD) : V m c main_v1
    = truncf .bf16 (pad S1024x2944 ![0, 0] ![0, 120] ![0, 0] (m ((c : Thread nD τ).loc main_arg3)) (sitofp .f32 (constantI S_ 32 0#32)) pads_S1024x2824_S1024x2944_000_01200 h_S_) bitsLt_bf16_f32 := by
  unfold V; after_reads_simp; rfl

/-- A result row's place: written at point `t`, row `r` of its block. -/
theorem place4 (t : Fin grid0.N) (r : Fin 1024) (x : Fin 2944) : (win0_4.rect t).emb (ix2 r x) = (ix2 (rowOf t r) x : S65536x2944.Idx) := by
  refine funext fun a => Fin.ext ?_
  rw [Rect.emb_apply]
  match a with
  | ⟨0, _⟩ => show win0_4.index t 0 * 1024 + 1 * r.val = _; rw [index4, Nat.one_mul]; rfl
  | ⟨1, _⟩ => show win0_4.index t 1 * 2944 + 1 * x.val = x.val; rw [index4]; show 0 * 2944 + 1 * x.val = x.val; omega
theorem place5 (t : Fin grid0.N) (r : Fin 1024) (x : Fin 128) : (win0_5.rect t).emb (ix2 r x) = (ix2 (rowOf t r) x : S65536x128.Idx) := by
  refine funext fun a => Fin.ext ?_
  rw [Rect.emb_apply]
  match a with
  | ⟨0, _⟩ => show win0_5.index t 0 * 1024 + 1 * r.val = _; rw [index5, Nat.one_mul]; rfl
  | ⟨1, _⟩ => show win0_5.index t 1 * 128 + 1 * x.val = _; rw [index5, Nat.one_mul]; exact Nat.zero_add _

/-- The result arrays at row `r` of point `t` are what the body leaves there. -/
theorem left4 (c : Dev nD) (t : Fin grid0.N) (r : Fin 1024) (l : Fin 2944) :
    (dats m 0 c).arrAt 4 cfg0.N (ix2 (rowOf t r) l : S65536x2944.Idx) = out0_4 (iblk m c 0 t) (iblk m c 1 t) (iblk m c 2 t) (iblk m c 3 t) (ix2 r l) := by
  have hb := congrFun (Value.blocks4 m c t (flush0_4 t)) (ix2 r l)
  rw [Value.flushed4] at hb
  rw [← place4 t r l]
  exact hb
@[inherit_doc left4] theorem left5 (c : Dev nD) (t : Fin grid0.N) (r : Fin 1024) (l : Fin 128) :
    (dats m 0 c).arrAt 5 cfg0.N (ix2 (rowOf t r) l : S65536x128.Idx) = out0_5 (iblk m c 0 t) (iblk m c 1 t) (iblk m c 2 t) (iblk m c 3 t) (ix2 r l) := by
  have hb := congrFun (Value.blocks5 m c t (flush0_5 t)) (ix2 r l)
  rw [Value.flushed5] at hb
  rw [← place5 t r l]
  exact hb
end

variable (m : (ℓ : Loc nD τ sig) → Buf (Elt Ideal) ℓ)

theorem gain_at (c : Dev nD) (t : Fin grid0.N) (l : Fin 1024) : iblk m c 1 t (ix2 0 l) = m ((c : Thread nD τ).loc main_arg1) (ix1 l) := by
  rw [staged1, V_gain]; pointwise
/-- The padding's value. -/
theorem zero_word : (sitofp .f32 (constantI S_ 32 0#32) : FVec Ideal S_ .f32) (Shape.Idx.first h_S_) = 0 := by
  show (((0#32 : BitVec 32).toInt : ℝ) : EReal) = 0
  simp

theorem weight_at (c : Dev nD) (t : Fin grid0.N) (k : Fin 1024) (l : Fin 2944) :
    iblk m c 3 t (ix2 k l) = if h : l.val < 2824 then m ((c : Thread nD τ).loc main_arg3) (ix2 k ⟨l.val, h⟩) else (0 : EReal) := by
  rw [staged3, V_weight, truncf_apply]
  exact padded_at (n := 1024) _ _ _ h_S_ zero_word k l

/-- The product of a normed row with a weight's column, 0 past the weight's columns. -/
def entry (h : Fin 1024 → EReal) (w : Fin 1024 → Fin 2824 → EReal) (l : Fin 2944) : EReal := if hl : l.val < 2824 then ∑ k, h k * w k ⟨l.val, hl⟩ else 0

theorem entry_eq (h : Fin 1024 → EReal) (w : Fin 1024 → Fin 2824 → EReal) (l : Fin 2944) :
    ∑ k, h k * (if hl : l.val < 2824 then w k ⟨l.val, hl⟩ else 0) = entry h w l := by
  unfold entry
  split
  · rfl
  · exact Finset.sum_eq_zero fun k _ => mul_zero _

/-- The normed row of row `r`, image `b`. -/
abbrev rowAt (a0 : FVec Ideal S65536x1024 .f32) (a1 : FVec Ideal S1024 .f32) (a2 : FVec Ideal S32x6x1024 .f32) (r : Fin 65536) (b : Fin 32) : Fin 1024 → EReal :=
  Rows.normed (fun i => a0 (ix2 r i)) (fun i => a1 (ix1 i)) (fun i => a2 (ix3 b 1 i)) (fun i => a2 (ix3 b 0 i))

/-- The kernel's results at row `r` of half `j` of point `t`. -/
theorem result4_at (c : Dev nD) (t : Fin grid0.N) (j : Fin 2) (r : Fin 512) (l : Fin 2944) :
    (dats m 0 c).arrAt 4 cfg0.N (ix2 (rowOf t (inHalf j r)) l : S65536x2944.Idx)
      = entry (rowAt (m ((c : Thread nD τ).loc main_arg0)) (m ((c : Thread nD τ).loc main_arg1)) (m ((c : Thread nD τ).loc main_arg2)) (rowOf t (inHalf j r)) (imgOf t))
          (fun k i => m ((c : Thread nD τ).loc main_arg3) (ix2 k i)) l := by
  rw [left4, out4_at]
  simp only [staged0, staged2, gain_at, weight_at]
  exact entry_eq (rowAt (m ((c : Thread nD τ).loc main_arg0)) (m ((c : Thread nD τ).loc main_arg1)) (m ((c : Thread nD τ).loc main_arg2)) (rowOf t (inHalf j r)) (imgOf t)) (fun k i => m ((c : Thread nD τ).loc main_arg3) (ix2 k i)) l
@[inherit_doc result4_at] theorem result5_at (c : Dev nD) (t : Fin grid0.N) (j : Fin 2) (r : Fin 512) (l : Fin 128) :
    (dats m 0 c).arrAt 5 cfg0.N (ix2 (rowOf t (inHalf j r)) l : S65536x128.Idx)
      = entry (rowAt (m ((c : Thread nD τ).loc main_arg0)) (m ((c : Thread nD τ).loc main_arg1)) (m ((c : Thread nD τ).loc main_arg2)) (rowOf t (inHalf j r)) (imgOf t))
          (fun k i => m ((c : Thread nD τ).loc main_arg3) (ix2 k i)) (last l) := by
  rw [left5, out5_at]
  simp only [staged0, staged2, gain_at, weight_at]
  exact entry_eq (rowAt (m ((c : Thread nD τ).loc main_arg0)) (m ((c : Thread nD τ).loc main_arg1)) (m ((c : Thread nD τ).loc main_arg2)) (rowOf t (inHalf j r)) (imgOf t)) (fun k i => m ((c : Thread nD τ).loc main_arg3) (ix2 k i)) (last l)

end Cert.Proof.Proj

end
-- ==== Proof.ProjRef.lean ====
/- The reference's input projection in named stages, and its padded product at an image's row and lane. -/
module

public import proofs.«01_k».proof.Proof.Gen.ReferenceProjIdeal.Run
public import proofs.«01_k».proof.Proof.ProjKer

@[expose] public section

noncomputable section

namespace Cert.Proof.ProjRef

open Idealize.ShloMosaic Idealize.SL.Sem Cert.ReferenceProjIdeal Cert.ReferenceProjIdeal.Gen Idealize.ShloMosaic.TcCoe
open Cert.Proof.Proj (entry padded_at)

section
variable {F : FTy → Type} [FloatOps F]

/-- Row `k` of every image's modulation. -/
def modRow (k : ℕ) (hs : S32x6x1024.Slices ![0, k, 0] S32x1x1024) (x : FVec F S32x6x1024 .f32) : FVec F S32x1x1024 .f32 :=
  broadcastInDim S32x1x1024 ![0, 2] bcast_S32x1024_S32x1x1024_0_2 (shapeCast S32x1024 (extractStridedSlice S32x1x1024 ![0, k, 0] x hs) shapeCasts_S32x1x1024_S32x1024)

/-- One row per image, on all of its rows. -/
def spread (x : FVec F S32x1x1024 .f32) : FVec F S32x2048x1024 .f32 := broadcastInDim S32x2048x1024 ![0, 1, 2] bcast_S32x1x1024_S32x2048x1024_0_1_2 x

/-- Each row over its root mean square, by the gain, scaled and shifted. -/
def norm (x : FVec F S32x2048x1024 .f32) (g : FVec F S1024 .f32) (scale shift : FVec F S32x1x1024 .f32) : FVec F S32x2048x1024 .f32 :=
  addf (mulf (mulf (mulf x (broadcastInDim S32x2048x1024 ![0, 1, 2] bcast_S32x2048x1_S32x2048x1024_0_1_2 (Host.rsqrt (addf (Host.divf
        (broadcastInDim S32x2048x1 ![0, 1] bcast_S32x2048_S32x2048x1_0_1 (Host.reduceAdd (mulf x x) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      (spread (addf (broadcastInDim S32x1x1024 ![] bcast_S_S32x1x1024 (constant S_ .f32 0x3F800000#32)) scale)))
    (spread shift)

/-- The rows by image. -/
def byImage (x : FVec F S65536x1024 .f32) : FVec F S32x2048x1024 .f32 := shapeCast S32x2048x1024 x shapeCasts_S65536x1024_S32x2048x1024

/-- All rows' products with the weight, one row after another. -/
def product (h : FVec F S32x2048x1024 .f32) (w : FVec F S1024x2824 .f32) : FVec F S65536x2824 .f32 :=
  shapeCast S65536x2824 (Host.dotGeneral dot_S32x2048x1024_S1024x2824_S32x2048x2824_2_0_01_1_n_n none h w) shapeCasts_S32x2048x2824_S65536x2824

/-- Padded to 2944 columns. -/
def padded (x : FVec F S65536x2824 .f32) : FVec F S65536x2944 .f32 :=
  pad S65536x2944 ![0, 0] ![0, 120] ![0, 0] x (sitofp .f32 (constantI S_ 32 0#32)) pads_S65536x2824_S65536x2944_000_01200 h_S_

/-- The whole. -/
def whole (a0 : FVec F S65536x1024 .f32) (a1 : FVec F S1024 .f32) (a2 : FVec F S32x6x1024 .f32) (a3 : FVec F S1024x2824 .f32) : FVec F S65536x2944 .f32 :=
  padded (product (norm (byImage a0) a1 (modRow 1 slices_S32x6x1024_S32x1x1024_0_1_0 a2) (modRow 0 slices_S32x6x1024_S32x1x1024_0_0_0 a2)) a3)

/-- What is returned of it. -/
def narrow (x : FVec F S65536x2944 .f32) : FVec F S65536x2944 .bf16 := truncf .bf16 x bitsLt_bf16_f32
@[inherit_doc narrow] def tail (x : FVec F S65536x2944 .f32) : FVec F S65536x128 .f32 := extractStridedSlice S65536x128 ![0, 2816] x slices_S65536x2944_S65536x128_0_2816

/-- The reference's run, its results by those names. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = narrow (whole (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v30) = tail (whole (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ
end

/-- Row `t` of image `b`, among all rows. -/
abbrev tok (b : Fin 32) (t : Fin 2048) : Fin 65536 := ⟨b.val * 2048 + t.val, by omega⟩

theorem modRow_at (k : Fin 6) (hs : S32x6x1024.Slices ![0, k.val, 0] S32x1x1024) (x : FVec Ideal S32x6x1024 .f32) (b : Fin 32) (l : Fin 1024) :
    modRow k.val hs x (ix3 b 0 l) = x (ix3 b k l) := by
  unfold modRow
  pointwise

theorem norm_at (x : FVec Ideal S32x2048x1024 .f32) (g : FVec Ideal S1024 .f32) (scale shift : FVec Ideal S32x1x1024 .f32) (b : Fin 32) (t : Fin 2048) (l : Fin 1024) :
    norm x g scale shift (ix3 b t l)
      = Rows.normed (fun k => x (ix3 b t k)) (fun k => g (ix1 k)) (fun k => scale (ix3 b 0 k)) (fun k => shift (ix3 b 0 k)) l := by
  unfold norm spread Rows.normed
  pointwise

theorem byImage_at (x : FVec Ideal S65536x1024 .f32) (b : Fin 32) (t : Fin 2048) (l : Fin 1024) : byImage x (ix3 b t l) = x (ix2 (tok b t) l) := by
  unfold byImage
  pointwise

theorem product_at (h : FVec Ideal S32x2048x1024 .f32) (w : FVec Ideal S1024x2824 .f32) (b : Fin 32) (t : Fin 2048) (l : Fin 2824) :
    product h w (ix2 (tok b t) l) = ∑ k, h (ix3 b t k) * w (ix2 k l) := by
  unfold product
  generalize hd : Host.dotGeneral dot_S32x2048x1024_S1024x2824_S32x2048x2824_2_0_01_1_n_n none h w = d
  have e : shapeCast S65536x2824 d shapeCasts_S32x2048x2824_S65536x2824 (ix2 (tok b t) l) = d (ix3 b t l) := by
    pointwise
    exact congrArg d (congrArg₂ (fun i j => ix3 i j l) (Fin.ext (by show (b.val * 2048 + t.val) / 2048 = b.val; omega))
      (Fin.ext (by show (b.val * 2048 + t.val) % 2048 = t.val; omega)))
  rw [e, ← hd]
  pointwise

theorem padded_apply (x : FVec Ideal S65536x2824 .f32) (r : Fin 65536) (l : Fin 2944) :
    padded x (ix2 r l) = if hl : l.val < 2824 then x (ix2 r ⟨l.val, hl⟩) else 0 := by
  unfold padded
  exact padded_at (n := 65536) _ _ _ h_S_ Proj.zero_word r l

variable (a0 : FVec Ideal S65536x1024 .f32) (a1 : FVec Ideal S1024 .f32) (a2 : FVec Ideal S32x6x1024 .f32) (a3 : FVec Ideal S1024x2824 .f32)

theorem whole_at (b : Fin 32) (t : Fin 2048) (l : Fin 2944) :
    whole a0 a1 a2 a3 (ix2 (tok b t) l) = entry (Proj.rowAt a0 a1 a2 (tok b t) b) (fun k i => a3 (ix2 k i)) l := by
  unfold whole entry
  rw [padded_apply]
  refine dite_congr rfl (fun hl => ?_) fun _ => rfl
  rw [product_at]
  refine Finset.sum_congr rfl fun k _ => congrArg (· * _) ?_
  rw [norm_at]
  simp only [byImage_at]
  exact congrArg₂ (fun u v => Rows.normed _ _ u v k) (funext fun i => modRow_at 1 slices_S32x6x1024_S32x1x1024_0_1_0 a2 b i) (funext fun i => modRow_at 0 slices_S32x6x1024_S32x1x1024_0_0_0 a2 b i)

theorem narrow_at (x : FVec Ideal S65536x2944 .f32) (r : Fin 65536) (l : Fin 2944) : narrow x (ix2 r l) = x (ix2 r l) := by
  unfold narrow
  pointwise

theorem tail_at (x : FVec Ideal S65536x2944 .f32) (r : Fin 65536) (l : Fin 128) : tail x (ix2 r l) = x (ix2 r (Proj.last l)) := by
  unfold tail
  pointwise

end Cert.Proof.ProjRef

end
-- ==== Proof.ProjCompare.lean ====
/- The two input projections agree, row by row. -/
module

public import proofs.«01_k».proof.Proof.ProjRef

@[expose] public section

noncomputable section

namespace Cert.Proof.Proj

open Idealize.ShloMosaic Idealize.SL.Sem Cert.KernelProjIdeal Cert.KernelProjIdeal.Gen Idealize.ShloMosaic.TcCoe

/-- A row's point, half and place. -/
theorem row_split (r : Fin 65536) : ∃ (t : Fin grid0.N) (j : Fin 2) (s : Fin 512) (b : Fin 32) (u : Fin 2048),
    r = rowOf t (inHalf j s) ∧ r = ProjRef.tok b u ∧ imgOf t = b := by
  have hr := r.isLt
  exact ⟨⟨r.val / 1024, by have := points; omega⟩, ⟨r.val % 1024 / 512, by omega⟩, ⟨r.val % 512, by omega⟩, ⟨r.val / 2048, by omega⟩, ⟨r.val % 2048, by omega⟩,
    Fin.ext (by show r.val = r.val / 1024 * 1024 + (512 * (r.val % 1024 / 512) + r.val % 512); omega),
    Fin.ext (by show r.val = r.val / 2048 * 2048 + r.val % 2048; omega),
    Fin.ext (by show r.val / 1024 / 2 = r.val / 2048; omega)⟩

variable (m : (ℓ : Loc nD τ sig) → Buf (Elt Ideal) ℓ) (c : Dev nD)

/-- The reference's padded product of the kernel's arguments. -/
abbrev ref : FVec Ideal S65536x2944 .f32 :=
  ProjRef.whole (F := Ideal) (m ((c.tc : Thread nD τ).loc main_arg0)) (m ((c.tc : Thread nD τ).loc main_arg1)) (m ((c.tc : Thread nD τ).loc main_arg2)) (m ((c.tc : Thread nD τ).loc main_arg3))

theorem result4_eq : ∀ i : S65536x2944.Idx, (dats m 0 c).arrAt 4 cfg0.N i = ProjRef.narrow (ref m c) i := by
  intro i
  obtain ⟨r, l, rfl⟩ : ∃ (r : Fin 65536) (l : Fin 2944), i = ix2 r l := ⟨i 0, i 1, funext fun a => match a with | ⟨0, _⟩ => rfl | ⟨1, _⟩ => rfl⟩
  obtain ⟨t, j, s, b, u, e1, e2, e3⟩ := row_split r
  have hk := result4_at m c t j s l
  have hf := ProjRef.whole_at (m ((c.tc : Thread nD τ).loc main_arg0)) (m ((c.tc : Thread nD τ).loc main_arg1)) (m ((c.tc : Thread nD τ).loc main_arg2)) (m ((c.tc : Thread nD τ).loc main_arg3)) b u l
  rw [← e1, e3] at hk
  rw [← e2] at hf
  exact hk.trans (hf.symm.trans (ProjRef.narrow_at _ r l).symm)

theorem result5_eq : ∀ i : S65536x128.Idx, (dats m 0 c).arrAt 5 cfg0.N i = ProjRef.tail (ref m c) i := by
  intro i
  obtain ⟨r, l, rfl⟩ : ∃ (r : Fin 65536) (l : Fin 128), i = ix2 r l := ⟨i 0, i 1, funext fun a => match a with | ⟨0, _⟩ => rfl | ⟨1, _⟩ => rfl⟩
  obtain ⟨t, j, s, b, u, e1, e2, e3⟩ := row_split r
  have hk := result5_at m c t j s l
  have hf := ProjRef.whole_at (m ((c.tc : Thread nD τ).loc main_arg0)) (m ((c.tc : Thread nD τ).loc main_arg1)) (m ((c.tc : Thread nD τ).loc main_arg2)) (m ((c.tc : Thread nD τ).loc main_arg3)) b u (last l)
  rw [← e1, e3] at hk
  rw [← e2] at hf
  exact hk.trans (hf.symm.trans (ProjRef.tail_at _ r l).symm)

end Cert.Proof.Proj

end
-- ==== Proof.CombineBlock.lean ====
/- The experts' combination in named stages: the token rows with the two experts' results by their gates, and the last norm;
   and the stored block at a row and lane. -/
module

public import proofs.«01_k».proof.Proof.Gen.KernelCombineIdeal.Value
public import Idealize.ShloMosaic.Lib.Pointwise
public import Idealize.ShloMosaic.Lib.Pipeline.ValueKit.Tiles

@[expose] public section

noncomputable section

namespace Cert.Proof.Combine

open Idealize.ShloMosaic Idealize.SL.Sem Cert.KernelCombineIdeal Cert.KernelCombineIdeal.Gen Idealize.ShloMosaic.TcCoe

/-- A token's row with its two experts' results, each by its gate, and the sum by the modulation. -/
def joinedRow (x gate : Fin 1024 → EReal) (g1 g2 : EReal) (ya yb : Fin 1024 → EReal) (l : Fin 1024) : EReal :=
  x l + gate l * (g1 * ya l + g2 * yb l)

/-- A row over its root mean square, by the gain. -/
def finalRow (x g : Fin 1024 → EReal) (l : Fin 1024) : EReal :=
  x l * Ideal.rsqrt (Ideal.div (∑ k, x k * x k) (Ideal.ofBits FTy.f32 0x44800000#32) + Ideal.ofBits FTy.f32 0x358637BD#32) * g l

section
variable {F : FTy → Type} [FloatOps F]

/-- The rows with the experts' results. -/
def joined (x : FVec F S1024x1024 .f32) (ya yb : FVec F S1024x1024 .bf16) (route : FVec F S1024x128 .f32) (gate : FVec F S1x1x1024 .f32) : FVec F S1024x1024 .f32 :=
  addf x (mulf (broadcastTo S1024x1024 (shapeCast S1x1024 gate shapeCasts_S1x1x1024_S1x1024) broadcasts_S1x1024_S1024x1024)
    (addf (mulf (broadcastTo S1024x1024 (extractStridedSlice S1024x1 ![0, 4] route slices_S1024x128_o0_4_S1024x1) broadcasts_S1024x1_S1024x1024) (extf .f32 ya bitsLt_bf16_f32))
      (mulf (broadcastTo S1024x1024 (extractStridedSlice S1024x1 ![0, 5] route slices_S1024x128_o0_5_S1024x1) broadcasts_S1024x1_S1024x1024) (extf .f32 yb bitsLt_bf16_f32))))

/-- Rows after the last norm. -/
def final (x : FVec F S1024x1024 .f32) (g : FVec F S1x1024 .f32) : FVec F S1024x1024 .f32 :=
  mulf (mulf x (broadcastTo S1024x1024 (rsqrt (addf (divf (shapeCast S1024x1 (multiReduction .add [1] S1024 (mulf x x) 0x00000000#32 reduces_S1024x1024_S1024 (.inl rfl) rfl) shapeCasts_S1024_S1024x1)
        (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)

variable (x0 : Vec F S1024x1024 .f32) (x1 x2 : Vec F S1024x1024 .bf16) (x3 : Vec F S1024x128 .f32) (x4 : Vec F S1x6x1024 .f32) (x5 : Vec F S1x1024 .f32)

/-- The rows, the experts' results, the gates, the last row of the modulation and the gain, as loaded. -/
def rowsAt : FVec F S1024x1024 .f32 := View.ld x0 r0_1
@[inherit_doc rowsAt] def expertAt (y : Vec F S1024x1024 .bf16) : FVec F S1024x1024 .bf16 := View.ld y r0_1
@[inherit_doc rowsAt] def routeAt : FVec F S1024x128 .f32 := View.ld x3 r0_0
@[inherit_doc rowsAt] def modAt : FVec F S1x1x1024 .f32 := View.ld x4 r0_2
@[inherit_doc rowsAt] def gainAt : FVec F S1x1024 .f32 := View.ld x5 r0_3

theorem out_eq : out0_6 x0 x1 x2 x3 x4 x5
    = View.canon [⟨r0_1, final (joined (rowsAt x0) (expertAt x1) (expertAt x2) (routeAt x3) (modAt x4)) (gainAt x5)⟩] := rfl
end

theorem joined_at (x : FVec Ideal S1024x1024 .f32) (ya yb : FVec Ideal S1024x1024 .bf16) (route : FVec Ideal S1024x128 .f32) (gate : FVec Ideal S1x1x1024 .f32) (r l : Fin 1024) :
    joined x ya yb route gate (ix2 r l)
      = joinedRow (fun k => x (ix2 r k)) (fun k => gate (ix3 0 0 k)) (route (ix2 r 4)) (route (ix2 r 5)) (fun k => ya (ix2 r k)) (fun k => yb (ix2 r k)) l := by
  unfold joined joinedRow; pointwise

theorem final_at (x : FVec Ideal S1024x1024 .f32) (g : FVec Ideal S1x1024 .f32) (r l : Fin 1024) :
    final x g (ix2 r l) = finalRow (fun k => x (ix2 r k)) (fun k => g (ix2 0 k)) l := by
  unfold final finalRow; pointwise

section
variable (x0 : Vec Ideal S1024x1024 .f32) (x1 x2 : Vec Ideal S1024x1024 .bf16) (x3 : Vec Ideal S1024x128 .f32) (x4 : Vec Ideal S1x6x1024 .f32) (x5 : Vec Ideal S1x1024 .f32)

/-- Two axes from their starts. -/
theorem from_start {n k : ℕ} (r : Fin n) (l : Fin k) (d : Fin 2) :
    ((ix2 r l : (⟨2, ![n, k]⟩ : Shape).Idx) d).val = (![0, 0] : Fin 2 → ℕ) d + ((ix2 r l : (⟨2, ![n, k]⟩ : Shape).Idx) d).val :=
  match d with
  | ⟨0, _⟩ => (Nat.zero_add _).symm
  | ⟨1, _⟩ => (Nat.zero_add _).symm

theorem ld_rows (r l : Fin 1024) : rowsAt x0 (ix2 r l) = x0 (ix2 r l) := View.ld_unit_apply_of x0 _ _ _ _ _ (from_start r l)
theorem ld_expert (y : Vec Ideal S1024x1024 .bf16) (r l : Fin 1024) : expertAt y (ix2 r l) = y (ix2 r l) := View.ld_unit_apply_of y _ _ _ _ _ (from_start r l)
theorem ld_route (r : Fin 1024) (l : Fin 128) : routeAt x3 (ix2 r l) = x3 (ix2 r l) := View.ld_unit_apply_of x3 _ _ _ _ _ (from_start r l)
theorem ld_gain (l : Fin 1024) : gainAt x5 (ix2 0 l) = x5 (ix2 0 l) := View.ld_unit_apply_of x5 _ _ _ _ _ (from_start 0 l)
theorem ld_mod (l : Fin 1024) : modAt x4 (ix3 0 0 l) = x4 (ix3 0 5 l) :=
  View.ld_unit_apply_of x4 _ _ _ _ _ fun d => match d with
    | ⟨0, _⟩ => (Nat.zero_add _).symm
    | ⟨1, _⟩ => rfl
    | ⟨2, _⟩ => (Nat.zero_add _).symm

/-- A block stored whole. -/
theorem whole (w : Vec Ideal S1024x1024 .f32) (r l : Fin 1024) : View.canon [(⟨r0_1, w⟩ : View.Piece (Elt Ideal) S1024x1024 .f32)] (ix2 r l) = w (ix2 r l) := by
  have e : r0_1.emb (ix2 r l) = (ix2 r l : S1024x1024.Idx) := by
    funext a
    refine Fin.ext ?_
    rw [Rect.emb_apply]
    match a with
    | ⟨0, _⟩ => show 0 + 1 * r.val = r.val; omega
    | ⟨1, _⟩ => show 0 + 1 * l.val = l.val; omega
  exact (congrArg _ e.symm).trans (View.canon_cons_emb r0_1 w [] (ix2 r l))

/-- The stored block at a row and lane. -/
theorem out_at (r l : Fin 1024) : out0_6 x0 x1 x2 x3 x4 x5 (ix2 r l)
    = finalRow (joinedRow (fun k => x0 (ix2 r k)) (fun k => x4 (ix3 0 5 k)) (x3 (ix2 r 4)) (x3 (ix2 r 5)) (fun k => x1 (ix2 r k)) (fun k => x2 (ix2 r k)))
        (fun k => x5 (ix2 0 k)) l := by
  rw [out_eq, whole, final_at]
  simp only [joined_at, ld_rows, ld_expert, ld_route, ld_mod, ld_gain]
end

end Cert.Proof.Combine

end
-- ==== Proof.CombineKer.lean ====
/- What the combination's staging buffers hold at a grid point, and its result at a row and lane. -/
module

public import proofs.«01_k».proof.Proof.CombineBlock
public import Idealize.ShloMosaic.Lib.StableHlo.ReadAt

@[expose] public section

noncomputable section

namespace Cert.Proof.Combine

open Idealize.ShloMosaic Idealize.SL.Sem Cert.KernelCombineIdeal Cert.KernelCombineIdeal.Gen Idealize.ShloMosaic.TcCoe

section
variable {F : FTy → Type} [FloatOps F] (m : (ℓ : Loc nD τ sig) → Buf (Elt F) ℓ)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val / 2, 0, 0] := by decide +kernel
theorem index5 : ∀ t : Fin grid0.N, win0_5.index t = ![0, 0] := by decide +kernel
theorem index6 : ∀ t : Fin grid0.N, win0_6.index t = ![t.val, 0] := by decide +kernel

theorem points : grid0.N = 64 := by decide

/-- Row `r` of point `t`'s block. -/
abbrev rowOf (t : Fin grid0.N) (r : Fin 1024) : Fin 65536 := ⟨t.val * 1024 + r.val, by have := points; omega⟩
/-- The image point `t`'s rows belong to. -/
abbrev imgOf (t : Fin grid0.N) : Fin 32 := ⟨t.val / 2, by have := points; omega⟩

/-- A place in a block of 1024 rows that follows the grid. -/
theorem tiled {ix : Fin 2 → ℕ} {t : ℕ} (hix : ix = ![t, 0]) {n k : ℕ} (r : Fin 1024) (x : Fin k) (o : Fin n) (ho : o.val = t * 1024 + r.val) (a : Fin 2) :
    ix a * (![1024, k] : Fin 2 → ℕ) a + 1 * ((ix2 r x : (⟨2, ![1024, k]⟩ : Shape).Idx) a).val = ((ix2 o x : (⟨2, ![n, k]⟩ : Shape).Idx) a).val := by
  subst hix
  match a with
  | ⟨0, _⟩ => show t * 1024 + 1 * r.val = o.val; omega
  | ⟨1, _⟩ => show 0 * k + 1 * x.val = x.val; omega

theorem staged0 (c : Dev nD) (t : Fin grid0.N) (r x : Fin 1024) :
    iblk m c 0 t (ix2 r x) = m ((c : Thread nD τ).loc main_arg0) (ix2 (rowOf t r) x) := by
  unfold iblk
  show V m c main_arg0 ((win0_0.rect t).emb _) = _
  rw [V_main_arg0]
  refine congrArg _ (funext fun a => Fin.ext ?_)
  rw [Rect.emb_apply]
  exact tiled (index0 t) r x (rowOf t r) rfl a
theorem staged1 (c : Dev nD) (t : Fin grid0.N) (r x : Fin 1024) :
    iblk m c 1 t (ix2 r x) = m ((c : Thread nD τ).loc main_arg1) (ix2 (rowOf t r) x) := by
  unfold iblk
  show V m c main_arg1 ((win0_1.rect t).emb _) = _
  rw [V_main_arg1]
  refine congrArg _ (funext fun a => Fin.ext ?_)
  rw [Rect.emb_apply]
  exact tiled (index1 t) r x (rowOf t r) rfl a
theorem staged2 (c : Dev nD) (t : Fin grid0.N) (r x : Fin 1024) :
    iblk m c 2 t (ix2 r x) = m ((c : Thread nD τ).loc main_arg2) (ix2 (rowOf t r) x) := by
  unfold iblk
  show V m c main_arg2 ((win0_2.rect t).emb _) = _
  rw [V_main_arg2]
  refine congrArg _ (funext fun a => Fin.ext ?_)
  rw [Rect.emb_apply]
  exact tiled (index2 t) r x (rowOf t r) rfl a
theorem staged3 (c : Dev nD) (t : Fin grid0.N) (r : Fin 1024) (x : Fin 128) :
    iblk m c 3 t (ix2 r x) = m ((c : Thread nD τ).loc main_arg3) (ix2 (rowOf t r) x) := by
  unfold iblk
  show V m c main_arg3 ((win0_3.rect t).emb _) = _
  rw [V_main_arg3]
  refine congrArg _ (funext fun a => Fin.ext ?_)
  rw [Rect.emb_apply]
  exact tiled (index3 t) r x (rowOf t r) rfl a

theorem staged4 (c : Dev nD) (t : Fin grid0.N) (k : Fin 6) (x : Fin 1024) :
    iblk m c 4 t (ix3 0 k x) = m ((c : Thread nD τ).loc main_arg4) (ix3 (imgOf t) k x) := by
  unfold iblk
  show V m c main_arg4 ((win0_4.rect t).emb _) = _
  rw [V_main_arg4]
  refine congrArg _ (funext fun a => Fin.ext ?_)
  rw [Rect.emb_apply]
  match a with
  | ⟨0, _⟩ => show win0_4.index t 0 * 1 + 1 * 0 = _; rw [index4]; exact Nat.mul_one _
  | ⟨1, _⟩ => show win0_4.index t 1 * 6 + 1 * k.val = _; rw [index4, Nat.one_mul]; exact Nat.zero_add _
  | ⟨2, _⟩ => show win0_4.index t 2 * 1024 + 1 * x.val = _; rw [index4, Nat.one_mul]; exact Nat.zero_add _

theorem staged5 (c : Dev nD) (t : Fin grid0.N) (x : Fin 1024) : iblk m c 5 t (ix2 0 x) = V m c main_v0 (ix2 0 x) := by
  unfold iblk
  show V m c main_v0 ((win0_5.rect t).emb _) = _
  refine congrArg _ (funext fun a => Fin.ext ?_)
  rw [Rect.emb_apply]
  match a with
  | ⟨0, _⟩ => show win0_5.index t 0 * 1 + 1 * 0 = 0; rw [index5]; rfl
  | ⟨1, _⟩ => show win0_5.index t 1 * 1024 + 1 * x.val = _; rw [index5, Nat.one_mul]; exact Nat.zero_add _

theorem V_gain (c : Dev nD) : V m c main_v0 = broadcastInDim S1x1024 ![1] bcast_S1024_S1x1024_1 (m ((c : Thread nD τ).loc main_arg5)) := by
  unfold V; after_reads_simp

/-- A result row's place: written at point `t`, row `r` of its block. -/
theorem place (t : Fin grid0.N) (r x : Fin 1024) : (win0_6.rect t).emb (ix2 r x) = (ix2 (rowOf t r) x : S65536x1024.Idx) := by
  refine funext fun a => Fin.ext ?_
  rw [Rect.emb_apply]
  exact tiled (index6 t) r x (rowOf t r) rfl a

/-- The result array at row `r` of point `t` is what the body leaves there. -/
theorem left (c : Dev nD) (t : Fin grid0.N) (r l : Fin 1024) :
    (dats m 0 c).arrAt 6 cfg0.N (ix2 (rowOf t r) l : S65536x1024.Idx)
      = out0_6 (iblk m c 0 t) (iblk m c 1 t) (iblk m c 2 t) (iblk m c 3 t) (iblk m c 4 t) (iblk m c 5 t) (ix2 r l) := by
  have hb := congrFun (Value.blocks6 m c t (flush0_6 t)) (ix2 r l)
  rw [Value.flushed6] at hb
  rw [← place t r l]
  exact hb
end

variable (m : (ℓ : Loc nD τ sig) → Buf (Elt Ideal) ℓ)

theorem gain_at (c : Dev nD) (t : Fin grid0.N) (l : Fin 1024) : iblk m c 5 t (ix2 0 l) = m ((c : Thread nD τ).loc main_arg5) (ix1 l) := by
  rw [staged5, V_gain]; pointwise

/-- A row's result, of the whole arrays: row `r`, image `b`. -/
abbrev rowAt (a0 : FVec Ideal S65536x1024 .f32) (a1 a2 : FVec Ideal S65536x1024 .bf16) (a3 : FVec Ideal S65536x128 .f32) (a4 : FVec Ideal S32x6x1024 .f32)
    (a5 : FVec Ideal S1024 .f32) (r : Fin 65536) (b : Fin 32) : Fin 1024 → EReal :=
  finalRow (joinedRow (fun k => a0 (ix2 r k)) (fun k => a4 (ix3 b 5 k)) (a3 (ix2 r 4)) (a3 (ix2 r 5)) (fun k => a1 (ix2 r k)) (fun k => a2 (ix2 r k))) (fun k => a5 (ix1 k))

/-- The kernel's result at row `r` of point `t`. -/
theorem result_at (c : Dev nD) (t : Fin grid0.N) (r l : Fin 1024) :
    (dats m 0 c).arrAt 6 cfg0.N (ix2 (rowOf t r) l : S65536x1024.Idx)
      = rowAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (rowOf t r) (imgOf t) l := by
  rw [left, out_at]
  simp only [staged0, staged1, staged2, staged3, staged4, gain_at]

end Cert.Proof.Combine

end
-- ==== Proof.CombineRef.lean ====
/- The reference's combination in named stages, and its result at an image's row and lane. -/
module

public import proofs.«01_k».proof.Proof.Gen.ReferenceCombineIdeal.Run
public import proofs.«01_k».proof.Proof.CombineKer

@[expose] public section

noncomputable section

namespace Cert.Proof.CombineRef

open Idealize.ShloMosaic Idealize.SL.Sem Cert.ReferenceCombineIdeal Cert.ReferenceCombineIdeal.Gen Idealize.ShloMosaic.TcCoe
open Cert.Proof.Combine (joinedRow finalRow rowAt)

section
variable {F : FTy → Type} [FloatOps F]

/-- The last row of every image's modulation, on all of the image's rows. -/
def gate (x : FVec F S32x6x1024 .f32) : FVec F S32x2048x1024 .f32 :=
  broadcastInDim S32x2048x1024 ![0, 1, 2] bcast_S32x1x1024_S32x2048x1024_0_1_2 (broadcastInDim S32x1x1024 ![0, 2] bcast_S32x1024_S32x1x1024_0_2
    (shapeCast S32x1024 (extractStridedSlice S32x1x1024 ![0, 5, 0] x slices_S32x6x1024_S32x1x1024_0_5_0) shapeCasts_S32x1x1024_S32x1024))

/-- The rows by image. -/
def byImage (x : FVec F S65536x1024 .f32) : FVec F S32x2048x1024 .f32 := shapeCast S32x2048x1024 x shapeCasts_S65536x1024_S32x2048x1024
@[inherit_doc byImage] def gatesByImage (x : FVec F S65536x128 .f32) : FVec F S32x2048x128 .f32 := shapeCast S32x2048x128 x shapeCasts_S65536x128_S32x2048x128

/-- Each row by its entry in one column. -/
def scaled (s : FVec F S32x2048x1 .f32) (y : FVec F S65536x1024 .bf16) : FVec F S32x2048x1024 .f32 :=
  mulf (broadcastInDim S32x2048x1024 ![0, 1, 2] bcast_S32x2048x1_S32x2048x1024_0_1_2 s) (byImage (extf .f32 y bitsLt_bf16_f32))

/-- The rows with the experts' results. -/
def joined (x : FVec F S65536x1024 .f32) (ya yb : FVec F S65536x1024 .bf16) (route : FVec F S65536x128 .f32) (mod : FVec F S32x6x1024 .f32) : FVec F S32x2048x1024 .f32 :=
  addf (byImage x) (mulf (gate mod) (addf
    (scaled (extractStridedSlice S32x2048x1 ![0, 0, 4] (gatesByImage route) slices_S32x2048x128_S32x2048x1_0_0_4) ya)
    (scaled (extractStridedSlice S32x2048x1 ![0, 0, 5] (gatesByImage route) slices_S32x2048x128_S32x2048x1_0_0_5) yb)))

/-- Each row over its root mean square, by the gain. -/
def final (x : FVec F S32x2048x1024 .f32) (g : FVec F S1024 .f32) : FVec F S32x2048x1024 .f32 :=
  mulf (mulf x (broadcastInDim S32x2048x1024 ![0, 1, 2] bcast_S32x2048x1_S32x2048x1024_0_1_2 (Host.rsqrt (addf (Host.divf
        (broadcastInDim S32x2048x1 ![0, 1] bcast_S32x2048_S32x2048x1_0_1 (Host.reduceAdd (mulf x x) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- All rows, one after another. -/
def flat (x : FVec F S32x2048x1024 .f32) : FVec F S65536x1024 .f32 := shapeCast S65536x1024 x shapeCasts_S32x2048x1024_S65536x1024

/-- The whole. -/
def whole (a0 : FVec F S65536x1024 .f32) (a1 a2 : FVec F S65536x1024 .bf16) (a3 : FVec F S65536x128 .f32) (a4 : FVec F S32x6x1024 .f32) (a5 : FVec F S1024 .f32) : FVec F S65536x1024 .f32 :=
  flat (final (joined a0 a1 a2 a3 a4) a5)

theorem whole_eq (m : (ℓ : Loc nD τ sig) → Buf (Elt F) ℓ) (c : Dev nD) : Value.res_out0 m c
    = whole (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := rfl
end

/-- Row `t` of image `b`, among all rows. -/
abbrev tok (b : Fin 32) (t : Fin 2048) : Fin 65536 := ⟨b.val * 2048 + t.val, by omega⟩

theorem gate_at (x : FVec Ideal S32x6x1024 .f32) (b : Fin 32) (t : Fin 2048) (l : Fin 1024) : gate x (ix3 b t l) = x (ix3 b 5 l) := by
  unfold gate
  pointwise

theorem byImage_at (x : FVec Ideal S65536x1024 .f32) (b : Fin 32) (t : Fin 2048) (l : Fin 1024) : byImage x (ix3 b t l) = x (ix2 (tok b t) l) := by
  unfold byImage
  pointwise

theorem gatesByImage_at (x : FVec Ideal S65536x128 .f32) (b : Fin 32) (t : Fin 2048) (l : Fin 128) : gatesByImage x (ix3 b t l) = x (ix2 (tok b t) l) := by
  unfold gatesByImage
  pointwise

theorem scaled_at (s : FVec Ideal S32x2048x1 .f32) (y : FVec Ideal S65536x1024 .bf16) (b : Fin 32) (t : Fin 2048) (l : Fin 1024) :
    scaled s y (ix3 b t l) = s (ix3 b t 0) * y (ix2 (tok b t) l) := by
  unfold scaled byImage
  pointwise

theorem column4 (x : FVec Ideal S32x2048x128 .f32) (b : Fin 32) (t : Fin 2048) :
    extractStridedSlice S32x2048x1 ![0, 0, 4] x slices_S32x2048x128_S32x2048x1_0_0_4 (ix3 b t 0) = x (ix3 b t 4) := by pointwise
theorem column5 (x : FVec Ideal S32x2048x128 .f32) (b : Fin 32) (t : Fin 2048) :
    extractStridedSlice S32x2048x1 ![0, 0, 5] x slices_S32x2048x128_S32x2048x1_0_0_5 (ix3 b t 0) = x (ix3 b t 5) := by pointwise

theorem joined_at (x : FVec Ideal S65536x1024 .f32) (ya yb : FVec Ideal S65536x1024 .bf16) (route : FVec Ideal S65536x128 .f32) (mod : FVec Ideal S32x6x1024 .f32)
    (b : Fin 32) (t : Fin 2048) (l : Fin 1024) :
    joined x ya yb route mod (ix3 b t l)
      = joinedRow (fun k => x (ix2 (tok b t) k)) (fun k => mod (ix3 b 5 k)) (route (ix2 (tok b t) 4)) (route (ix2 (tok b t) 5))
          (fun k => ya (ix2 (tok b t) k)) (fun k => yb (ix2 (tok b t) k)) l := by
  unfold joined joinedRow
  rw [addf_apply, mulf_apply, addf_apply, byImage_at, gate_at, scaled_at, scaled_at, column4, column5, gatesByImage_at, gatesByImage_at]
  rfl

theorem final_at (x : FVec Ideal S32x2048x1024 .f32) (g : FVec Ideal S1024 .f32) (b : Fin 32) (t : Fin 2048) (l : Fin 1024) :
    final x g (ix3 b t l) = finalRow (fun k => x (ix3 b t k)) (fun k => g (ix1 k)) l := by
  unfold final finalRow
  pointwise

theorem flat_at (x : FVec Ideal S32x2048x1024 .f32) (b : Fin 32) (t : Fin 2048) (l : Fin 1024) : flat x (ix2 (tok b t) l) = x (ix3 b t l) := by
  unfold flat
  pointwise
  exact congrArg x (congrArg₂ (fun i j => ix3 i j l) (Fin.ext (by show (b.val * 2048 + t.val) / 2048 = b.val; omega))
    (Fin.ext (by show (b.val * 2048 + t.val) % 2048 = t.val; omega)))

variable (a0 : FVec Ideal S65536x1024 .f32) (a1 a2 : FVec Ideal S65536x1024 .bf16) (a3 : FVec Ideal S65536x128 .f32) (a4 : FVec Ideal S32x6x1024 .f32) (a5 : FVec Ideal S1024 .f32)

theorem whole_at (b : Fin 32) (t : Fin 2048) (l : Fin 1024) : whole a0 a1 a2 a3 a4 a5 (ix2 (tok b t) l) = rowAt a0 a1 a2 a3 a4 a5 (tok b t) b l := by
  unfold whole
  rw [flat_at, final_at]
  simp only [joined_at]

end Cert.Proof.CombineRef

end
-- ==== Proof.CombineCompare.lean ====
/- The two combinations agree, row by row. -/
module

public import proofs.«01_k».proof.Proof.CombineRef

@[expose] public section

noncomputable section

namespace Cert.Proof.Combine

open Idealize.ShloMosaic Idealize.SL.Sem Cert.KernelCombineIdeal Cert.KernelCombineIdeal.Gen Idealize.ShloMosaic.TcCoe

/-- A row's point and place, and its image and place. -/
theorem row_split (r : Fin 65536) : ∃ (t : Fin grid0.N) (s : Fin 1024) (b : Fin 32) (u : Fin 2048), r = rowOf t s ∧ r = CombineRef.tok b u ∧ imgOf t = b := by
  have hr := r.isLt
  exact ⟨⟨r.val / 1024, by have := points; omega⟩, ⟨r.val % 1024, by omega⟩, ⟨r.val / 2048, by omega⟩, ⟨r.val % 2048, by omega⟩,
    Fin.ext (by show r.val = r.val / 1024 * 1024 + r.val % 1024; omega),
    Fin.ext (by show r.val = r.val / 2048 * 2048 + r.val % 2048; omega),
    Fin.ext (by show r.val / 1024 / 2 = r.val / 2048; omega)⟩

variable (m : (ℓ : Loc nD τ sig) → Buf (Elt Ideal) ℓ) (c : Dev nD)

theorem result_eq : ∀ i : S65536x1024.Idx, (dats m 0 c).arrAt 6 cfg0.N i
    = CombineRef.whole (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) i := by
  intro i
  obtain ⟨r, l, rfl⟩ : ∃ (r : Fin 65536) (l : Fin 1024), i = ix2 r l := ⟨i 0, i 1, funext fun a => match a with | ⟨0, _⟩ => rfl | ⟨1, _⟩ => rfl⟩
  obtain ⟨t, s, b, u, e1, e2, e3⟩ := row_split r
  have hk := result_at m c t s l
  have hf := CombineRef.whole_at (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b u l
  rw [← e1, e3] at hk
  rw [← e2] at hf
  exact hk.trans hf.symm

end Cert.Proof.Combine

end
-- ==== Proof.MoeBody.lean ====
/- One work item of the expert feed-forward: what its body leaves in the result block and in the two kept copies of the
   expert's weights, whichever of its branches the item takes. -/
module

public import proofs.«01_k».proof.Proof.Gen.KernelMoeIdeal.Launch
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelMoeIdeal Cert.KernelMoeIdeal.Gen

section Kept
variable {sig : RefSig} {κ : Kind} {sp : Space} {s : Shape} {e : EltTy} {Val : EltTy → Type} [∀ e, Nonempty (Val e)]

/-- A buffer stored whole under a condition holds the stored block, or what it held. -/
theorem read_kept (v : View sig κ sp s e) (x w : s.Idx → Val e) {off : Fin s.rank → ℕ} (inb : ∀ a, off a + s.size a ≤ s.size a)
    (C : Prop) [Decidable C] :
    v.read Val (if _h : C then v.writes Val (v.rep x) [⟨Rect.unit off s.size inb, w⟩] else v.rep x) = if C then w else x := by
  by_cases h : C
  · rw [dif_pos h, if_pos h]; exact View.read_writes_full v _ inb w []
  · rw [dif_neg h, if_neg h, View.read_rep]

/-- A window loaded from it is that block's window. -/
theorem ld_kept (v : View sig κ sp s e) (x w : s.Idx → Val e) {off : Fin s.rank → ℕ} (inb : ∀ a, off a + s.size a ≤ s.size a)
    (C : Prop) [Decidable C] {o n : Fin s.rank → ℕ} (h : ∀ a, o a + n a ≤ s.size a) :
    v.readAt Val (Rect.unit o n h).toLoadRect (if _h : C then v.writes Val (v.rep x) [⟨Rect.unit off s.size inb, w⟩] else v.rep x)
      = View.ld (if C then w else x) (Rect.unit o n h) := by
  rw [View.readAt_unit v _ h rfl h, read_kept, VecWindow.window_eq_ld]

/-- A buffer stored whole under one condition and again under another, both under a third. -/
theorem read_twice (v : View sig κ sp s e) (x w w' : s.Idx → Val e) {off off' : Fin s.rank → ℕ} (inb : ∀ a, off a + s.size a ≤ s.size a)
    (inb' : ∀ a, off' a + s.size a ≤ s.size a) (g : v.ty.Contents Val) (C D E : Prop) [Decidable C] [Decidable D] [Decidable E] :
    v.read Val (if _h : C then if _h : D then v.writes Val g [⟨Rect.unit off s.size inb, w'⟩]
        else if _h : E then v.writes Val (v.rep x) [⟨Rect.unit off' s.size inb', w⟩] else v.rep x else v.rep x)
      = if C then if D then w' else if E then w else x else x := by
  by_cases hC : C
  · by_cases hD : D
    · rw [dif_pos hC, if_pos hC, dif_pos hD, if_pos hD]; exact View.read_writes_full v _ inb w' []
    · rw [dif_pos hC, if_pos hC, dif_neg hD, if_neg hD]; exact read_kept v x w inb' E
  · rw [dif_neg hC, if_neg hC, View.read_rep]
end Kept

variable {F : FTy → Type} [FloatOps F]

/-- The hidden units' products with some columns of a weight, and those units' contribution. -/
def hid (x : FVec F S512x1024 .bf16) (w : FVec F S1024x256 .bf16) : FVec F S512x256 .f32 :=
  matmul dot_S512x1024_S1024x256_S512x256_1_0_0_1_n_n none x w (constant S512x256 .f32 0x00000000#32)
@[inherit_doc hid] def chunk (x : FVec F S512x1024 .bf16) (g u : FVec F S1024x256 .bf16) (d : FVec F S256x1024 .bf16) : FVec F S512x1024 .f32 :=
  matmul dot_S512x256_S256x1024_S512x1024_1_0_0_1_n_n none
    (truncf .bf16 (mulf (mulf (hid x g) (logistic (hid x g))) (hid x u)) bitsLt_bf16_f32) d (constant S512x1024 .f32 0x00000000#32)
/-- The same for the last 128 units. -/
def hidLast (x : FVec F S512x1024 .bf16) (w : FVec F S1024x128 .bf16) : FVec F S512x128 .f32 :=
  matmul dot_S512x1024_S1024x128_S512x128_1_0_0_1_n_n none x w (constant S512x128 .f32 0x00000000#32)
@[inherit_doc hidLast] def chunkLast (x : FVec F S512x1024 .bf16) (g u : FVec F S1024x128 .bf16) (d : FVec F S128x1024 .bf16) : FVec F S512x1024 .f32 :=
  matmul dot_S512x128_S128x1024_S512x1024_1_0_0_1_n_n none
    (truncf .bf16 (mulf (mulf (hidLast x g) (logistic (hidLast x g))) (hidLast x u)) bitsLt_bf16_f32) d (constant S512x1024 .f32 0x00000000#32)

theorem gate_le : ∀ c : Fin 5, ∀ a, (![0, 256 * c.val] : Fin 2 → ℕ) a + S1024x256.size a ≤ S1024x2816.size a := by decide
theorem up_le : ∀ c : Fin 5, ∀ a, (![0, 1408 + 256 * c.val] : Fin 2 → ℕ) a + S1024x256.size a ≤ S1024x2816.size a := by decide
theorem down_le : ∀ c : Fin 5, ∀ a, (![256 * c.val, 0] : Fin 2 → ℕ) a + S256x1024.size a ≤ S1408x1024.size a := by decide

/-- Chunk `c` of the kept weights, and its contribution. -/
def gateAt (S0 : Vec F S1024x2816 .bf16) (c : Fin 5) : FVec F S1024x256 .bf16 := View.ld S0 (Rect.unit ![0, 256 * c.val] S1024x256.size (gate_le c))
@[inherit_doc gateAt] def upAt (S0 : Vec F S1024x2816 .bf16) (c : Fin 5) : FVec F S1024x256 .bf16 := View.ld S0 (Rect.unit ![0, 1408 + 256 * c.val] S1024x256.size (up_le c))
@[inherit_doc gateAt] def downAt (S1 : Vec F S1408x1024 .bf16) (c : Fin 5) : FVec F S256x1024 .bf16 := View.ld S1 (Rect.unit ![256 * c.val, 0] S256x1024.size (down_le c))
@[inherit_doc gateAt] def chunkAt (x : FVec F S512x1024 .bf16) (S0 : Vec F S1024x2816 .bf16) (S1 : Vec F S1408x1024 .bf16) (c : Fin 5) : FVec F S512x1024 .f32 :=
  chunk x (gateAt S0 c) (upAt S0 c) (downAt S1 c)
/-- The last 128 units' columns and rows of the kept weights. -/
def gateLast (S0 : Vec F S1024x2816 .bf16) : FVec F S1024x128 .bf16 := View.ld S0 (Rect.unit ![0, 1280] S1024x128.size inb_S1024x2816_S1024x128_0_1280)
@[inherit_doc gateLast] def upLast (S0 : Vec F S1024x2816 .bf16) : FVec F S1024x128 .bf16 := View.ld S0 (Rect.unit ![0, 2688] S1024x128.size inb_S1024x2816_S1024x128_0_2688)
@[inherit_doc gateLast] def downLast (S1 : Vec F S1408x1024 .bf16) : FVec F S128x1024 .bf16 := View.ld S1 (Rect.unit ![1280, 0] S128x1024.size inb_S1408x1024_S128x1024_1280_0)

/-- The six chunks, added in order, rounded. -/
def rowsOut (x : FVec F S512x1024 .bf16) (S0 : Vec F S1024x2816 .bf16) (S1 : Vec F S1408x1024 .bf16) : FVec F S512x1024 .bf16 :=
  truncf .bf16 (addf (addf (addf (addf (addf (chunkAt x S0 S1 0) (chunkAt x S0 S1 1)) (chunkAt x S0 S1 2)) (chunkAt x S0 S1 3)) (chunkAt x S0 S1 4))
    (chunkLast x (gateLast S0) (upLast S0) (downLast S1))) bitsLt_bf16_f32

/-- The six chunks of weights that are the kept ones, loaded one by one. -/
theorem rowsOut_of (S0 : Vec F S1024x2816 .bf16) (S1 : Vec F S1408x1024 .bf16) {x x' : FVec F S512x1024 .bf16} {g0 u0 g1 u1 g2 u2 g3 u3 g4 u4 : FVec F S1024x256 .bf16} {d0 d1 d2 d3 d4 : FVec F S256x1024 .bf16}
    {gl ul : FVec F S1024x128 .bf16} {dl : FVec F S128x1024 .bf16} (hx : x' = x)
    (hg0 : g0 = gateAt S0 0) (hu0 : u0 = upAt S0 0) (hd0 : d0 = downAt S1 0) (hg1 : g1 = gateAt S0 1) (hu1 : u1 = upAt S0 1) (hd1 : d1 = downAt S1 1) (hg2 : g2 = gateAt S0 2) (hu2 : u2 = upAt S0 2) (hd2 : d2 = downAt S1 2) (hg3 : g3 = gateAt S0 3) (hu3 : u3 = upAt S0 3) (hd3 : d3 = downAt S1 3) (hg4 : g4 = gateAt S0 4) (hu4 : u4 = upAt S0 4) (hd4 : d4 = downAt S1 4) (hgl : gl = gateLast S0) (hul : ul = upLast S0) (hdl : dl = downLast S1) :
    truncf .bf16 (addf (addf (addf (addf (addf (chunk x' g0 u0 d0) (chunk x' g1 u1 d1)) (chunk x' g2 u2 d2)) (chunk x' g3 u3 d3)) (chunk x' g4 u4 d4))
      (chunkLast x' gl ul dl)) bitsLt_bf16_f32 = rowsOut x S0 S1 := by
  subst hx hg0 hu0 hd0 hg1 hu1 hd1 hg2 hu2 hd2 hg3 hu3 hd3 hg4 hu4 hd4 hgl hul hdl; rfl

/-- The expert's weights, rounded. -/
def kept0 (w : FVec F S1x1024x2816 .f32) : FVec F S1024x2816 .bf16 :=
  shapeCast S1024x2816 (truncf .bf16 (shapeCast S1024x2816 w shapeCasts_S1x1024x2816_S1024x2816) bitsLt_bf16_f32) shapeCasts_S1024x2816_S1024x2816
@[inherit_doc kept0] def kept1 (w : FVec F S1x1408x1024 .f32) : FVec F S1408x1024 .bf16 :=
  shapeCast S1408x1024 (truncf .bf16 (shapeCast S1408x1024 w shapeCasts_S1x1408x1024_S1408x1024) bitsLt_bf16_f32) shapeCasts_S1408x1024_S1408x1024

/-- The item's rows take the new values, the rows before them keep theirs. -/
def merge (tile start : BitVec 32) (new old : FVec F S512x1024 .bf16) : FVec F S512x1024 .bf16 :=
  select (broadcastTo S512x1024 (shapeCast S512x1 (cmpi .sge (addi (broadcast S512x1 (Scalar.muli tile 512#32)) (iota .tc S512x1 32 [0] iota_S512x1_d0_w32))
    (broadcast S512x1 start)) shapeCasts_S512x1_S512x1) broadcasts_S512x1_S512x1024) new (shapeCast S512x1024 old shapeCasts_S512x1024_S512x1024)

/-- The item is the first, or of another expert than the item before it. -/
abbrev Renewed (i : grid0.Coords) (w w' : BitVec 32) : Prop :=
  Scalar.cmpi .ne (Scalar.extui (Scalar.ori (Scalar.cmpi .eq (BitVec.ofNat 32 (i 0).val) 0#32) (Scalar.cmpi .ne w w')) : BitVec 32) 0#32 = 1#1

/-- The result block the item leaves, over the block it found. -/
def left (tile start stop : BitVec 32) (new old : FVec F S512x1024 .bf16) : FVec F S512x1024 .bf16 :=
  if k0_cond2 start stop = 1#1 then
    if k0_cond4 start tile = 1#1 then merge tile start new (if k0_cond3 start tile = 1#1 then new else old)
    else if k0_cond3 start tile = 1#1 then new else old
  else old

local notation "𝕄" => MT nD τ sig Unit (Elt F) ℕ (UR sig nD τ) ℕ

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- A table's word at an offset. -/
def wordAt (c : Dev nD) (M : Memref sig .tc .smem S264 .i32) (f : TbBuf (F := F) c M) (off : Fin 1 → ℕ) (h : ∀ a, off a + S1.size a ≤ S264.size a) : BitVec 32 :=
  M.view.readAt (Elt F) (Rect.unit (s := S264) off S1.size h).toLoadRect f (Shape.Idx.first numel1_S1.ge)

section
variable (c : Dev nD) (i : grid0.Coords) (arg1 arg2 arg3 arg4 : Memref sig .tc .smem S264 .i32)
    (f1 : TbBuf (F := F) c arg1) (f2 : TbBuf (F := F) c arg2) (f3 : TbBuf (F := F) c arg3) (f4 : TbBuf (F := F) c arg4)
    (x : Vec F S512x1024 .bf16) (wg : Vec F S1x1024x2816 .f32) (wd : Vec F S1x1408x1024 .f32)
    (y : Vec F S512x1024 .bf16) (s0 : Vec F S1024x2816 .bf16) (s1 : Vec F S1408x1024 .bf16)

/-- The kept weights after the item. -/
def new0 : Vec F S1024x2816 .bf16 := if Renewed i (wordAt c arg2 f2 (k0_off1 i) (k0_off1_inb i)) (wordAt c arg2 f2 (k0_off2 i) (k0_off2_inb i)) then kept0 wg else s0
@[inherit_doc new0] def new1 : Vec F S1408x1024 .bf16 := if Renewed i (wordAt c arg2 f2 (k0_off1 i) (k0_off1_inb i)) (wordAt c arg2 f2 (k0_off2 i) (k0_off2_inb i)) then kept1 wd else s1
/-- The result block after the item. -/
def newOut : Vec F S512x1024 .bf16 :=
  left (wordAt c arg1 f1 (k0_off1 i) (k0_off1_inb i)) (wordAt c arg3 f3 (k0_off1 i) (k0_off1_inb i)) (wordAt c arg4 f4 (k0_off1 i) (k0_off1_inb i))
    (rowsOut x (new0 c i arg2 f2 wg s0) (new1 c i arg2 f2 wd s1)) y
end

set_option maxHeartbeats 2000000 in
theorem body (c : Dev nD) (i : grid0.Coords)
    (arg1 : Memref sig .tc .smem S264 .i32) (harg1 : arg1.IsWhole) (arg2 : Memref sig .tc .smem S264 .i32) (harg2 : arg2.IsWhole) (arg3 : Memref sig .tc .smem S264 .i32) (harg3 : arg3.IsWhole) (arg4 : Memref sig .tc .smem S264 .i32) (harg4 : arg4.IsWhole)
    (arg5 : Memref sig .tc .vmem S512x1024 .bf16) (harg5 : arg5.IsWhole) (arg6 : Memref sig .tc .vmem S1x1024x2816 .f32) (harg6 : arg6.IsWhole) (arg7 : Memref sig .tc .vmem S1x1408x1024 .f32) (harg7 : arg7.IsWhole) (arg8 : Memref sig .tc .vmem S512x1024 .bf16) (harg8 : arg8.IsWhole)
    (arg9 : Memref sig .tc .vmem S1024x2816 .bf16) (harg9 : arg9.IsWhole) (arg10 : Memref sig .tc .vmem S1408x1024 .bf16) (harg10 : arg10.IsWhole)
    (f1 : TbBuf (F := F) c arg1) (f2 : TbBuf (F := F) c arg2) (f3 : TbBuf (F := F) c arg3) (f4 : TbBuf (F := F) c arg4)
    (x : Vec F S512x1024 .bf16) (wg : Vec F S1x1024x2816 .f32) (wd : Vec F S1x1408x1024 .f32)
    (y : Vec F S512x1024 .bf16) (s0 : Vec F S1024x2816 .bf16) (s1 : Vec F S1408x1024 .bf16) (K : PUnit → sProp 𝕄) :
    iprop(tbPt c arg1 f1 ∗ tbPt c arg2 f2 ∗ tbPt c arg3 f3 ∗ tbPt c arg4 f4
        ∗ owns (c : Thread nD τ) arg5 fullShare x ∗ owns (c : Thread nD τ) arg6 fullShare wg ∗ owns (c : Thread nD τ) arg7 fullShare wd
        ∗ owns (c : Thread nD τ) arg8 fullShare y ∗ owns (c : Thread nD τ) arg9 fullShare s0 ∗ owns (c : Thread nD τ) arg10 fullShare s1
        ∗ (iprop(tbPt c arg1 f1 ∗ tbPt c arg2 f2 ∗ tbPt c arg3 f3 ∗ tbPt c arg4 f4
            ∗ owns (c : Thread nD τ) arg5 fullShare x ∗ owns (c : Thread nD τ) arg6 fullShare wg ∗ owns (c : Thread nD τ) arg7 fullShare wd
            ∗ owns (c : Thread nD τ) arg8 fullShare (newOut c i arg1 arg2 arg3 arg4 f1 f2 f3 f4 x wg wd y s0 s1)
            ∗ owns (c : Thread nD τ) arg9 fullShare (new0 c i arg2 f2 wg s0) ∗ owns (c : Thread nD τ) arg10 fullShare (new1 c i arg2 f2 wd s1)) -∗ K ⟨⟩))
      ⊢ wp frame (wpE (defs₀ (F := F)) Variants.none c none) Set.univ (cc0_moe_grouped i arg1 harg1 arg2 harg2 arg3 harg3 arg4 harg4 arg5 harg5 arg6 harg6 arg7 harg7 arg8 harg8 arg9 harg9 arg10 harg10) K := by
  generalize hO : newOut c i arg1 arg2 arg3 arg4 f1 f2 f3 f4 x wg wd y s0 s1 = O
  generalize hN0 : new0 c i arg2 f2 wg s0 = N0
  generalize hN1 : new1 c i arg2 f2 wd s1 = N1
  iintro ⟨T1, T2, T3, T4, H5, H6, H7, H8, H9, H10, Hk⟩
  ihave H5 := (rep_of_owns _ _ _ _) $$ H5
  ihave H6 := (rep_of_owns _ _ _ _) $$ H6
  ihave H7 := (rep_of_owns _ _ _ _) $$ H7
  ihave H8 := (rep_of_owns _ _ _ _) $$ H8
  ihave H9 := (rep_of_owns _ _ _ _) $$ H9
  ihave H10 := (rep_of_owns _ _ _ _) $$ H10
  unfold cc0_moe_grouped
  sl_exec!
  sl_step
  iapply Hk
  isplitl [T1]; · iexact T1
  isplitl [T2]; · iexact T2
  isplitl [T3]; · iexact T3
  isplitl [T4]; · iexact T4
  isplitl [H5]; · iapply (owns_of_rep _ _ _ _); iexact H5
  isplitl [H6]; · iapply (owns_of_rep _ _ _ _); iexact H6
  isplitl [H7]; · iapply (owns_of_rep _ _ _ _); iexact H7
  isplitl [H8]
  · unfold owns; iexists _; isplitr
    swap; · iexact H8
    ipureintro
    have e0 : body.sl.v26 c arg6 wg = kept0 wg := by
      unfold body.sl.v26; exact congrArg kept0 (View.readAt_rep_full arg6.view wg _)
    have e1 : body.sl.v32 c arg7 wd = kept1 wd := by
      unfold body.sl.v32; exact congrArg kept1 (View.readAt_rep_full arg7.view wd _)
    have l0 : ∀ {o n : Fin 2 → ℕ} (h : ∀ a, o a + n a ≤ S1024x2816.size a), arg9.view.readAt (Elt F) (Rect.unit o n h).toLoadRect
        (if _h : body.sl.v17 c i arg2 f2 = 1#1 then arg9.view.writes (Elt F) (arg9.view.rep s0)
          [⟨Rect.unit ![0, 0] S1024x2816.size inb_S1024x2816_S1024x2816_0_0, body.sl.v26 c arg6 wg⟩] else arg9.view.rep s0) = View.ld N0 (Rect.unit o n h) := fun h =>
      (ld_kept arg9.view s0 _ _ _ h).trans (by rw [e0, ← hN0]; rfl)
    have l1 : ∀ {o n : Fin 2 → ℕ} (h : ∀ a, o a + n a ≤ S1408x1024.size a), arg10.view.readAt (Elt F) (Rect.unit o n h).toLoadRect
        (if _h : body.sl.v17 c i arg2 f2 = 1#1 then arg10.view.writes (Elt F) (arg10.view.rep s1)
          [⟨Rect.unit ![0, 0] S1408x1024.size inb_S1408x1024_S1408x1024_0_0, body.sl.v32 c arg7 wd⟩] else arg10.view.rep s1) = View.ld N1 (Rect.unit o n h) := fun h =>
      (ld_kept arg10.view s1 _ _ _ h).trans (by rw [e1, ← hN1]; rfl)
    have hY : body.sl.v87 c i arg2 arg5 arg6 arg7 arg9 arg10 f2 x wg wd s0 s1 = rowsOut x N0 N1 :=
      rowsOut_of N0 N1 (View.readAt_rep_full arg5.view x _) (l0 _) (l0 _) (l1 _) (l0 _) (l0 _) (l1 _) (l0 _) (l0 _) (l1 _) (l0 _) (l0 _) (l1 _) (l0 _) (l0 _) (l1 _) (l0 _) (l0 _) (l1 _)
    have hM : body.sl.v103 c i arg1 arg2 arg3 arg5 arg6 arg7 arg8 arg9 arg10 f1 f2 f3 x wg wd y s0 s1
        = merge (wordAt c arg1 f1 (k0_off1 i) (k0_off1_inb i)) (wordAt c arg3 f3 (k0_off1 i) (k0_off1_inb i)) (body.sl.v87 c i arg2 arg5 arg6 arg7 arg9 arg10 f2 x wg wd s0 s1)
            (if k0_cond3 (body.sl.r c i arg3 f3) (body.sl.r_2 c i arg1 f1) = 1#1 then body.sl.v87 c i arg2 arg5 arg6 arg7 arg9 arg10 f2 x wg wd s0 s1 else y) :=
      congrArg (merge (wordAt c arg1 f1 (k0_off1 i) (k0_off1_inb i)) (wordAt c arg3 f3 (k0_off1 i) (k0_off1_inb i)) (body.sl.v87 c i arg2 arg5 arg6 arg7 arg9 arg10 f2 x wg wd s0 s1))
        ((View.readAt_full arg8.view _ _).trans (read_kept arg8.view y _ _ _))
    refine (read_twice arg8.view y _ _ _ _ _ _ _ _).trans ?_
    rw [hM, hY, ← hO, ← hN0, ← hN1]
    rfl
  isplitl [H9]
  · unfold owns; iexists _; isplitr
    swap; · iexact H9
    ipureintro
    rw [← hN0]
    refine (read_kept arg9.view s0 _ _ _).trans ?_
    have e0 : body.sl.v26 c arg6 wg = kept0 wg := by
      unfold body.sl.v26; exact congrArg kept0 (View.readAt_rep_full arg6.view wg _)
    rw [e0]; rfl
  unfold owns; iexists _; isplitr
  swap; · iexact H10
  ipureintro
  rw [← hN1]
  refine (read_kept arg10.view s1 _ _ _).trans ?_
  have e1 : body.sl.v32 c arg7 wd = kept1 wd := by
    unfold body.sl.v32; exact congrArg kept1 (View.readAt_rep_full arg7.view wd _)
  rw [e1]; rfl

end Cert.Proof.Moe

end
-- ==== Proof.MoeTables.lean ====
/- The work list's four tables, word by word: every way the program reads a word is the same entry. -/
module

public import proofs.«01_k».proof.Proof.MoeBody
public import proofs.«01_k».proof.Proof.Rows
public import Idealize.ShloMosaic.Lib.StableHlo.ReadAt

@[expose] public section

set_option maxRecDepth 16384

noncomputable section

namespace Cert.Proof.Moe

open Idealize.ShloMosaic Idealize.ShloMosaic.TcCoe
open Cert.KernelMoeIdeal Cert.KernelMoeIdeal.Gen

variable {F : FTy → Type} [FloatOps F]

section
variable (pf : pre0.Contents (Elt F))

/-- Item `n`'s tile, expert, first row and end. -/
def tileW (n : Fin 264) : BitVec 32 := pf 0 (ix1 n)
@[inherit_doc tileW] def expW (n : Fin 264) : BitVec 32 := pf 1 (ix1 n)
@[inherit_doc tileW] def startW (n : Fin 264) : BitVec 32 := pf 2 (ix1 n)
@[inherit_doc tileW] def stopW (n : Fin 264) : BitVec 32 := pf 3 (ix1 n)

theorem off1_at (i : grid0.Coords) : k0_off1 i 0 = (i 0).val := by rw [k0_off1_eq]; rfl

theorem emb_at (i : grid0.Coords) (h) (j : S1.Idx) : (Rect.unit (s := S264) (k0_off1 i) S1.size h).emb j = (ix1 (i 0) : S264.Idx) := by
  funext a
  obtain rfl : a = 0 := Subsingleton.elim _ _
  have hj : (j 0).val = 0 := Nat.lt_one_iff.mp (j 0).isLt
  refine Fin.ext ?_
  show k0_off1 i 0 + 1 * (j 0).val = (i 0).val
  rw [off1_at, hj]; rfl
theorem word_of (T : S264.Idx → BitVec 32) (i : grid0.Coords) :
    (if h : ∀ a : Fin 1, k0_off1 i a + 1 ≤ S264.size a then T (fun a => ⟨k0_off1 i a, h a⟩) else default) = T (ix1 (i 0)) := by
  have hp : ∀ a : Fin 1, k0_off1 i a + 1 ≤ S264.size a := fun a => by obtain rfl : a = 0 := Subsingleton.elim _ _; exact k0_off1_inb i 0
  rw [dif_pos hp]
  exact congrArg T (funext fun a => Fin.ext (by obtain rfl : a = 0 := Subsingleton.elim _ _; exact off1_at i))

theorem at_0 (i : grid0.Coords) : pf.at 0 (Rect.unit (s := S264) (k0_off1 i) S1.size (k0_off1_inb i)) numel1_S1 = tileW pf (i 0) := congrArg (pf 0) (emb_at i _ _)
theorem at_1 (i : grid0.Coords) : pf.at 1 (Rect.unit (s := S264) (k0_off1 i) S1.size (k0_off1_inb i)) numel1_S1 = expW pf (i 0) := congrArg (pf 1) (emb_at i _ _)
theorem atD_0 (i : grid0.Coords) : pf.atD 0 (k0_off1 i) = tileW pf (i 0) := word_of (pf 0) i
theorem atD_2 (i : grid0.Coords) : pf.atD 2 (k0_off1 i) = startW pf (i 0) := word_of (pf 2) i
theorem atD_3 (i : grid0.Coords) : pf.atD 3 (k0_off1 i) = stopW pf (i 0) := word_of (pf 3) i

theorem ix_0 (i : grid0.Coords) : ix0 pf 0 i = ![(tileW pf (i 0)).toNat, 0] := congrArg (fun w : BitVec 32 => ![w.toNat, 0]) (at_0 pf i)
theorem ix_3 (i : grid0.Coords) : ix0 pf 3 i = ![(tileW pf (i 0)).toNat, 0] := congrArg (fun w : BitVec 32 => ![w.toNat, 0]) (at_0 pf i)
theorem ix_1 (i : grid0.Coords) : ix0 pf 1 i = ![(expW pf (i 0)).toNat, 0, 0] := congrArg (fun w : BitVec 32 => ![w.toNat, 0, 0]) (at_1 pf i)
theorem ix_2 (i : grid0.Coords) : ix0 pf 2 i = ![(expW pf (i 0)).toNat, 0, 0] := congrArg (fun w : BitVec 32 => ![w.toNat, 0, 0]) (at_1 pf i)

/-- Every item's tile and expert are there. -/
theorem ok_of (ht : ∀ n, (tileW pf n).toNat ≤ 255) (he : ∀ n, (expW pf n).toNat ≤ 7) : ok0 pf := by
  have h0 : ∀ i : grid0.Coords, ∃ h : (∀ a, (cc0_transform_0 k0_off1_inb numel1_S1 pf i a + 1) * S512x1024.size a ≤ S131072x1024.size a), EltTy.bits .bf16 = 32 ∨ (Rect.block (s := S131072x1024) S512x1024.size (cc0_transform_0 k0_off1_inb numel1_S1 pf i) h).WholeWords (EltTy.packing .bf16) := by
    intro i
    have e : cc0_transform_0 k0_off1_inb numel1_S1 pf i = ![(tileW pf (i 0)).toNat, 0] := ix_0 pf i
    have hi := ht (i 0)
    refine ⟨fun a => ?_, .inr (.inl (.inr ⟨le_refl 2, rfl, .inl ⟨?_, ?_⟩⟩))⟩
    · rw [e]
      match a with
      | ⟨0, _⟩ => show ((tileW pf (i 0)).toNat + 1) * 512 ≤ 131072; omega
      | ⟨1, _⟩ => show (0 + 1) * 1024 ≤ 1024; omega
    · show 2 ∣ cc0_transform_0 k0_off1_inb numel1_S1 pf i 0 * 512
      exact Dvd.dvd.mul_left (by decide) _
    · show 2 ∣ 512; decide
  refine ⟨h0, fun i => ⟨fun a => ?_, .inl rfl⟩, fun i => ⟨fun a => ?_, .inl rfl⟩, h0⟩
  · have e : cc0_transform_1 k0_off1_inb numel1_S1 pf i = ![(expW pf (i 0)).toNat, 0, 0] := ix_1 pf i
    have hi := he (i 0)
    rw [e]
    match a with
    | ⟨0, _⟩ => show ((expW pf (i 0)).toNat + 1) * 1 ≤ 8; omega
    | ⟨1, _⟩ => show (0 + 1) * 1024 ≤ 1024; omega
    | ⟨2, _⟩ => show (0 + 1) * 2816 ≤ 2816; omega
  · have e : cc0_transform_2 k0_off1_inb numel1_S1 pf i = ![(expW pf (i 0)).toNat, 0, 0] := ix_2 pf i
    have hi := he (i 0)
    rw [e]
    match a with
    | ⟨0, _⟩ => show ((expW pf (i 0)).toNat + 1) * 1 ≤ 8; omega
    | ⟨1, _⟩ => show (0 + 1) * 1408 ≤ 1408; omega
    | ⟨2, _⟩ => show (0 + 1) * 1024 ≤ 1024; omega
end

end Cert.Proof.Moe

end
-- ==== Proof.MoeWords.lean ====
/- The item's conditions, read as comparisons of numbers. -/
module

public import proofs.«01_k».proof.Proof.MoeTables

@[expose] public section

set_option maxRecDepth 16384

noncomputable section

namespace Cert.Proof.Moe

open Idealize.ShloMosaic Idealize.ShloMosaic.TcCoe
open Cert.KernelMoeIdeal Cert.KernelMoeIdeal.Gen

theorem one_of (b : BitVec 1) : Scalar.cmpi .ne (Scalar.extui b : BitVec 32) 0#32 = 1#1 ↔ b = 1#1 := by revert b; decide

theorem ofBool_one (b : Bool) : BitVec.ofBool b = 1#1 ↔ b = true := by cases b <;> decide

/-- The item has rows. -/
theorem cond2_iff (start stop : BitVec 32) (h : start.toNat ≤ 131072) (h' : stop.toNat ≤ 131072) :
    k0_cond2 start stop = 1#1 ↔ start.toNat < stop.toNat := by
  refine (one_of _).trans ?_
  simp only [Scalar.cmpi, IntOp.cmpi, ofBool_one, BitVec.slt, BitVec.toInt, decide_eq_true_eq]
  omega

theorem mul_toNat (tile : BitVec 32) (h : tile.toNat ≤ 255) : (Scalar.muli tile 512#32).toNat = tile.toNat * 512 := by
  show (tile * 512#32).toNat = _
  rw [BitVec.toNat_mul]
  show tile.toNat * 512 % 2 ^ 32 = _
  omega

/-- The item starts its tile. -/
theorem cond3_iff (start tile : BitVec 32) (h : tile.toNat ≤ 255) : k0_cond3 start tile = 1#1 ↔ start.toNat = tile.toNat * 512 := by
  refine (one_of _).trans ?_
  rw [← mul_toNat tile h, ← BitVec.toNat_eq]
  simp only [Scalar.cmpi, IntOp.cmpi, ofBool_one, beq_iff_eq]

theorem cond4_iff (start tile : BitVec 32) (h : tile.toNat ≤ 255) : k0_cond4 start tile = 1#1 ↔ start.toNat ≠ tile.toNat * 512 := by
  refine (one_of _).trans ?_
  rw [← mul_toNat tile h, ne_eq, ← BitVec.toNat_eq]
  simp only [Scalar.cmpi, IntOp.cmpi, ofBool_one, bne_iff_ne, ne_eq]

/-- The weights are renewed at the first item and where the expert changes. -/
theorem renewed_iff (i : grid0.Coords) (w w' : BitVec 32) : Renewed i w w' ↔ (i 0).val = 0 ∨ w ≠ w' := by
  have hi : (i 0).val < 264 := (i 0).isLt
  refine (one_of _).trans ?_
  have hor : ∀ a b : BitVec 1, Scalar.ori a b = 1#1 ↔ a = 1#1 ∨ b = 1#1 := by decide
  rw [hor]
  have e : (BitVec.ofNat 32 (i 0).val = 0#32) ↔ (i 0).val = 0 := by
    rw [BitVec.toNat_eq, BitVec.toNat_ofNat, Nat.mod_eq_of_lt (by omega)]; rfl
  simp only [Scalar.cmpi, IntOp.cmpi, ofBool_one, bne_iff_ne, beq_iff_eq, ne_eq, e]

end Cert.Proof.Moe

end
-- ==== Proof.MoeList.lean ====
/- What the work list says: items in row order, each inside its tile. From it: when a tile's block is written back, and
   that a block nothing was stored in yet is met at the tile's first row. -/
module

public import proofs.«01_k».proof.Proof.MoeWords

@[expose] public section

set_option maxRecDepth 16384

noncomputable section

namespace Cert.Proof.Moe

open Idealize.ShloMosaic Idealize.ShloMosaic.TcCoe
open Cert.KernelMoeIdeal Cert.KernelMoeIdeal.Gen

variable {F : FTy → Type} [FloatOps F]

/-- The items' rows follow one another from row 0 to row 131072; an item's rows lie in its tile, which the item's first
    row names. -/
structure Listed (pf : pre0.Contents (Elt F)) : Prop where
  tile_le : ∀ n, (tileW pf n).toNat ≤ 255
  exp_le : ∀ n, (expW pf n).toNat ≤ 7
  lo : ∀ n, (tileW pf n).toNat * 512 ≤ (startW pf n).toNat
  named : ∀ n, (startW pf n).toNat < (tileW pf n).toNat * 512 + 512 ∨ (tileW pf n).toNat = 255
  up : ∀ n, (startW pf n).toNat ≤ (stopW pf n).toNat
  hi : ∀ n, (stopW pf n).toNat ≤ (tileW pf n).toNat * 512 + 512
  first : (startW pf 0).toNat = 0
  next : ∀ n (h : n + 1 < 264), (startW pf ⟨n + 1, h⟩).toNat = (stopW pf ⟨n, by omega⟩).toNat
  last : (stopW pf 263).toNat = 131072

theorem coords_at : ∀ t : Fin grid0.N, ((grid0.coords t) 0).val = t.val := by decide +kernel
theorem points : grid0.N = 264 := N_0

/-- Point `t`'s item. -/
abbrev item (t : Fin grid0.N) : Fin 264 := ⟨t.val, points ▸ t.isLt⟩
theorem coords_item (t : Fin grid0.N) : (grid0.coords t) 0 = item t := Fin.ext (coords_at t)

section
variable {pf : pre0.Contents (Elt F)} (L : Listed pf)
include L

theorem Listed.ok : ok0 pf := ok_of pf L.tile_le L.exp_le
theorem Listed.step (n : ℕ) (h : n + 1 < 264) :
    (tileW pf ⟨n, by omega⟩).toNat ≤ (tileW pf ⟨n + 1, h⟩).toNat ∧ (tileW pf ⟨n + 1, h⟩).toNat ≤ (tileW pf ⟨n, by omega⟩).toNat + 1 := by
  have a := L.next n h
  have b := L.lo ⟨n, by omega⟩; have b' := L.lo ⟨n + 1, h⟩
  have c := L.up ⟨n, by omega⟩
  have d := L.hi ⟨n, by omega⟩
  have e := L.named ⟨n + 1, h⟩
  have f := L.tile_le ⟨n, by omega⟩
  omega
theorem Listed.stop_le (n) : (stopW pf n).toNat ≤ 131072 := by
  have a := L.hi n; have b := L.tile_le n; omega
theorem Listed.start_le (n) : (startW pf n).toNat ≤ 131072 := (L.up n).trans (L.stop_le n)
end

section
variable (pf : pre0.Contents (Elt F)) (L : Listed pf)

/-- The pipeline at these tables. -/
abbrev adm : (pcfg0 (F := F)).Adm := ⟨pf, L.ok⟩
abbrev cfgM : Pipeline.Cfg sig Λ₀ := cfg0 (adm pf L)

theorem index_0 (t : Fin grid0.N) : ((cfgM pf L).win 0).index t = ![(tileW pf (item t)).toNat, 0] := (ix_0 pf (grid0.coords t)).trans (by rw [coords_item])
theorem index_3 (t : Fin grid0.N) : ((cfgM pf L).win 3).index t = ![(tileW pf (item t)).toNat, 0] := (ix_3 pf (grid0.coords t)).trans (by rw [coords_item])
theorem index_1 (t : Fin grid0.N) : ((cfgM pf L).win 1).index t = ![(expW pf (item t)).toNat, 0, 0] := (ix_1 pf (grid0.coords t)).trans (by rw [coords_item])
theorem index_2 (t : Fin grid0.N) : ((cfgM pf L).win 2).index t = ![(expW pf (item t)).toNat, 0, 0] := (ix_2 pf (grid0.coords t)).trans (by rw [coords_item])

/-- The block is written back after the last item of its tile. -/
theorem flush_iff (t : Fin grid0.N) : ((cfgM pf L).win 3).flush t = true
    ↔ t.val + 1 = 264 ∨ ∃ h : t.val + 1 < 264, (tileW pf ⟨t.val + 1, h⟩).toNat ≠ (tileW pf (item t)).toNat := by
  have hN := points
  unfold Pipeline.Window.flush
  rw [show ((cfgM pf L).win 3).isOut = true from rfl, Bool.true_and, Bool.or_eq_true, decide_eq_true_eq, decide_eq_true_eq]
  refine or_congr (by show t.val + 1 = grid0.N ↔ _; omega) ⟨fun ⟨h, e⟩ => ⟨by have : t.val + 1 < grid0.N := h; omega, fun he => e ?_⟩, fun ⟨h, e⟩ => ⟨show t.val + 1 < grid0.N by omega, fun he => e ?_⟩⟩
  · have h1 := index_3 pf L ⟨t.val + 1, h⟩
    have h0 := index_3 pf L t
    exact h1.trans ((congrArg (fun k : ℕ => (![k, 0] : Fin 2 → ℕ)) he).trans h0.symm)
  · have h1 := index_3 pf L ⟨t.val + 1, by omega⟩
    have h0 := index_3 pf L t
    exact congrFun (h1.symm.trans (he.trans h0)) 0

/-- A point stores nothing exactly when its item has no rows. -/
theorem idle_iff (t : Fin grid0.N) : (cfgM pf L).idle 3 ((cfgM pf L).grid.coords t) = true
    ↔ ¬ (startW pf (item t)).toNat < (stopW pf (item t)).toNat := by
  have e0 := atD_0 pf (grid0.coords t); have e2 := atD_2 pf (grid0.coords t); have e3 := atD_3 pf (grid0.coords t)
  rw [coords_item] at e0 e2 e3
  have c2 := cond2_iff _ _ (L.start_le (item t)) (L.stop_le (item t))
  have c3 := cond3_iff (startW pf (item t)) _ (L.tile_le (item t))
  have c4 := cond4_iff (startW pf (item t)) _ (L.tile_le (item t))
  show (!(k0_cond2 (pf.atD 2 (k0_off1 (grid0.coords t))) (pf.atD 3 (k0_off1 (grid0.coords t))) == 1#1 && k0_cond3 (pf.atD 2 (k0_off1 (grid0.coords t))) (pf.atD 0 (k0_off1 (grid0.coords t))) == 1#1)
      && !(k0_cond2 (pf.atD 2 (k0_off1 (grid0.coords t))) (pf.atD 3 (k0_off1 (grid0.coords t))) == 1#1 && k0_cond4 (pf.atD 2 (k0_off1 (grid0.coords t))) (pf.atD 0 (k0_off1 (grid0.coords t))) == 1#1)) = true ↔ _
  rw [e0, e2, e3]
  simp only [Bool.and_eq_true, Bool.not_eq_true', Bool.and_eq_false_iff, beq_eq_false_iff_ne, ne_eq, c2, c3, c4]
  tauto

/-- A block nothing was stored in yet is met at the tile's first row. -/
theorem fresh_start : ∀ n (h : n < 264), (cfgM pf L).fresh 3 n = true → (startW pf ⟨n, h⟩).toNat = (tileW pf ⟨n, h⟩).toNat * 512
  | 0, h, _ => by
    have a := L.first; have b := L.lo ⟨0, h⟩
    have e : (0 : Fin 264) = ⟨0, h⟩ := rfl
    rw [e] at a; omega
  | n + 1, h, hf => by
    have hn : n < (cfgM pf L).N := show n < grid0.N by rw [points]; omega
    rw [Pipeline.Cfg.fresh_succ _ _ n hn, Bool.or_eq_true, Bool.and_eq_true] at hf
    have nx := L.next n h; have b := L.lo ⟨n + 1, h⟩; have d := L.hi ⟨n, by omega⟩; have s := L.step n h; have u := L.up ⟨n, by omega⟩
    rcases hf with hf | ⟨hi, hf⟩
    · rcases (flush_iff pf L ⟨n, hn⟩).mp hf with hl | ⟨_, hl⟩
      · have : n + 1 = 264 := hl
        omega
      · have hl' : (tileW pf ⟨n + 1, h⟩).toNat ≠ (tileW pf ⟨n, by omega⟩).toNat := hl
        omega
    · have hs := fresh_start n (by omega) hf
      have hi' : ¬ (startW pf ⟨n, by omega⟩).toNat < (stopW pf ⟨n, by omega⟩).toNat := (idle_iff pf L ⟨n, hn⟩).mp hi
      omega

/-- An item without rows writes no block back that nothing was stored in. -/
theorem stored_of_flush (t : Fin grid0.N) (hf : ((cfgM pf L).win 3).flush t = true)
    (hi : (cfgM pf L).idle 3 ((cfgM pf L).grid.coords t) = true) : (cfgM pf L).fresh 3 t.val = false := by
  rw [← Bool.not_eq_true]
  intro hr
  have hs : (startW pf (item t)).toNat = (tileW pf (item t)).toNat * 512 := fresh_start pf L t.val (item t).isLt hr
  have hi' := (idle_iff pf L t).mp hi
  have u := L.up (item t); have tl := L.tile_le (item t)
  rcases (flush_iff pf L t).mp hf with hl | ⟨h, hl⟩
  · have la := L.last
    have e : item t = 263 := Fin.ext (by show t.val = 263; omega)
    rw [← e] at la; omega
  · have nx : (startW pf ⟨t.val + 1, h⟩).toNat = (stopW pf (item t)).toNat := L.next t.val h
    have b := L.lo ⟨t.val + 1, h⟩
    have s : (tileW pf (item t)).toNat ≤ (tileW pf ⟨t.val + 1, h⟩).toNat := (L.step t.val h).1
    omega
end

end Cert.Proof.Moe

end
-- ==== Proof.MoeFrame.lean ====
/- The expert feed-forward's run: what the result block holds after each item, the weights kept from item to item, and
   the frame. -/
module

public import proofs.«01_k».proof.Proof.MoeList
public import Idealize.ShloMosaic.Lib.Claim

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelMoeIdeal Cert.KernelMoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four tables as launched. -/
def tbl : pre0.Contents (Elt F) := fun j => m (((0 : Dev nD) : Thread nD τ).loc (pre0.ref j))
abbrev V (c : Dev nD) (b : Ref sig .tc) : Buf (Elt F) ((c : Thread nD τ).loc b) := m ((c.tc : Thread nD τ).loc b)
theorem V_pre (c : Dev nD) (j : Fin 4) : V m c (pre0.ref j) = tbl m j := by obtain rfl : c = 0 := Subsingleton.elim _ _; rfl

/-- Each, as the buffer the body reads. -/
def tb0 (c : Dev nD) : TbBuf (F := F) c (Memref.whole main_arg0) := tbl m 0
@[inherit_doc tb0] def tb1 (c : Dev nD) : TbBuf (F := F) c (Memref.whole main_arg1) := tbl m 1
@[inherit_doc tb0] def tb2 (c : Dev nD) : TbBuf (F := F) c (Memref.whole main_arg2) := tbl m 2
@[inherit_doc tb0] def tb3 (c : Dev nD) : TbBuf (F := F) c (Memref.whole main_arg3) := tbl m 3

theorem off2_word : ∀ n : Fin 264, (Scalar.indexCast (Scalar.maxsi (Scalar.subi (BitVec.ofNat 32 n.val) 1#32) 0#32) : Index).toNat = n.val - 1 := by
  decide +kernel
theorem off2_at (i : grid0.Coords) : k0_off2 i 0 = (i 0).val - 1 := off2_word (i 0)

theorem wordAt_0 (c : Dev nD) (i : grid0.Coords) (h) : wordAt c (Memref.whole main_arg0) (tb0 m c) (k0_off1 i) h = tileW (tbl m) (i 0) := congrArg (tbl m 0) (emb_at i _ _)
theorem wordAt_1 (c : Dev nD) (i : grid0.Coords) (h) : wordAt c (Memref.whole main_arg1) (tb1 m c) (k0_off1 i) h = expW (tbl m) (i 0) := congrArg (tbl m 1) (emb_at i _ _)
theorem wordAt_2 (c : Dev nD) (i : grid0.Coords) (h) : wordAt c (Memref.whole main_arg2) (tb2 m c) (k0_off1 i) h = startW (tbl m) (i 0) := congrArg (tbl m 2) (emb_at i _ _)
theorem wordAt_3 (c : Dev nD) (i : grid0.Coords) (h) : wordAt c (Memref.whole main_arg3) (tb3 m c) (k0_off1 i) h = stopW (tbl m) (i 0) := congrArg (tbl m 3) (emb_at i _ _)
theorem wordAt_before (c : Dev nD) (i : grid0.Coords) (h) : wordAt c (Memref.whole main_arg1) (tb1 m c) (k0_off2 i) h
    = expW (tbl m) ⟨(i 0).val - 1, lt_of_le_of_lt (Nat.sub_le _ _) (i 0).isLt⟩ := by
  refine congrArg (tbl m 1) (?_ : (Rect.unit (s := S264) (k0_off2 i) S1.size h).emb _ = (ix1 _ : S264.Idx))
  funext a
  obtain rfl : a = 0 := Subsingleton.elim _ _
  refine Fin.ext ?_
  show k0_off2 i 0 + 1 * 0 = (i 0).val - 1
  rw [off2_at]; omega

variable (L : Listed (tbl m))

abbrev cfgs1 := cfgM (tbl m) L

/-- Window `w`'s block at point `t`. -/
def iblk (c : Dev nD) (w : Fin 4) (t : Fin grid0.N) : (((cfgs1 m L).win w).xblock ((cfgs1 m L).grid.coords t)).Idx → Elt F ((cfgs1 m L).win w).elt :=
  (((cfgs1 m L).win w).blk t).view.read (Elt F) (V m c (Pipeline.arrRef spec0 w))
/-- Point `t`'s rows and its expert's weights. -/
def rowsIn (c : Dev nD) (t : Fin grid0.N) : Vec F S512x1024 .bf16 := iblk m L c 0 t
@[inherit_doc rowsIn] def guIn (c : Dev nD) (t : Fin grid0.N) : Vec F S1x1024x2816 .f32 := iblk m L c 1 t
@[inherit_doc rowsIn] def downIn (c : Dev nD) (t : Fin grid0.N) : Vec F S1x1408x1024 .f32 := iblk m L c 2 t

/-- What point `t` makes of the block it finds. -/
def stepOut (c : Dev nD) (t : Fin grid0.N) (y : Vec F S512x1024 .bf16) : Vec F S512x1024 .bf16 :=
  left (tileW (tbl m) (item t)) (startW (tbl m) (item t)) (stopW (tbl m) (item t))
    (rowsOut (rowsIn m L c t) (kept0 (guIn m L c t)) (kept1 (downIn m L c t))) y

/-- The result block after the first `n` points. -/
def acc (c : Dev nD) : ℕ → Vec F S512x1024 .bf16
  | 0 => constant S512x1024 .bf16 0x0000#16
  | n + 1 => if h : n < grid0.N then stepOut m L c ⟨n, h⟩ (acc c n) else constant S512x1024 .bf16 0x0000#16

theorem acc_succ (c : Dev nD) (t : Fin grid0.N) : acc m L c (t.val + 1) = stepOut m L c t (acc m L c t.val) := dif_pos t.isLt

/-- An item without rows changes nothing; an item at its tile's first row does not read the block. -/
theorem stepOut_idle (c : Dev nD) (t : Fin grid0.N) (h : ¬ (startW (tbl m) (item t)).toNat < (stopW (tbl m) (item t)).toNat) (y) : stepOut m L c t y = y := by
  unfold stepOut left
  exact if_neg (by rw [cond2_iff _ _ (L.start_le _) (L.stop_le _)]; exact h)
theorem stepOut_first (c : Dev nD) (t : Fin grid0.N) (h : (startW (tbl m) (item t)).toNat < (stopW (tbl m) (item t)).toNat)
    (h' : (startW (tbl m) (item t)).toNat = (tileW (tbl m) (item t)).toNat * 512) (y) :
    stepOut m L c t y = rowsOut (rowsIn m L c t) (kept0 (guIn m L c t)) (kept1 (downIn m L c t)) := by
  unfold stepOut left
  rw [if_pos ((cond2_iff _ _ (L.start_le _) (L.stop_le _)).mpr h), if_neg (by rw [cond4_iff _ _ (L.tile_le _)]; exact fun e => e h'),
    if_pos ((cond3_iff _ _ (L.tile_le _)).mpr h')]

/-- The kept weights are the last item's. -/
def Kept (c : Dev nD) (n : ℕ) (h : n ≤ grid0.N) (s0 : Vec F S1024x2816 .bf16) (s1 : Vec F S1408x1024 .bf16) : Prop :=
  ∀ hn : 0 < n, s0 = kept0 (guIn m L c ⟨n - 1, by omega⟩) ∧ s1 = kept1 (downIn m L c ⟨n - 1, by omega⟩)

/-- The weights kept, the register and the tables. -/
def PhiS (c : Dev nD) (n : ℕ) (h : n ≤ grid0.N) : sProp 𝕄 :=
  iprop((∃ s0 s1, ⌜Kept m L c n h s0 s1⌝ ∗ owns (c : Thread nD τ) (Memref.whole cc0_scratch0) fullShare s0 ∗ owns (c : Thread nD τ) (Memref.whole cc0_scratch1) fullShare s1)
    ∗ (∃ r, prngReg c r) ∗ Pipeline.ΦT pre0 (tbl m) c)

def dats (_ : Fin 1) (c : Dev nD) : Dat τ (Elt F) Unit ℕ (UR sig nD τ) ℕ (cfgs1 m L) c where
  A w := V m c (Pipeline.arrRef spec0 w)
  after w t := match w with
    | ⟨0, _⟩ => iblk m L c 0 t
    | ⟨1, _⟩ => iblk m L c 1 t
    | ⟨2, _⟩ => iblk m L c 2 t
    | ⟨3, _⟩ => acc m L c (t.val + 1)
  Φ t := PhiS m L c t.val (Nat.le_of_lt_succ t.isLt)
  q _ := fullShare
  owed _ := 0

theorem A_eq (c : Dev nD) (w : Fin 4) : (dats m L 0 c).A w = V m c (Pipeline.arrRef spec0 w) := by dsimp only [dats]
theorem after_0 (c : Dev nD) (t) : (dats m L 0 c).after 0 t = iblk m L c 0 t := by dsimp only [dats]; rfl
theorem after_1 (c : Dev nD) (t) : (dats m L 0 c).after 1 t = iblk m L c 1 t := by dsimp only [dats]; rfl
theorem after_2 (c : Dev nD) (t) : (dats m L 0 c).after 2 t = iblk m L c 2 t := by dsimp only [dats]; rfl
theorem after_3 (c : Dev nD) (t : Fin grid0.N) : (dats m L 0 c).after 3 t = acc m L c (t.val + 1) := by dsimp only [dats]; rfl

theorem before_0 (c : Dev nD) (t) (d) : (dats m L 0 c).before 0 t d = rowsIn m L c t :=
  ((dats m L 0 c).before_in_eq_fetched 0 rfl (fun _ => rfl) (fun _ _ _ => rfl) (fun t => by rw [after_0]; unfold Dat.blockOf iblk; rw [A_eq]; try rfl) t d).trans
    (by unfold Dat.fetched Dat.blockOf rowsIn iblk; rw [A_eq]; try rfl)
theorem before_1 (c : Dev nD) (t) (d) : (dats m L 0 c).before 1 t d = guIn m L c t :=
  ((dats m L 0 c).before_in_eq_fetched 1 rfl (fun _ => rfl) (fun _ _ _ => rfl) (fun t => by rw [after_1]; unfold Dat.blockOf iblk; rw [A_eq]; try rfl) t d).trans
    (by unfold Dat.fetched Dat.blockOf guIn iblk; rw [A_eq]; try rfl)
theorem before_2 (c : Dev nD) (t) (d) : (dats m L 0 c).before 2 t d = downIn m L c t :=
  ((dats m L 0 c).before_in_eq_fetched 2 rfl (fun _ => rfl) (fun _ _ _ => rfl) (fun t => by rw [after_2]; unfold Dat.blockOf iblk; rw [A_eq]; try rfl) t d).trans
    (by unfold Dat.fetched Dat.blockOf downIn iblk; rw [A_eq]; try rfl)

/-- The result block a point finds. -/
def found (c : Dev nD) (t : Fin grid0.N) (d : ((cfgs1 m L).win 3).block.Idx → Elt F ((cfgs1 m L).win 3).elt) : Vec F S512x1024 .bf16 := (dats m L 0 c).before 3 t d
/-- What the last point left, if its tile was stored in. -/
theorem before_3 (c : Dev nD) (t : Fin grid0.N) (d) (hf : (cfgs1 m L).fresh 3 t.val = false) : found m L c t d = acc m L c t.val := by
  unfold found
  have ht : t.val ≠ 0 := fun h => by rw [h, Pipeline.Cfg.fresh_zero] at hf; exact Bool.noConfusion hf
  rw [(dats m L 0 c).before_out_traj 3 rfl (fun _ _ => rfl) (fun u hu hi _ => by
    rw [after_3, after_3, acc_succ, stepOut_idle m L c u ((idle_iff (tbl m) L u).mp hi)]
    show _ = acc m L c (u.val - 1 + 1)
    rw [Nat.sub_add_cancel (Nat.pos_of_ne_zero hu)]) t.val t rfl d, hf]
  show (dats m L 0 c).after 3 _ = _
  rw [after_3]
  show acc m L c (t.val - 1 + 1) = _
  rw [Nat.sub_add_cancel (Nat.pos_of_ne_zero ht)]

/-- Point `t`'s expert and tile. -/
abbrev expOf (t : Fin grid0.N) : Fin 8 := ⟨(expW (tbl m) (item t)).toNat, by have := L.exp_le (item t); omega⟩
@[inherit_doc expOf] abbrev tileOf (t : Fin grid0.N) : Fin 256 := ⟨(tileW (tbl m) (item t)).toNat, by have := L.tile_le (item t); omega⟩

theorem guIn_apply (c : Dev nD) (t : Fin grid0.N) (j : S1x1024x2816.Idx) :
    guIn m L c t j = m ((c : Thread nD τ).loc main_arg5) (ix3 (expOf m L t) (j 1) (j 2)) := by
  unfold guIn iblk
  show V m c main_arg5 ((((cfgs1 m L).win 1).rect t).emb _) = _
  refine congrArg (m ((c : Thread nD τ).loc main_arg5)) (funext fun a => Fin.ext ?_)
  have hj : (j 0).val = 0 := Nat.lt_one_iff.mp (j 0).isLt
  match a with
  | ⟨0, _⟩ => exact (congrArg (fun k : ℕ => k * 1 + 1 * (j 0).val) (congrFun (index_1 (tbl m) L t) (0 : Fin 3))).trans (by show (expOf m L t).val * 1 + 1 * (j 0).val = _; rw [hj]; exact Nat.mul_one _)
  | ⟨1, _⟩ => exact (congrArg (fun k : ℕ => k * 1024 + 1 * (j 1).val) (congrFun (index_1 (tbl m) L t) (1 : Fin 3))).trans (by show 0 * 1024 + 1 * (j 1).val = _; rw [Nat.one_mul]; exact Nat.zero_add _)
  | ⟨2, _⟩ => exact (congrArg (fun k : ℕ => k * 2816 + 1 * (j 2).val) (congrFun (index_1 (tbl m) L t) (2 : Fin 3))).trans (by show 0 * 2816 + 1 * (j 2).val = _; rw [Nat.one_mul]; exact Nat.zero_add _)
theorem downIn_apply (c : Dev nD) (t : Fin grid0.N) (j : S1x1408x1024.Idx) :
    downIn m L c t j = m ((c : Thread nD τ).loc main_arg6) (ix3 (expOf m L t) (j 1) (j 2)) := by
  unfold downIn iblk
  show V m c main_arg6 ((((cfgs1 m L).win 2).rect t).emb _) = _
  refine congrArg (m ((c : Thread nD τ).loc main_arg6)) (funext fun a => Fin.ext ?_)
  have hj : (j 0).val = 0 := Nat.lt_one_iff.mp (j 0).isLt
  match a with
  | ⟨0, _⟩ => exact (congrArg (fun k : ℕ => k * 1 + 1 * (j 0).val) (congrFun (index_2 (tbl m) L t) (0 : Fin 3))).trans (by show (expOf m L t).val * 1 + 1 * (j 0).val = _; rw [hj]; exact Nat.mul_one _)
  | ⟨1, _⟩ => exact (congrArg (fun k : ℕ => k * 1408 + 1 * (j 1).val) (congrFun (index_2 (tbl m) L t) (1 : Fin 3))).trans (by show 0 * 1408 + 1 * (j 1).val = _; rw [Nat.one_mul]; exact Nat.zero_add _)
  | ⟨2, _⟩ => exact (congrArg (fun k : ℕ => k * 1024 + 1 * (j 2).val) (congrFun (index_2 (tbl m) L t) (2 : Fin 3))).trans (by show 0 * 1024 + 1 * (j 2).val = _; rw [Nat.one_mul]; exact Nat.zero_add _)
theorem rowsIn_apply (c : Dev nD) (t : Fin grid0.N) (r : Fin 512) (x : Fin 1024) :
    rowsIn m L c t (ix2 r x) = m ((c : Thread nD τ).loc main_arg4) (ix2 ⟨(tileOf m L t).val * 512 + r.val, by have := (tileOf m L t).isLt; omega⟩ x) := by
  unfold rowsIn iblk
  show V m c main_arg4 ((((cfgs1 m L).win 0).rect t).emb _) = _
  refine congrArg (m ((c : Thread nD τ).loc main_arg4)) (funext fun a => Fin.ext ?_)
  match a with
  | ⟨0, _⟩ => exact (congrArg (fun k : ℕ => k * 512 + 1 * r.val) (congrFun (index_0 (tbl m) L t) (0 : Fin 2))).trans (by show (tileOf m L t).val * 512 + 1 * r.val = _; rw [Nat.one_mul]; rfl)
  | ⟨1, _⟩ => exact (congrArg (fun k : ℕ => k * 1024 + 1 * x.val) (congrFun (index_0 (tbl m) L t) (1 : Fin 2))).trans (by show 0 * 1024 + 1 * x.val = _; rw [Nat.one_mul]; exact Nat.zero_add _)

/-- Two points of one expert have one weight block. -/
theorem guIn_of (c : Dev nD) (t u : Fin grid0.N) (h : expW (tbl m) (item t) = expW (tbl m) (item u)) : guIn m L c t = guIn m L c u :=
  funext fun j => by rw [guIn_apply, guIn_apply, show expOf m L t = expOf m L u from Fin.ext (congrArg BitVec.toNat h)]
theorem downIn_of (c : Dev nD) (t u : Fin grid0.N) (h : expW (tbl m) (item t) = expW (tbl m) (item u)) : downIn m L c t = downIn m L c u :=
  funext fun j => by rw [downIn_apply, downIn_apply, show expOf m L t = expOf m L u from Fin.ext (congrArg BitVec.toNat h)]

/-- The weights the point computes with are its own expert's. -/
theorem not_renewed (t : Fin grid0.N) (h : ¬ Renewed (grid0.coords t) (expW (tbl m) (item t)) (expW (tbl m) ⟨(item t).val - 1, by omega⟩)) :
    0 < t.val ∧ expW (tbl m) (item t) = expW (tbl m) ⟨(item t).val - 1, by omega⟩ := by
  rw [renewed_iff, coords_at] at h
  push Not at h
  exact ⟨Nat.pos_of_ne_zero h.1, h.2⟩
theorem new0_eq (c : Dev nD) (t : Fin grid0.N) (s0 s1) (hK : Kept m L c t.val t.isLt.le s0 s1) :
    new0 c (grid0.coords t) (Memref.whole main_arg1) (tb1 m c) (guIn m L c t) s0 = kept0 (guIn m L c t) := by
  unfold new0
  rw [wordAt_1, wordAt_before]
  simp only [coords_item]
  by_cases h : Renewed (grid0.coords t) (expW (tbl m) (item t)) (expW (tbl m) ⟨(item t).val - 1, by omega⟩)
  · exact if_pos h
  · refine (if_neg h).trans ?_
    obtain ⟨h0, he⟩ := not_renewed m t h
    rw [(hK h0).1, guIn_of m L c t ⟨t.val - 1, by omega⟩ he]
theorem new1_eq (c : Dev nD) (t : Fin grid0.N) (s0 s1) (hK : Kept m L c t.val t.isLt.le s0 s1) :
    new1 c (grid0.coords t) (Memref.whole main_arg1) (tb1 m c) (downIn m L c t) s1 = kept1 (downIn m L c t) := by
  unfold new1
  rw [wordAt_1, wordAt_before]
  simp only [coords_item]
  by_cases h : Renewed (grid0.coords t) (expW (tbl m) (item t)) (expW (tbl m) ⟨(item t).val - 1, by omega⟩)
  · exact if_pos h
  · refine (if_neg h).trans ?_
    obtain ⟨h0, he⟩ := not_renewed m t h
    rw [(hK h0).2, downIn_of m L c t ⟨t.val - 1, by omega⟩ he]
theorem newOut_eq (c : Dev nD) (t : Fin grid0.N) (y s0 s1) (hK : Kept m L c t.val t.isLt.le s0 s1) :
    newOut c (grid0.coords t) (Memref.whole main_arg0) (Memref.whole main_arg1) (Memref.whole main_arg2) (Memref.whole main_arg3) (tb0 m c) (tb1 m c) (tb2 m c) (tb3 m c)
      (rowsIn m L c t) (guIn m L c t) (downIn m L c t) y s0 s1 = stepOut m L c t y := by
  unfold newOut
  rw [new0_eq m L c t s0 s1 hK, new1_eq m L c t s0 s1 hK, wordAt_0, wordAt_2, wordAt_3, coords_item]
  rfl

/-- The body at a point, its words and kept weights resolved. -/
theorem body_at (c : Dev nD) (t : Fin grid0.N)
    (arg5 : Memref sig .tc .vmem S512x1024 .bf16) (harg5 : arg5.IsWhole) (arg6 : Memref sig .tc .vmem S1x1024x2816 .f32) (harg6 : arg6.IsWhole) (arg7 : Memref sig .tc .vmem S1x1408x1024 .f32) (harg7 : arg7.IsWhole) (arg8 : Memref sig .tc .vmem S512x1024 .bf16) (harg8 : arg8.IsWhole)
    (y : Vec F S512x1024 .bf16) (s0 : Vec F S1024x2816 .bf16) (s1 : Vec F S1408x1024 .bf16) (hK : Kept m L c t.val t.isLt.le s0 s1) (K : PUnit → sProp 𝕄) :
    iprop(tbPt c (Memref.whole main_arg0) (tb0 m c) ∗ tbPt c (Memref.whole main_arg1) (tb1 m c) ∗ tbPt c (Memref.whole main_arg2) (tb2 m c) ∗ tbPt c (Memref.whole main_arg3) (tb3 m c)
        ∗ owns (c : Thread nD τ) arg5 fullShare (rowsIn m L c t) ∗ owns (c : Thread nD τ) arg6 fullShare (guIn m L c t) ∗ owns (c : Thread nD τ) arg7 fullShare (downIn m L c t)
        ∗ owns (c : Thread nD τ) arg8 fullShare y ∗ owns (c : Thread nD τ) (Memref.whole cc0_scratch0) fullShare s0 ∗ owns (c : Thread nD τ) (Memref.whole cc0_scratch1) fullShare s1
        ∗ (iprop(tbPt c (Memref.whole main_arg0) (tb0 m c) ∗ tbPt c (Memref.whole main_arg1) (tb1 m c) ∗ tbPt c (Memref.whole main_arg2) (tb2 m c) ∗ tbPt c (Memref.whole main_arg3) (tb3 m c)
            ∗ owns (c : Thread nD τ) arg5 fullShare (rowsIn m L c t) ∗ owns (c : Thread nD τ) arg6 fullShare (guIn m L c t) ∗ owns (c : Thread nD τ) arg7 fullShare (downIn m L c t)
            ∗ owns (c : Thread nD τ) arg8 fullShare (stepOut m L c t y)
            ∗ owns (c : Thread nD τ) (Memref.whole cc0_scratch0) fullShare (kept0 (guIn m L c t)) ∗ owns (c : Thread nD τ) (Memref.whole cc0_scratch1) fullShare (kept1 (downIn m L c t))) -∗ K ⟨⟩))
      ⊢ wp frame (wpE (defs₀ (F := F)) Variants.none c none) Set.univ (cc0_moe_grouped (grid0.coords t) (Memref.whole main_arg0) (Memref.isWhole_whole _) (Memref.whole main_arg1) (Memref.isWhole_whole _) (Memref.whole main_arg2) (Memref.isWhole_whole _) (Memref.whole main_arg3) (Memref.isWhole_whole _)
          arg5 harg5 arg6 harg6 arg7 harg7 arg8 harg8 (Memref.whole cc0_scratch0) (Memref.isWhole_whole _) (Memref.whole cc0_scratch1) (Memref.isWhole_whole _)) K := by
  have h := body c (grid0.coords t) (Memref.whole main_arg0) (Memref.isWhole_whole _) (Memref.whole main_arg1) (Memref.isWhole_whole _) (Memref.whole main_arg2) (Memref.isWhole_whole _) (Memref.whole main_arg3) (Memref.isWhole_whole _)
    arg5 harg5 arg6 harg6 arg7 harg7 arg8 harg8 (Memref.whole cc0_scratch0) (Memref.isWhole_whole _) (Memref.whole cc0_scratch1) (Memref.isWhole_whole _) (tb0 m c) (tb1 m c) (tb2 m c) (tb3 m c) (rowsIn m L c t) (guIn m L c t) (downIn m L c t) y s0 s1 K
  rw [newOut_eq m L c t y s0 s1 hK, new0_eq m L c t s0 s1 hK, new1_eq m L c t s0 s1 hK] at h
  exact h

abbrev st (w : Fin 4) (t : Fin grid0.N) := ((cfgs1 m L).win w).stage ((cfgs1 m L).slots t w)

/-- What the point leaves in the result block's buffer, from what it finds. -/
theorem leaves_of (c : Dev nD) (t : Fin grid0.N) (d) :
    (owns (c : Thread nD τ) (st m L 3 t) fullShare (stepOut m L c t (found m L c t d)) : sProp 𝕄) ⊢ (dats m L 0 c).leavesExact 3 t := by
  by_cases hi : (cfgs1 m L).idle 3 ((cfgs1 m L).grid.coords t) = true
  · by_cases hf : ((cfgs1 m L).win 3).flush t = true
    · rw [before_3 m L c t d (stored_of_flush (tbl m) L t hf hi), ← acc_succ, ← after_3]
      unfold Dat.leavesExact; rw [hi, hf]; exact .rfl
    · rw [Bool.not_eq_true] at hf
      rw [Dat.leavesExact_idle _ _ _ hi hf, stepOut_idle m L c t ((idle_iff (tbl m) L t).mp hi)]
      exact exists_intro (Φ := fun d => owns (c : Thread nD τ) (st m L 3 t) fullShare ((dats m L 0 c).before 3 t d)) d
  · have e : stepOut m L c t (found m L c t d) = (dats m L 0 c).after 3 t := by
      rw [after_3, acc_succ]
      by_cases hr : (cfgs1 m L).fresh 3 t.val = true
      · have hl := not_not.mp (fun h => hi ((idle_iff (tbl m) L t).mpr h))
        have hs := fresh_start (tbl m) L t.val (item t).isLt hr
        rw [stepOut_first m L c t hl hs, stepOut_first m L c t hl hs]
      · rw [before_3 m L c t d (Bool.not_eq_true _ ▸ hr)]
    rw [Bool.not_eq_true] at hi
    rw [e]
    unfold Dat.leavesExact; rw [hi]; exact .rfl

theorem PhiT_eq (c : Dev nD) : (Pipeline.ΦT pre0 (tbl m) c : sProp 𝕄)
    = iprop(tbPt c (Memref.whole main_arg0) (tb0 m c) ∗ tbPt c (Memref.whole main_arg1) (tb1 m c) ∗ tbPt c (Memref.whole main_arg2) (tb2 m c) ∗ tbPt c (Memref.whole main_arg3) (tb3 m c)) := by
  unfold Pipeline.ΦT Pipeline.prefHeld
  rw [show (Finset.univ : Finset (Fin 4)) = insert 0 (insert 1 (insert 2 {3})) by decide,
    bigSep_insert (by decide), bigSep_insert (by decide), bigSep_insert (by decide), bigSep_singleton]
  rfl

def bodyPre (c : Dev nD) (t : Fin grid0.N) : sProp 𝕄 :=
  iprop((dats m L 0 c).Φ t.castSucc ∗ (dats m L 0 c).owesAt () t.castSucc
    ∗ (∃ d, owns (c : Thread nD τ) (st m L 0 t) fullShare ((dats m L 0 c).before 0 t d))
    ∗ (∃ d, owns (c : Thread nD τ) (st m L 1 t) fullShare ((dats m L 0 c).before 1 t d))
    ∗ (∃ d, owns (c : Thread nD τ) (st m L 2 t) fullShare ((dats m L 0 c).before 2 t d))
    ∗ (∃ d, owns (c : Thread nD τ) (st m L 3 t) fullShare ((dats m L 0 c).before 3 t d)))
def bodyPost (c : Dev nD) (t : Fin grid0.N) : sProp 𝕄 :=
  iprop((dats m L 0 c).Φ t.succ ∗ (dats m L 0 c).owesAt () t.succ
    ∗ owns (c : Thread nD τ) (st m L 0 t) fullShare ((dats m L 0 c).after 0 t)
    ∗ owns (c : Thread nD τ) (st m L 1 t) fullShare ((dats m L 0 c).after 1 t)
    ∗ owns (c : Thread nD τ) (st m L 2 t) fullShare ((dats m L 0 c).after 2 t)
    ∗ (dats m L 0 c).leavesExact 3 t)
abbrev bodyAt (t : Fin grid0.N) : Prog (TpuEff nD τ sig (Elt F) Λ₀ .tc) PUnit :=
  cc0_moe_grouped (grid0.coords t) (Memref.whole main_arg0) (Memref.isWhole_whole _) (Memref.whole main_arg1) (Memref.isWhole_whole _) (Memref.whole main_arg2) (Memref.isWhole_whole _) (Memref.whole main_arg3) (Memref.isWhole_whole _)
    (st m L 0 t) (hstage0_0 (((cfgs1 m L).slots t 0).cast nbuf0_0)) (st m L 1 t) (hstage0_1 (((cfgs1 m L).slots t 1).cast nbuf0_1)) (st m L 2 t) (hstage0_2 (((cfgs1 m L).slots t 2).cast nbuf0_2))
    (st m L 3 t) (hstage0_3 (((cfgs1 m L).slots t 3).cast nbuf0_3)) (Memref.whole cc0_scratch0) (Memref.isWhole_whole _) (Memref.whole cc0_scratch1) (Memref.isWhole_whole _)

theorem Phi_castSucc (c : Dev nD) (t : Fin grid0.N) : (dats m L 0 c).Φ t.castSucc = PhiS m L c t.val t.isLt.le := by
  dsimp only [dats]; exact Dat.Φ_castSucc (PhiS m L c) t
theorem Phi_succ (c : Dev nD) (t : Fin grid0.N) : (dats m L 0 c).Φ t.succ = PhiS m L c (t.val + 1) t.isLt := by
  dsimp only [dats]; rfl

theorem sound_body (c : Dev nD) (t : Fin grid0.N) :
    bodyPre m L c t ⊢ wp frame (wpE (defs₀ (F := F)) Variants.none c none) Set.univ (bodyAt m L t) (fun _ => bodyPost m L c t) := by
  unfold bodyPre bodyPost bodyAt
  simp only [before_0, before_1, before_2]
  rw [show (dats m L 0 c).owesAt () t.succ = (dats m L 0 c).owesAt () t.castSucc from rfl, after_0, after_1, after_2, Phi_castSucc, Phi_succ]
  unfold PhiS
  rw [PhiT_eq]
  iintro ⟨⟨⟨%s0, %s1, %hK, S0, S1⟩, Hr, T0, T1, T2, T3⟩, Ho, ⟨%d0, H0⟩, ⟨%d1, H1⟩, ⟨%d2, H2⟩, ⟨%d3, H3⟩⟩
  iapply (body_at m L c t _ (hstage0_0 (((cfgs1 m L).slots t 0).cast nbuf0_0)) _ (hstage0_1 (((cfgs1 m L).slots t 1).cast nbuf0_1)) _ (hstage0_2 (((cfgs1 m L).slots t 2).cast nbuf0_2)) _ (hstage0_3 (((cfgs1 m L).slots t 3).cast nbuf0_3))
    (found m L c t d3) s0 s1 hK _)
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [S0]; · iexact S0
  isplitl [S1]; · iexact S1
  iintro ⟨T0, T1, T2, T3, H0, H1, H2, H3, S0, S1⟩
  isplitl [S0 S1 Hr T0 T1 T2 T3]
  · isplitl [S0 S1]
    · iexists _; iexists _; isplitr
      swap
      · isplitl [S0]; · iexact S0
        iexact S1
      ipureintro
      exact fun _ => ⟨rfl, rfl⟩
    isplitl [Hr]; · iexact Hr
    isplitl [T0]; · iexact T0
    isplitl [T1]; · iexact T1
    isplitl [T2]; · iexact T2
    iexact T3
  isplitl [Ho]; · iexact Ho
  isplitl [H0]; · iexact H0
  isplitl [H1]; · iexact H1
  isplitl [H2]; · iexact H2
  iapply (leaves_of m L c t d3)
  iexact H3

theorem defs₀_row (t : Fin grid0.N) :
    defs₀ (F := F) .tc (cfgs1 m L).body ((cfgs1 m L).bodyArgs t ((cfgs1 m L).slots t)) = bodyAt m L t := by
  unfold defs₀; rw [Defs.onTc_tc]

theorem body_obligation (c : Dev nD) : BodyObligation (dats m L 0 c) (defs₀ (F := F)) Variants.none () Set.univ := fun t => by
  rw [bigSep_W0, bigSep_W0, defs₀_row]
  exact triple_restated (sound_body m L c t) rfl .rfl fun _ => .rfl

theorem own_0 (c : Dev nD) (f : Buf (Elt F) ((c : Thread nD τ).loc cc0_scratch0)) :
    (((c : Thread nD τ).loc cc0_scratch0 ↦{fullShare} f) : sProp 𝕄) ⊢ iprop(∃ s, owns (c : Thread nD τ) (Memref.whole cc0_scratch0) fullShare s) :=
  (Entails.of_eq (owns_whole (c : Thread nD τ) cc0_scratch0 fullShare f).symm).trans (exists_intro (Φ := fun s => owns (c : Thread nD τ) (Memref.whole cc0_scratch0) fullShare s) f)
theorem disown_0 (c : Dev nD) (s : Vec F S1024x2816 .bf16) : (owns (c : Thread nD τ) (Memref.whole cc0_scratch0) fullShare s : sProp 𝕄)
    ⊢ iprop(∃ f : Buf (Elt F) ((c : Thread nD τ).loc cc0_scratch0), (c : Thread nD τ).loc cc0_scratch0 ↦{fullShare} f) :=
  (Entails.of_eq (owns_whole (c : Thread nD τ) cc0_scratch0 fullShare s)).trans (exists_intro (Φ := fun f => (c : Thread nD τ).loc cc0_scratch0 ↦{fullShare} f) s)
theorem own_1 (c : Dev nD) (f : Buf (Elt F) ((c : Thread nD τ).loc cc0_scratch1)) :
    (((c : Thread nD τ).loc cc0_scratch1 ↦{fullShare} f) : sProp 𝕄) ⊢ iprop(∃ s, owns (c : Thread nD τ) (Memref.whole cc0_scratch1) fullShare s) :=
  (Entails.of_eq (owns_whole (c : Thread nD τ) cc0_scratch1 fullShare f).symm).trans (exists_intro (Φ := fun s => owns (c : Thread nD τ) (Memref.whole cc0_scratch1) fullShare s) f)
theorem disown_1 (c : Dev nD) (s : Vec F S1408x1024 .bf16) : (owns (c : Thread nD τ) (Memref.whole cc0_scratch1) fullShare s : sProp 𝕄)
    ⊢ iprop(∃ f : Buf (Elt F) ((c : Thread nD τ).loc cc0_scratch1), (c : Thread nD τ).loc cc0_scratch1 ↦{fullShare} f) :=
  (Entails.of_eq (owns_whole (c : Thread nD τ) cc0_scratch1 fullShare s)).trans (exists_intro (Φ := fun f => (c : Thread nD τ).loc cc0_scratch1 ↦{fullShare} f) s)

theorem hin (c : Dev nD) : iprop(Pipeline.ΦA spec0 c ∗ Pipeline.ΦT pre0 (tbl m) c) ⊢ (dats m L 0 c).Φ 0 := by
  rw [show (dats m L 0 c).Φ 0 = PhiS m L c 0 (Nat.zero_le _) from by dsimp only [dats]; rfl]
  unfold Pipeline.ΦA PhiS
  rw [scopedRest0_eq]
  iintro ⟨⟨⟨⟨%f0, S0⟩, %f1, S1⟩, Hr⟩, HT⟩
  ihave ⟨%s0, S0⟩ := (own_0 c f0) $$ S0
  ihave ⟨%s1, S1⟩ := (own_1 c f1) $$ S1
  isplitl [S0 S1]
  · iexists s0; iexists s1; isplitr
    · ipureintro; exact fun h => absurd h (Nat.lt_irrefl 0)
    isplitl [S0]; · iexact S0
    iexact S1
  isplitl [Hr]; · iexact Hr
  iexact HT
theorem hout (c : Dev nD) : (dats m L 0 c).Φ (Fin.last (cfgs1 m L).N) ⊢ Pipeline.ΦA spec0 c := by
  rw [show (dats m L 0 c).Φ (Fin.last (cfgs1 m L).N) = PhiS m L c grid0.N le_rfl from by dsimp only [dats]; rfl]
  unfold Pipeline.ΦA PhiS
  rw [scopedRest0_eq]
  iintro ⟨⟨%s0, %s1, %hK, S0, S1⟩, Hr, HT⟩
  isplitl [S0 S1]
  · isplitl [S0]
    · iapply (disown_0 c s0); iexact S0
    iapply (disown_1 c s1); iexact S1
  iexact Hr

set_option backward.isDefEq.respectTransparency.types false in
/-- Every execution ends, the arrays at what the points leave in them, the semaphores at zero. -/
theorem run_main_quiescent : θ_run defs (onTc (τ := τ) (main (F := F))) (s₀ m ρ)
    (fun r => Pipeline.FramePost (Pipeline.pin pcfgs fun _ => adm (tbl m) L) (dats m L) 0 (V m) r ∧ r.2.sem = fun _ => 0) :=
  Pipeline.θ_run_frameP_track (Q' := _) pcfgs (fun _ => adm (tbl m) L) (dats m L) (0 : Fin 1) launch0 defs₀ Variants.none m ρ main
    (hbody := fun c => (body_obligation m L c).loose) (hshare := fun c => (dats m L 0 c).share_full fun _ => rfl) (howed := fun _ _ => rfl) (V := V m)
    (hmain := Pipeline.hmainP_region pcfgs 0 defs₀ Variants.none m main fun _ => rfl) (hA := A_eq m L) (hpf := V_pre m)
    (hin := hin m L) (hout := hout m L)

theorem rest_0 : main_arg0 ∈ Pipeline.restRefs sig spec0 := Pipeline.mem_restRefs_of main_arg0 (by decide) (by decide)
theorem rest_1 : main_arg1 ∈ Pipeline.restRefs sig spec0 := Pipeline.mem_restRefs_of main_arg1 (by decide) (by decide)
theorem rest_2 : main_arg2 ∈ Pipeline.restRefs sig spec0 := Pipeline.mem_restRefs_of main_arg2 (by decide) (by decide)
theorem rest_3 : main_arg3 ∈ Pipeline.restRefs sig spec0 := Pipeline.mem_restRefs_of main_arg3 (by decide) (by decide)

include L in
/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c).2 main_arg0 rest_0, (h.1 c).2 main_arg1 rest_1,
      (h.1 c).2 main_arg2 rest_2, (h.1 c).2 main_arg3 rest_3,
      ((h.1 c).1 0).trans (((dats m L 0 c).arrAt_in 0 rfl _).trans (A_eq m L c 0)), ((h.1 c).1 1).trans (((dats m L 0 c).arrAt_in 1 rfl _).trans (A_eq m L c 1)),
      ((h.1 c).1 2).trans (((dats m L 0 c).arrAt_in 2 rfl _).trans (A_eq m L c 2))⟩, h.2⟩) (run_main_quiescent m ρ L)

end Cert.Proof.Moe

end
-- ==== Proof.MoePre.lean ====
/- The precondition on the work list, read back as facts about the items' words. -/
module

public import proofs.«01_k».proof.Defs
public import proofs.«01_k».proof.Proof.MoeFrame
public import Idealize.ShloMosaic.Lib.StableHlo.Predicate
public import Idealize.ShloMosaic.Lib.Pointwise

@[expose] public section

set_option maxRecDepth 16384

noncomputable section

namespace Cert.Proof.Moe

open Idealize.ShloMosaic Idealize.ShloMosaic.TcCoe
open Idealize.ShloMosaic.StableHlo.Predicate (sle_iff_toNat slt_iff_toNat cmpi_eq_iff)

/-- The shape relations of the precondition. -/
theorem listedFacts : Cert.Pre_listed.Facts where
  bcast_S_S264 := by decide
  slices_S264_S263_0 := by decide
  slices_S264_S263_1 := by decide
  slices_S264_S1_0 := by decide
  bcast_S_S1 := by decide
  slices_S264_S1_263 := by decide

/-- A word between 0 and a small number. -/
theorem small_of {w k : BitVec 32} (hk : k.toNat < 2 ^ 31) (h0 : IntOp.cmpi .sge w 0#32 = 1#1) (h1 : IntOp.cmpi .sle w k = 1#1) : w.toNat ≤ k.toNat := by
  simp only [IntOp.cmpi, ofBool_one, BitVec.sle, BitVec.toInt, decide_eq_true_eq] at h0 h1
  have := w.isLt
  simp at h0
  omega

/-- A word at least a small one is below 2³¹. -/
theorem above_of {w k : BitVec 32} (hk : k.toNat < 2 ^ 31) (h : IntOp.cmpi .sle k w = 1#1) : k.toNat ≤ w.toNat ∧ w.toNat < 2 ^ 31 := by
  simp only [IntOp.cmpi, ofBool_one, BitVec.sle, BitVec.toInt, decide_eq_true_eq] at h
  have := w.isLt
  omega

/-- What the first array of the precondition says of an item. -/
structure Item (tile expert start stop : BitVec 32) : Prop where
  tile_le : tile.toNat ≤ 255
  exp_le : expert.toNat ≤ 7
  lo : tile.toNat * 512 ≤ start.toNat
  named : start.toNat < tile.toNat * 512 + 512 ∨ tile.toNat = 255
  up : start.toNat ≤ stop.toNat
  hi : stop.toNat ≤ tile.toNat * 512 + 512

theorem item_of {tile expert start stop : BitVec 32} (h0 : IntOp.cmpi .sge tile 0#32 = 1#1) (h1 : IntOp.cmpi .sle tile 255#32 = 1#1)
    (h2 : IntOp.cmpi .sge expert 0#32 = 1#1) (h3 : IntOp.cmpi .sle expert 7#32 = 1#1)
    (h4 : IntOp.cmpi .sle (IntOp.muli tile 512#32) start = 1#1) (h5 : IntOp.cmpi .sle start stop = 1#1)
    (h6 : IntOp.cmpi .sle stop (IntOp.addi (IntOp.muli tile 512#32) 512#32) = 1#1)
    (h7 : IntOp.cmpi .slt start (IntOp.addi (IntOp.muli tile 512#32) 512#32) = 1#1 ∨ IntOp.cmpi .eq tile 255#32 = 1#1) : Item tile expert start stop := by
  have t : tile.toNat ≤ 255 := small_of (by decide) h0 h1
  have e : expert.toNat ≤ 7 := small_of (by decide) h2 h3
  have p : (IntOp.muli tile 512#32).toNat = tile.toNat * 512 := mul_toNat tile t
  have q : (IntOp.addi (IntOp.muli tile 512#32) 512#32).toNat = tile.toNat * 512 + 512 := by
    show (IntOp.muli tile 512#32 + 512#32).toNat = _
    rw [BitVec.toNat_add, p]
    show (tile.toNat * 512 + 512) % 2 ^ 32 = _
    omega
  obtain ⟨s, sl⟩ := above_of (by omega) h4
  obtain ⟨u, ul⟩ := above_of sl h5
  rw [p] at s
  refine ⟨t, e, s, h7.imp (fun h => ?_) (fun h => ?_), u, ?_⟩
  · rw [slt_iff_toNat sl (by omega), q] at h; exact h
  · rw [cmpi_eq_iff.mp h]; rfl
  · rw [sle_iff_toNat ul (by omega), q] at h6; exact h6

open Cert.Pre_listed in
/-- The precondition at the arguments. -/
theorem listed_facts [Cert.Pre_listed.Facts] {F : FTy → Type} [FloatOps F] (tile expert start stop : IVec S264 32) (x : FVec F S131072x1024 .bf16) (gu : FVec F S8x1024x2816 .f32) (dn : FVec F S8x1408x1024 .f32)
    (h1 : (Cert.Pre_listed.fn (F := F) tile expert start stop x gu dn).1 = fun _ => 1#1)
    (h2 : (Cert.Pre_listed.fn (F := F) tile expert start stop x gu dn).2.1 = fun _ => 1#1)
    (h3 : (Cert.Pre_listed.fn (F := F) tile expert start stop x gu dn).2.2.1 = fun _ => 1#1)
    (h4 : (Cert.Pre_listed.fn (F := F) tile expert start stop x gu dn).2.2.2 = fun _ => 1#1) :
    (∀ n : Fin 264, Item (tile (ix1 n)) (expert (ix1 n)) (start (ix1 n)) (stop (ix1 n)))
      ∧ (∀ n (h : n + 1 < 264), stop (ix1 ⟨n, by omega⟩) = start (ix1 ⟨n + 1, h⟩)) ∧ start (ix1 0) = 0#32 ∧ stop (ix1 263) = 131072#32 := by
  refine ⟨fun n => ?_, fun n h => ?_, ?_, ?_⟩
  · have e := congrFun h1 (ix1 n)
    obtain ⟨e, e7⟩ := IntOp.andi_eq_one.1 e
    obtain ⟨e, e6⟩ := IntOp.andi_eq_one.1 e
    obtain ⟨e, e5⟩ := IntOp.andi_eq_one.1 e
    obtain ⟨e, e4⟩ := IntOp.andi_eq_one.1 e
    obtain ⟨e, e3⟩ := IntOp.andi_eq_one.1 e
    obtain ⟨e, e2⟩ := IntOp.andi_eq_one.1 e
    obtain ⟨e0, e1⟩ := IntOp.andi_eq_one.1 e
    have hor : ∀ a b : BitVec 1, IntOp.ori a b = 1#1 → a = 1#1 ∨ b = 1#1 := by decide
    exact item_of e0 e1 e2 e3 e4 e5 e6 (hor _ _ e7)
  · have e := cmpi_eq_iff.mp (congrFun h2 (ix1 ⟨n, by omega⟩))
    refine Eq.trans (congrArg stop ?_) (e.trans (congrArg start ?_))
    · funext a; obtain rfl : a = 0 := Subsingleton.elim _ _; exact Fin.ext (by show n = 0 + n; omega)
    · funext a; obtain rfl : a = 0 := Subsingleton.elim _ _; exact Fin.ext (by show 1 + n = n + 1; omega)
  · have e := cmpi_eq_iff.mp (congrFun h3 (ix1 0))
    exact Eq.trans (congrArg start (by funext a; obtain rfl : a = 0 := Subsingleton.elim _ _; rfl)) e
  · have e := cmpi_eq_iff.mp (congrFun h4 (ix1 0))
    exact Eq.trans (congrArg stop (by funext a; obtain rfl : a = 0 := Subsingleton.elim _ _; rfl)) e

section
open Cert.KernelMoeIdeal Cert.KernelMoeIdeal.Gen
variable {F : FTy → Type} [FloatOps F]

/-- Item facts at every place make the tables a work list. -/
theorem listed_of (pf : pre0.Contents (Elt F)) (h1 : ∀ n, Item (tileW pf n) (expW pf n) (startW pf n) (stopW pf n))
    (h2 : ∀ n (h : n + 1 < 264), stopW pf ⟨n, by omega⟩ = startW pf ⟨n + 1, h⟩) (h3 : startW pf 0 = 0#32) (h4 : stopW pf 263 = 131072#32) : Listed pf where
  tile_le n := (h1 n).tile_le
  exp_le n := (h1 n).exp_le
  lo n := (h1 n).lo
  named n := (h1 n).named
  up n := (h1 n).up
  hi n := (h1 n).hi
  first := by rw [h3]; rfl
  next n h := by rw [h2 n h]
  last := by rw [h4]; rfl
end

theorem listed_pre [Cert.Pre_listed.Facts] (m : (ℓ : Loc Cert.KernelMoeIdeal.nD Cert.KernelMoeIdeal.τ Cert.KernelMoeIdeal.sig) → Buf (Elt Ideal) ℓ)
    (h : Cert.Pre_KernelMoeIdeal m) : Listed (tbl m) := by
  obtain ⟨h1, h2, h3, h4⟩ := h 0
  obtain ⟨f1, f2, f3, f4⟩ := listed_facts _ _ _ _ _ _ _ h1 h2 h3 h4
  exact listed_of (tbl m) f1 f2 f3 f4

end Cert.Proof.Moe

end
-- ==== Proof.MoeBits.lean ====
/- The frame of the expert kernel at the machine's formats: its program is the idealized one's, word for word. -/
module

public import proofs.«01_k».proof.Proof.MoePre
public import proofs.«01_k».proof.Proof.Gen.KernelMoe.Launch

@[expose] public section

set_option maxRecDepth 16384

noncomputable section

namespace Cert.Proof.MoeBits

open Idealize.ShloMosaic Idealize.SL.Sem

theorem same_sig : Cert.KernelMoe.sig = Cert.KernelMoeIdeal.sig := rfl
theorem same_labels : Cert.KernelMoe.Λ₀ = Cert.KernelMoeIdeal.Λ₀ := rfl
theorem same_body : @Cert.KernelMoe.cc0_moe_grouped Bits _ Cert.KernelMoe.Gen.facts = @Cert.KernelMoeIdeal.cc0_moe_grouped Bits _ Cert.KernelMoeIdeal.Gen.facts := rfl
theorem same_defs₀ : @Cert.KernelMoe.defs₀ Bits _ Cert.KernelMoe.Gen.facts = @Cert.KernelMoeIdeal.defs₀ Bits _ Cert.KernelMoeIdeal.Gen.facts :=
  congrArg Defs.onTc (funext fun l => match l with | ⟨0, _⟩ => funext fun (_, _) => rfl)
theorem same_cfg : @Cert.KernelMoe.pcfg0 Bits _ Cert.KernelMoe.Gen.facts = @Cert.KernelMoeIdeal.pcfg0 Bits _ Cert.KernelMoeIdeal.Gen.facts := rfl
theorem same_defs : @Cert.KernelMoe.defs Bits _ Cert.KernelMoe.Gen.facts = @Cert.KernelMoeIdeal.defs Bits _ Cert.KernelMoeIdeal.Gen.facts :=
  congrArg (Pipeline.defs Cert.KernelMoeIdeal.pcfgs) same_defs₀
theorem same_main : @Cert.KernelMoe.main Bits _ Cert.KernelMoe.Gen.facts = @Cert.KernelMoeIdeal.main Bits _ Cert.KernelMoeIdeal.Gen.facts := rfl

theorem frame [hPre_listed : Cert.Pre_listed.Facts] : Cert.quiescent_KernelMoe := fun m ρ h => by
  obtain ⟨h1, h2, h3, h4⟩ := h 0
  obtain ⟨f1, f2, f3, f4⟩ := Moe.listed_facts _ _ _ _ _ _ _ h1 h2 h3 h4
  have e := Moe.frame (F := Bits) m ρ (Moe.listed_of (Moe.tbl m) f1 f2 f3 f4)
  rw [← same_defs, ← same_main] at e
  exact e

end Cert.Proof.MoeBits

end
-- ==== Proof.MoeRows.lean ====
/- One expert's feed-forward of one row over the extended reals, and its sum taken in five chunks of 256 units and one of 128. -/
module

public import proofs.«01_k».proof.Proof.Rows

@[expose] public section

noncomputable section

namespace Cert.Proof.MoeRows

open Idealize.ShloMosaic

/-- Unit `k`'s column in the first and in the second half of an expert's hidden weight. -/
abbrev lower (k : Fin 1408) : Fin 2816 := ⟨k.val, by omega⟩
@[inherit_doc lower] abbrev upper (k : Fin 1408) : Fin 2816 := ⟨1408 + k.val, by omega⟩

/-- Unit `x` of chunk `c`, and of the last, shorter chunk. -/
abbrev inChunk (c : Fin 5) (x : Fin 256) : Fin 1408 := ⟨256 * c.val + x.val, by omega⟩
@[inherit_doc inChunk] abbrev inLast (x : Fin 128) : Fin 1408 := ⟨1280 + x.val, by omega⟩

/-- An expert's feed-forward of a row `h`, at lane `l`. -/
def fed (h : Fin 1024 → EReal) (w : Fin 1024 → Fin 2816 → EReal) (d : Fin 1408 → Fin 1024 → EReal) (l : Fin 1024) : EReal :=
  ∑ k, Rows.gated h (fun j => w j (lower k)) (fun j => w j (upper k)) * d k l

theorem sum_chunks (f : Fin 1408 → EReal) :
    ∑ k, f k = ∑ x, f (inChunk 0 x) + ∑ x, f (inChunk 1 x) + ∑ x, f (inChunk 2 x) + ∑ x, f (inChunk 3 x) + ∑ x, f (inChunk 4 x) + ∑ x, f (inLast x) := by
  have h := Fin.sum_univ_add (a := 1280) (b := 128) f
  refine h.trans (congrArg₂ (· + ·) ?_ rfl)
  refine (Rows.sum_blocks (n := 5) (k := 256) fun i => f (Fin.castAdd 128 i)).trans ?_
  exact Fin.sum_univ_five _

end Cert.Proof.MoeRows

end
-- ==== Proof.MoeValue.lean ====
/- What one work item computes, at a row and lane, from its rows and its expert's weights. -/
module

public import proofs.«01_k».proof.Proof.MoeFrame
public import proofs.«01_k».proof.Proof.MoeRows
public import Idealize.ShloMosaic.Lib.Pointwise
public import Idealize.ShloMosaic.Lib.Pipeline.ValueKit.Tiles
public import Idealize.ShloMosaic.Lib.StableHlo.Predicate

@[expose] public section

set_option maxRecDepth 16384

noncomputable section

namespace Cert.Proof.Moe

open Idealize.ShloMosaic Idealize.SL.Sem Cert.KernelMoeIdeal Cert.KernelMoeIdeal.Gen Idealize.ShloMosaic.TcCoe
open Cert.Proof.MoeRows (inChunk inLast upper lower)

theorem chunk_at (x : FVec Ideal S512x1024 .bf16) (g u : FVec Ideal S1024x256 .bf16) (d : FVec Ideal S256x1024 .bf16) (r : Fin 512) (l : Fin 1024) :
    chunk x g u d (ix2 r l) = ∑ k, Rows.gated (fun j => x (ix2 r j)) (fun j => g (ix2 j k)) (fun j => u (ix2 j k)) * d (ix2 k l) := by
  unfold chunk hid; pointwise; rfl
theorem chunkLast_at (x : FVec Ideal S512x1024 .bf16) (g u : FVec Ideal S1024x128 .bf16) (d : FVec Ideal S128x1024 .bf16) (r : Fin 512) (l : Fin 1024) :
    chunkLast x g u d (ix2 r l) = ∑ k, Rows.gated (fun j => x (ix2 r j)) (fun j => g (ix2 j k)) (fun j => u (ix2 j k)) * d (ix2 k l) := by
  unfold chunkLast hidLast; pointwise; rfl

section
variable (S0 : Vec Ideal S1024x2816 .bf16) (S1 : Vec Ideal S1408x1024 .bf16)

theorem ld_gate (c : Fin 5) (j : Fin 1024) (x : Fin 256) : gateAt S0 c (ix2 j x) = S0 (ix2 j (lower (inChunk c x))) :=
  View.ld_unit_apply_of S0 _ _ _ _ _ fun d => match d with
    | ⟨0, _⟩ => (Nat.zero_add _).symm
    | ⟨1, _⟩ => rfl
theorem ld_up (c : Fin 5) (j : Fin 1024) (x : Fin 256) : upAt S0 c (ix2 j x) = S0 (ix2 j (upper (inChunk c x))) :=
  View.ld_unit_apply_of S0 _ _ _ _ _ fun d => match d with
    | ⟨0, _⟩ => (Nat.zero_add _).symm
    | ⟨1, _⟩ => by show 1408 + (256 * c.val + x.val) = 1408 + 256 * c.val + x.val; omega
theorem ld_down (c : Fin 5) (x : Fin 256) (l : Fin 1024) : downAt S1 c (ix2 x l) = S1 (ix2 (inChunk c x) l) :=
  View.ld_unit_apply_of S1 _ _ _ _ _ fun d => match d with
    | ⟨0, _⟩ => rfl
    | ⟨1, _⟩ => (Nat.zero_add _).symm
theorem ld_gateLast (j : Fin 1024) (x : Fin 128) : gateLast S0 (ix2 j x) = S0 (ix2 j (lower (inLast x))) :=
  View.ld_unit_apply_of S0 _ _ _ _ _ fun d => match d with
    | ⟨0, _⟩ => (Nat.zero_add _).symm
    | ⟨1, _⟩ => rfl
theorem ld_upLast (j : Fin 1024) (x : Fin 128) : upLast S0 (ix2 j x) = S0 (ix2 j (upper (inLast x))) :=
  View.ld_unit_apply_of S0 _ _ _ _ _ fun d => match d with
    | ⟨0, _⟩ => (Nat.zero_add _).symm
    | ⟨1, _⟩ => by show 1408 + (1280 + x.val) = 2688 + x.val; omega
theorem ld_downLast (x : Fin 128) (l : Fin 1024) : downLast S1 (ix2 x l) = S1 (ix2 (inLast x) l) :=
  View.ld_unit_apply_of S1 _ _ _ _ _ fun d => match d with
    | ⟨0, _⟩ => rfl
    | ⟨1, _⟩ => (Nat.zero_add _).symm

/-- The six chunks are the expert's feed-forward. -/
theorem rowsOut_at (x : FVec Ideal S512x1024 .bf16) (r : Fin 512) (l : Fin 1024) :
    rowsOut x S0 S1 (ix2 r l) = MoeRows.fed (fun j => x (ix2 r j)) (fun j k => S0 (ix2 j k)) (fun k l => S1 (ix2 k l)) l := by
  unfold MoeRows.fed
  rw [MoeRows.sum_chunks]
  unfold rowsOut chunkAt
  simp only [truncf_apply, addf_apply, chunk_at, chunkLast_at, ld_gate, ld_up, ld_down, ld_gateLast, ld_upLast, ld_downLast]
  rfl
end

theorem kept0_at (w : FVec Ideal S1x1024x2816 .f32) (j : Fin 1024) (k : Fin 2816) : kept0 w (ix2 j k) = w (ix3 0 j k) := by
  unfold kept0; pointwise
theorem kept1_at (w : FVec Ideal S1x1408x1024 .f32) (k : Fin 1408) (l : Fin 1024) : kept1 w (ix2 k l) = w (ix3 0 k l) := by
  unfold kept1; pointwise

/-- The item's first row, among all rows, decides which rows are new. -/
theorem merge_at (tile start : BitVec 32) (ht : tile.toNat ≤ 255) (hs : start.toNat ≤ 131072) (new old : FVec Ideal S512x1024 .bf16) (r : Fin 512) (l : Fin 1024) :
    merge tile start new old (ix2 r l) = if start.toNat ≤ tile.toNat * 512 + r.val then new (ix2 r l) else old (ix2 r l) := by
  have hr := r.isLt
  have p := mul_toNat tile ht
  have q : (IntOp.addi (Scalar.muli tile 512#32) (BitVec.ofNat 32 r.val)).toNat = tile.toNat * 512 + r.val := by
    show (Scalar.muli tile 512#32 + BitVec.ofNat 32 r.val).toNat = _
    rw [BitVec.toNat_add, p, BitVec.toNat_ofNat]
    omega
  have c : IntOp.cmpi .sge (IntOp.addi (Scalar.muli tile 512#32) (BitVec.ofNat 32 r.val)) start = 1#1 ↔ start.toNat ≤ tile.toNat * 512 + r.val := by
    rw [StableHlo.Predicate.sge_iff_toNat (by omega) (by omega), q]
  unfold merge
  pointwise
  simp only [← c]
  rfl

section
variable {F : FTy → Type} [FloatOps F] (m : (ℓ : Loc nD τ sig) → Buf (Elt F) ℓ) (L : Listed (tbl m))

/-- Row `r` of point `t`'s tile, among all rows. -/
abbrev rowIn (t : Fin grid0.N) (r : Fin 512) : Fin 131072 := ⟨(tileOf m L t).val * 512 + r.val, by have := (tileOf m L t).isLt; omega⟩
end

variable (m : (ℓ : Loc nD τ sig) → Buf (Elt Ideal) ℓ) (L : Listed (tbl m))

/-- Row `R`'s feed-forward by expert `e`. -/
def fedAt (c : Dev nD) (R : Fin 131072) (e : Fin 8) (l : Fin 1024) : EReal :=
  MoeRows.fed (fun j => m ((c : Thread nD τ).loc main_arg4) (ix2 R j)) (fun j k => m ((c : Thread nD τ).loc main_arg5) (ix3 e j k)) (fun k l => m ((c : Thread nD τ).loc main_arg6) (ix3 e k l)) l

theorem new_at (c : Dev nD) (t : Fin grid0.N) (r : Fin 512) (l : Fin 1024) :
    rowsOut (rowsIn m L c t) (kept0 (guIn m L c t)) (kept1 (downIn m L c t)) (ix2 r l) = fedAt m c (rowIn m L t r) (expOf m L t) l := by
  rw [rowsOut_at]
  unfold fedAt
  simp only [kept0_at, kept1_at, rowsIn_apply, guIn_apply, downIn_apply]
  rfl

/-- An item with rows gives its first row and those after it their new values, and leaves the rows before it. -/
theorem stepOut_at (c : Dev nD) (t : Fin grid0.N) (h : (startW (tbl m) (item t)).toNat < (stopW (tbl m) (item t)).toNat) (y : Vec Ideal S512x1024 .bf16) (r : Fin 512) (l : Fin 1024) :
    stepOut m L c t y (ix2 r l) = if (startW (tbl m) (item t)).toNat ≤ (rowIn m L t r).val then fedAt m c (rowIn m L t r) (expOf m L t) l else y (ix2 r l) := by
  by_cases h' : (startW (tbl m) (item t)).toNat = (tileW (tbl m) (item t)).toNat * 512
  · rw [stepOut_first m L c t h h', new_at, if_pos]
    show _ ≤ (tileW (tbl m) (item t)).toNat * 512 + r.val
    omega
  · unfold stepOut left
    rw [if_pos ((cond2_iff _ _ (L.start_le _) (L.stop_le _)).mpr h), if_pos ((cond4_iff _ _ (L.tile_le _)).mpr h'),
      if_neg (by rw [cond3_iff _ _ (L.tile_le _)]; exact h'), merge_at _ _ (L.tile_le _) (L.start_le _), new_at]

end Cert.Proof.Moe

end
-- ==== Proof.MoeResult.lean ====
/- The expert kernel's result array, row by row: each row is the feed-forward of the expert whose item names it. -/
module

public import proofs.«01_k».proof.Proof.MoeValue
public import Idealize.ShloMosaic.Lib.Pipeline.ValueKit.Geometry

@[expose] public section

set_option maxRecDepth 16384

noncomputable section

namespace Cert.Proof.Moe

open Idealize.ShloMosaic Idealize.SL.Sem Cert.KernelMoeIdeal Cert.KernelMoeIdeal.Gen Idealize.ShloMosaic.TcCoe

section
variable {F : FTy → Type} [FloatOps F] {pf : pre0.Contents (Elt F)}

/-- Row `R` is item `n`'s. -/
def Names (pf : pre0.Contents (Elt F)) (n : Fin 264) (R : ℕ) : Prop := (startW pf n).toNat ≤ R ∧ R < (stopW pf n).toNat

variable (L : Listed pf)
include L

theorem Listed.tile_mono (a : ℕ) : ∀ (d : ℕ) (h : a + d < 264), (tileW pf ⟨a, by omega⟩).toNat ≤ (tileW pf ⟨a + d, h⟩).toNat
  | 0, _ => le_rfl
  | d + 1, h => (Listed.tile_mono a d (by omega)).trans (L.step (a + d) h).1

/-- An item's rows end where a later item's begin, or before. -/
theorem Listed.stop_before (a : ℕ) : ∀ (d : ℕ) (h : a + 1 + d < 264), (stopW pf ⟨a, by omega⟩).toNat ≤ (startW pf ⟨a + 1 + d, h⟩).toNat
  | 0, h => (L.next a h).ge
  | d + 1, h => ((Listed.stop_before a d (by omega)).trans (L.up _)).trans (L.next (a + 1 + d) h).ge

theorem Listed.stop_le_start (a b : Fin 264) (h : a.val < b.val) : (stopW pf a).toNat ≤ (startW pf b).toNat := by
  obtain ⟨d, hd⟩ := Nat.exists_eq_add_of_le (show a.val + 1 ≤ b.val from h)
  have e : b = ⟨a.val + 1 + d, by omega⟩ := Fin.ext hd
  rw [e]
  exact L.stop_before a.val d (by omega)
theorem Listed.tile_le_tile (a b : Fin 264) (h : a.val ≤ b.val) : (tileW pf a).toNat ≤ (tileW pf b).toNat := by
  obtain ⟨d, hd⟩ := Nat.exists_eq_add_of_le h
  have e : b = ⟨a.val + d, by omega⟩ := Fin.ext hd
  rw [e]
  exact L.tile_mono a.val d (by omega)

/-- A row is at most one item's, and every row is some item's. -/
theorem Listed.one (a b : Fin 264) (R : ℕ) (ha : Names pf a R) (hb : Names pf b R) : a = b := by
  rcases lt_trichotomy a.val b.val with h | h | h
  · have := L.stop_le_start a b h; have := ha.2; have := hb.1; omega
  · exact Fin.ext h
  · have := L.stop_le_start b a h; have := hb.2; have := ha.1; omega
theorem Listed.some_upto (R : ℕ) : ∀ n (h : n < 264), R < (stopW pf ⟨n, h⟩).toNat → ∃ n', Names pf n' R
  | 0, h, hR => ⟨⟨0, h⟩, L.first.le.trans (Nat.zero_le R), hR⟩
  | n + 1, h, hR => by
    by_cases hs : (startW pf ⟨n + 1, h⟩).toNat ≤ R
    · exact ⟨⟨n + 1, h⟩, hs, hR⟩
    · exact Listed.some_upto R n (by omega) (by rw [← L.next n h]; omega)
theorem Listed.some (R : ℕ) (h : R < 131072) : ∃ n, Names pf n R :=
  L.some_upto R 263 (by omega) (by have := L.last; rw [show (⟨263, by omega⟩ : Fin 264) = 263 from rfl, this]; exact h)

/-- Some point at or after `n` writes `n`'s tile back. -/
theorem Listed.writes : ∀ (d n : ℕ) (h : n + d = 263), ∃ t : Fin grid0.N, ((cfgM pf L).win 3).flush t = true ∧ n ≤ t.val ∧ tileW pf (item t) = tileW pf ⟨n, by omega⟩
  | 0, n, h => ⟨⟨n, by rw [points]; omega⟩, (flush_iff pf L _).mpr (.inl (by show n + 1 = 264; omega)), le_rfl, rfl⟩
  | d + 1, n, h => by
    by_cases e : (tileW pf ⟨n + 1, by omega⟩).toNat = (tileW pf ⟨n, by omega⟩).toNat
    · obtain ⟨t, ht, hn, hw⟩ := Listed.writes d (n + 1) (by omega)
      exact ⟨t, ht, by omega, hw.trans (BitVec.eq_of_toNat_eq e)⟩
    · exact ⟨⟨n, by rw [points]; omega⟩, (flush_iff pf L _).mpr (.inr ⟨by show n + 1 < 264; omega, e⟩), le_rfl, rfl⟩

/-- Each tile is written back once. -/
theorem Listed.once_lt (t u : Fin grid0.N) (ht : ((cfgM pf L).win 3).flush t = true) (h : t.val < u.val) : (tileW pf (item t)).toNat ≠ (tileW pf (item u)).toNat := by
  have hu := (item u).isLt
  intro e
  rcases (flush_iff pf L t).mp ht with hl | ⟨hl, hne⟩
  · have : u.val < 264 := hu
    omega
  · have a := L.tile_le_tile (item t) ⟨t.val + 1, hl⟩ (Nat.le_succ _)
    have b := L.tile_le_tile ⟨t.val + 1, hl⟩ (item u) h
    omega
theorem Listed.once (t u : Fin grid0.N) (ht : ((cfgM pf L).win 3).flush t = true) (hu : ((cfgM pf L).win 3).flush u = true)
    (h : ((cfgM pf L).win 3).index t = ((cfgM pf L).win 3).index u) : t = u := by
  have e : (tileW pf (item t)).toNat = (tileW pf (item u)).toNat := congrFun ((index_3 pf L t).symm.trans (h.trans (index_3 pf L u))) 0
  rcases lt_trichotomy t.val u.val with c | c | c
  · exact absurd e (L.once_lt t u ht c)
  · exact Fin.ext c
  · exact absurd e.symm (L.once_lt u t hu c)
end

section
variable {F : FTy → Type} [FloatOps F] (m : (ℓ : Loc nD τ sig) → Buf (Elt F) ℓ) (L : Listed (tbl m))

/-- The result array, row and lane. -/
def result (c : Dev nD) : FVec F S131072x1024 .bf16 := (dats m L 0 c).arrAt 3 (cfgs1 m L).N

theorem place3 (t : Fin grid0.N) (r : Fin 512) (l : Fin 1024) : (((cfgs1 m L).win 3).rect t).emb (ix2 r l) = (ix2 (rowIn m L t r) l : S131072x1024.Idx) := by
  refine funext fun a => Fin.ext ?_
  match a with
  | ⟨0, _⟩ => exact (congrArg (fun k : ℕ => k * 512 + 1 * r.val) (congrFun (index_3 (tbl m) L t) (0 : Fin 2))).trans (by show (tileOf m L t).val * 512 + 1 * r.val = _; rw [Nat.one_mul]; rfl)
  | ⟨1, _⟩ => exact (congrArg (fun k : ℕ => k * 1024 + 1 * l.val) (congrFun (index_3 (tbl m) L t) (1 : Fin 2))).trans (by show 0 * 1024 + 1 * l.val = _; rw [Nat.one_mul]; exact Nat.zero_add _)

theorem flushed_3 (c : Dev nD) (t : Fin grid0.N) (r : Fin 512) (l : Fin 1024) : (dats m L 0 c).flushed 3 t (ix2 r l) = acc m L c (t.val + 1) (ix2 r l) := by
  show ((cfgs1 m L).win 3).cut (grid0.coords t) ((dats m L 0 c).after 3 t) _ = _
  rw [after_3]
  generalize acc m L c (t.val + 1) = Y
  rfl

theorem apart : ∀ t u : Fin grid0.N, ((cfgs1 m L).win 3).flush t = true → ((cfgs1 m L).win 3).flush u = true → t ≠ u →
    Disjoint (((cfgs1 m L).win 3).blk t).view.set (((cfgs1 m L).win 3).blk u).view.set :=
  Pipeline.Window.hdisj_of_index_inj ((cfgs1 m L).win 3) L.once

theorem block_3 (c : Dev nD) (t : Fin grid0.N) (ht : ((cfgs1 m L).win 3).flush t = true) :
    (((cfgs1 m L).win 3).blk t).view.read (Elt F) ((dats m L 0 c).arrAt 3 (cfgs1 m L).N) = (dats m L 0 c).flushed 3 t :=
  (dats m L 0 c).read_blk_arrAt_eq_flushed 3 (apart m L) (cfgs1 m L).N t t.isLt ht

/-- Point `t`'s block of an array. -/
def blockOf (A : FVec F S131072x1024 .bf16) (t : Fin grid0.N) : Vec F S512x1024 .bf16 := (((cfgs1 m L).win 3).blk t).view.read (Elt F) A
theorem blockOf_at (A : FVec F S131072x1024 .bf16) (t : Fin grid0.N) (r : Fin 512) (l : Fin 1024) : blockOf m L A t (ix2 r l) = A (ix2 (rowIn m L t r) l) := by
  unfold blockOf
  show A ((((cfgs1 m L).win 3).rect t).emb (ix2 r l)) = _
  exact congrArg A (place3 m L t r l)
theorem blockOf_result (c : Dev nD) (t : Fin grid0.N) (ht : ((cfgM (tbl m) L).win 3).flush t = true) : blockOf m L (result m L c) t = (dats m L 0 c).flushed 3 t := by
  unfold blockOf result
  exact block_3 m L c t ht

/-- A tile's rows end as the point that writes it back leaves them. -/
theorem result_left (c : Dev nD) (t : Fin grid0.N) (ht : ((cfgM (tbl m) L).win 3).flush t = true) (r : Fin 512) (l : Fin 1024) :
    result m L c (ix2 (rowIn m L t r) l) = acc m L c (t.val + 1) (ix2 r l) :=
  (blockOf_at m L (result m L c) t r l).symm.trans ((congrFun (blockOf_result m L c t ht) (ix2 r l)).trans (flushed_3 m L c t r l))

end

variable (m : (ℓ : Loc nD τ sig) → Buf (Elt Ideal) ℓ) (L : Listed (tbl m))

/-- After a point, the block holds the rows of every item of its tile met so far. -/
theorem acc_at (c : Dev nD) (l : Fin 1024) : ∀ (n : ℕ) (h : n < grid0.N) (u : Fin grid0.N) (hu : u.val ≤ n)
    (he : tileW (tbl m) (item u) = tileW (tbl m) (item ⟨n, h⟩)) (r : Fin 512) (hr : Names (tbl m) (item u) (rowIn m L ⟨n, h⟩ r).val),
    acc m L c (n + 1) (ix2 r l) = fedAt m c (rowIn m L ⟨n, h⟩ r) (expOf m L u) l := by
  intro n
  induction n with
  | zero =>
    intro h u hu he r hr
    obtain rfl : u = ⟨0, h⟩ := Fin.ext (by show u.val = 0; omega)
    rw [acc_succ m L c ⟨0, h⟩, stepOut_at m L c ⟨0, h⟩ (lt_of_le_of_lt hr.1 hr.2), if_pos hr.1]
  | succ n ih =>
    intro h u hu he r hr
    rw [acc_succ m L c ⟨n + 1, h⟩]
    by_cases e : u.val = n + 1
    · obtain rfl : u = ⟨n + 1, h⟩ := Fin.ext e
      rw [stepOut_at m L c ⟨n + 1, h⟩ (lt_of_le_of_lt hr.1 hr.2), if_pos hr.1]
    · have hn : n < grid0.N := by omega
      have hb : (stopW (tbl m) (item u)).toNat ≤ (startW (tbl m) (item ⟨n + 1, h⟩)).toNat := L.stop_le_start _ _ (show u.val < n + 1 by omega)
      have a := L.tile_le_tile (item u) (item ⟨n, hn⟩) (show u.val ≤ n by omega)
      have b := L.tile_le_tile (item ⟨n, hn⟩) (item ⟨n + 1, h⟩) (Nat.le_succ n)
      have he' : tileW (tbl m) (item ⟨n, hn⟩) = tileW (tbl m) (item ⟨n + 1, h⟩) := BitVec.eq_of_toNat_eq (by rw [he] at a; omega)
      have hrow : rowIn m L ⟨n, hn⟩ r = rowIn m L ⟨n + 1, h⟩ r := Fin.ext (by show (tileW (tbl m) (item ⟨n, hn⟩)).toNat * 512 + r.val = (tileW (tbl m) (item ⟨n + 1, h⟩)).toNat * 512 + r.val; rw [he'])
      have hi := ih hn u (by omega) (he.trans he'.symm) r (by rw [hrow]; exact hr)
      rw [hrow] at hi
      by_cases hs : (startW (tbl m) (item ⟨n + 1, h⟩)).toNat < (stopW (tbl m) (item ⟨n + 1, h⟩)).toNat
      · rw [stepOut_at m L c ⟨n + 1, h⟩ hs, if_neg (by have := hr.2; omega)]
        exact hi
      · rw [stepOut_idle m L c ⟨n + 1, h⟩ hs]
        exact hi

/-- Each row is the feed-forward of the expert whose item names it. -/
theorem result_at (c : Dev nD) (R : Fin 131072) (l : Fin 1024) (n : Fin 264) (h : Names (tbl m) n R.val) :
    result m L c (ix2 R l) = fedAt m c R ⟨(expW (tbl m) n).toNat, by have := L.exp_le n; omega⟩ l := by
  obtain ⟨t, ht, hn, he⟩ := L.writes (263 - n.val) n.val (by omega)
  have he' : tileW (tbl m) (item t) = tileW (tbl m) n := he
  have lo := L.lo n; have hi := L.hi n
  have h1 := h.1; have h2 := h.2
  have er : R = rowIn m L t ⟨R.val - (tileW (tbl m) n).toNat * 512, by omega⟩ := Fin.ext (by
    show R.val = (tileW (tbl m) (item t)).toNat * 512 + (R.val - (tileW (tbl m) n).toNat * 512)
    rw [he']; omega)
  have hl := result_left m L c t ht ⟨R.val - (tileW (tbl m) n).toNat * 512, by omega⟩ l
  have hu : n.val < grid0.N := by rw [points]; exact n.isLt
  have ha := acc_at m L c l t.val t.isLt ⟨n.val, hu⟩ hn he'.symm ⟨R.val - (tileW (tbl m) n).toNat * 512, by omega⟩ (by
    rw [show (⟨t.val, t.isLt⟩ : Fin grid0.N) = t from rfl, ← er]; exact h)
  rw [show (⟨t.val, t.isLt⟩ : Fin grid0.N) = t from rfl, ← er] at ha
  rw [← er] at hl
  exact hl.trans ha

/-- The kernel ends with the result array, its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0) = result m L c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h.1 c).1 3, (h.1 c).2 main_arg0 rest_0, (h.1 c).2 main_arg1 rest_1, (h.1 c).2 main_arg2 rest_2, (h.1 c).2 main_arg3 rest_3,
      ((h.1 c).1 0).trans (((dats m L 0 c).arrAt_in 0 rfl _).trans (A_eq m L c 0)), ((h.1 c).1 1).trans (((dats m L 0 c).arrAt_in 1 rfl _).trans (A_eq m L c 1)),
      ((h.1 c).1 2).trans (((dats m L 0 c).arrAt_in 2 rfl _).trans (A_eq m L c 2))⟩) (run_main_quiescent m ρ L)

end Cert.Proof.Moe

end
-- ==== Proof.MoeRef.lean ====
/- The reference's expert part in named stages, and its result at a row and lane. -/
module

public import proofs.«01_k».proof.Proof.Gen.ReferenceMoeIdeal.Run
public import proofs.«01_k».proof.Proof.MoeRows
public import Idealize.ShloMosaic.Lib.Pointwise
public import Idealize.ShloMosaic.Lib.Routing.OpsOrder
public import Idealize.ShloMosaic.Lib.StableHlo.Predicate

@[expose] public section

noncomputable section

namespace Cert.Proof.MoeRef

open Idealize.ShloMosaic Idealize.SL.Sem Cert.ReferenceMoeIdeal Cert.ReferenceMoeIdeal.Gen Idealize.ShloMosaic.TcCoe

section
variable {F : FTy → Type} [FloatOps F]

/-- Row and item: the item names the row. -/
def named (start stop : IVec S264 32) : IVec S131072x264 1 :=
  andi (cmpi .sle (broadcastInDim S131072x264 ![0, 1] bcast_S1x264_S131072x264_0_1 (broadcastInDim S1x264 ![1] bcast_S264_S1x264_1 start))
      (broadcastInDim S131072x264 ![0, 1] bcast_S131072x1_S131072x264_0_1 (broadcastInDim S131072x1 ![0] bcast_S131072_S131072x1_0 (iotaInDim S131072 32 0))))
    (cmpi .slt (broadcastInDim S131072x264 ![0, 1] bcast_S131072x1_S131072x264_0_1 (broadcastInDim S131072x1 ![0] bcast_S131072_S131072x1_0 (iotaInDim S131072 32 0)))
      (broadcastInDim S131072x264 ![0, 1] bcast_S1x264_S131072x264_0_1 (broadcastInDim S1x264 ![1] bcast_S264_S1x264_1 stop)))

/-- Expert and item: the item is the expert's. -/
def its (expert : IVec S264 32) : IVec S8x264 1 :=
  cmpi .eq (broadcastInDim S8x264 ![0, 1] bcast_S1x264_S8x264_0_1 (broadcastInDim S1x264 ![1] bcast_S264_S1x264_1 expert))
    (broadcastInDim S8x264 ![0, 1] bcast_S8x1_S8x264_0_1 (broadcastInDim S8x1 ![0] bcast_S8_S8x1_0 (iotaInDim S8 32 0)))

/-- Expert and row: some item of the expert names the row. -/
def mine (expert start stop : IVec S264 32) : IVec S8x131072 1 :=
  Host.reduce IntOp.ori (andi (broadcastInDim S8x131072x264 ![0, 1, 2] bcast_S8x1x264_S8x131072x264_0_1_2 (broadcastInDim S8x1x264 ![0, 2] bcast_S8x264_S8x1x264_0_2 (its expert)))
    (broadcastInDim S8x131072x264 ![0, 1, 2] bcast_S1x131072x264_S8x131072x264_0_1_2 (broadcastInDim S1x131072x264 ![1, 2] bcast_S131072x264_S1x131072x264_1_2 (named start stop))))
    (constantI S_ 1 0#1) reducesTo_S8x131072x264_S8x131072_d2 h_S_

/-- Every expert's products of every row with its hidden weight. -/
def widened (x : FVec F S131072x1024 .bf16) (w : FVec F S8x1024x2816 .f32) : FVec F S8x131072x2816 .f32 :=
  transpose S8x131072x2816 [0, 2, 1] (Host.dotGeneral dot_S8x1024x2816_S131072x1024_S8x2816x131072_1_1_02_0_n_n none w (extf .f32 x bitsLt_bf16_f32))
    transposes_S8x2816x131072_S8x131072x2816_0_2_1

/-- The hidden units from the two halves. -/
def units (p : FVec F S8x131072x2816 .f32) : FVec F S8x131072x1408 .f32 :=
  mulf (mulf (extractStridedSlice S8x131072x1408 ![0, 0, 0] p slices_S8x131072x2816_S8x131072x1408_0_0_0)
      (Host.divf (broadcastInDim S8x131072x1408 ![] bcast_S_S8x131072x1408 (constant S_ .f32 0x3F800000#32))
        (addf (broadcastInDim S8x131072x1408 ![] bcast_S_S8x131072x1408 (constant S_ .f32 0x3F800000#32)) (Host.exp (Host.negf (extractStridedSlice S8x131072x1408 ![0, 0, 0] p slices_S8x131072x2816_S8x131072x1408_0_0_0))))))
    (extractStridedSlice S8x131072x1408 ![0, 0, 1408] p slices_S8x131072x2816_S8x131072x1408_0_0_1408)

/-- Every expert's feed-forward of every row. -/
def every (x : FVec F S131072x1024 .bf16) (w : FVec F S8x1024x2816 .f32) (d : FVec F S8x1408x1024 .f32) : FVec F S8x131072x1024 .f32 :=
  Host.dotGeneral dot_S8x131072x1408_S8x1408x1024_S8x131072x1024_2_1_1_2_0_0 none (units (widened x w)) d

/-- What is kept, summed over the experts. -/
def kept (k : IVec S8x131072 1) (y : FVec F S8x131072x1024 .f32) : FVec F S131072x1024 .bf16 :=
  truncf .bf16 (Host.reduceAdd (select (broadcastInDim S8x131072x1024 ![0, 1, 2] bcast_S8x131072x1_S8x131072x1024_0_1_2 (broadcastInDim S8x131072x1 ![0, 1] bcast_S8x131072_S8x131072x1_0_1 k))
      y (broadcastInDim S8x131072x1024 ![] bcast_S_S8x131072x1024 (constant S_ .f32 0x00000000#32)))
    (constant S_ .f32 0x00000000#32) reducesTo_S8x131072x1024_S131072x1024_d0 h_S_) bitsLt_bf16_f32

/-- The whole. -/
def whole (expert start stop : IVec S264 32) (x : FVec F S131072x1024 .bf16) (w : FVec F S8x1024x2816 .f32) (d : FVec F S8x1408x1024 .f32) : FVec F S131072x1024 .bf16 :=
  kept (mine expert start stop) (every x w d)

/-- The reference ends with the whole of its arguments, which end as they began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = whole (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ
end

/-- Row `r` is named by item `n`. -/
abbrev Names (start stop : IVec S264 32) (r : Fin 131072) (n : Fin 264) : Prop :=
  IntOp.cmpi .sle (start (ix1 n)) (BitVec.ofNat 32 r.val) = 1#1 ∧ IntOp.cmpi .slt (BitVec.ofNat 32 r.val) (stop (ix1 n)) = 1#1

theorem mine_at (expert start stop : IVec S264 32) (e : Fin 8) (r : Fin 131072) :
    mine expert start stop (ix2 e r) = 1#1 ↔ ∃ n, expert (ix1 n) = BitVec.ofNat 32 e.val ∧ Names start stop r n := by
  unfold mine its named
  pointwise
  rw [Routing.fold_ori]
  simp only [Finset.mem_univ, true_and, IntOp.andi_eq_one, StableHlo.Predicate.cmpi_eq_iff]

theorem units_at (x : FVec Ideal S131072x1024 .bf16) (w : FVec Ideal S8x1024x2816 .f32) (e : Fin 8) (r : Fin 131072) (k : Fin 1408) :
    units (widened x w) (ix3 e r k) = Rows.gated (fun j => x (ix2 r j)) (fun j => w (ix3 e j (MoeRows.lower k))) (fun j => w (ix3 e j (MoeRows.upper k))) := by
  have c : ∀ l : Fin 2816, ∑ j, x (ix2 r j) * w (ix3 e j l) = ∑ j, w (ix3 e j l) * x (ix2 r j) := fun l => Finset.sum_congr rfl fun j _ => mul_comm _ _
  unfold Rows.gated
  rw [c, c]
  unfold units widened Ideal.logistic
  pointwise

theorem every_at (x : FVec Ideal S131072x1024 .bf16) (w : FVec Ideal S8x1024x2816 .f32) (d : FVec Ideal S8x1408x1024 .f32) (e : Fin 8) (r : Fin 131072) (l : Fin 1024) :
    every x w d (ix3 e r l) = MoeRows.fed (fun j => x (ix2 r j)) (fun j k => w (ix3 e j k)) (fun k l => d (ix3 e k l)) l := by
  unfold every MoeRows.fed
  pointwise
  simp only [units_at]

theorem kept_at (k : IVec S8x131072 1) (y : FVec Ideal S8x131072x1024 .f32) (r : Fin 131072) (l : Fin 1024) :
    kept k y (ix2 r l) = ∑ e : Fin 8, if k (ix2 e r) = 1#1 then y (ix3 e r l) else 0 := by
  unfold kept
  pointwise
  rfl

/-- A row whose items are all one expert's, and are some, is that expert's feed-forward of it. -/
theorem whole_at (expert start stop : IVec S264 32) (x : FVec Ideal S131072x1024 .bf16) (w : FVec Ideal S8x1024x2816 .f32) (d : FVec Ideal S8x1408x1024 .f32)
    (r : Fin 131072) (l : Fin 1024) (e : Fin 8) (n : Fin 264) (hn : Names start stop r n) (he : expert (ix1 n) = BitVec.ofNat 32 e.val)
    (h : ∀ n', Names start stop r n' → n' = n) :
    whole expert start stop x w d (ix2 r l) = MoeRows.fed (fun j => x (ix2 r j)) (fun j k => w (ix3 e j k)) (fun k l => d (ix3 e k l)) l := by
  have one : ∀ e' : Fin 8, mine expert start stop (ix2 e' r) = 1#1 ↔ e' = e := fun e' => by
    rw [mine_at]
    constructor
    · rintro ⟨n', h1, h2⟩
      obtain rfl := h n' h2
      have := congrArg BitVec.toNat (h1.symm.trans he)
      rw [BitVec.toNat_ofNat, BitVec.toNat_ofNat] at this
      exact Fin.ext (by omega)
    · rintro rfl
      exact ⟨n, he, hn⟩
  unfold whole
  rw [kept_at]
  simp only [one, Finset.sum_ite_eq', Finset.mem_univ, if_true]
  exact every_at x w d e r l

end Cert.Proof.MoeRef

end
-- ==== Proof.MoeCompare.lean ====
/- The two expert parts agree, row by row. -/
module

public import proofs.«01_k».proof.Proof.MoeResult
public import proofs.«01_k».proof.Proof.MoeRef

@[expose] public section

set_option maxRecDepth 16384

noncomputable section

namespace Cert.Proof.Moe

open Idealize.ShloMosaic Idealize.SL.Sem Cert.KernelMoeIdeal Cert.KernelMoeIdeal.Gen Idealize.ShloMosaic.TcCoe
open Idealize.ShloMosaic.StableHlo.Predicate (sle_iff_toNat slt_iff_toNat)

/-- The reference's test that an item names a row, as one of numbers. -/
theorem names_iff {F : FTy → Type} [FloatOps F] {pf : pre0.Contents (Elt F)} (L : Listed pf) (R : Fin 131072) (n : Fin 264) :
    MoeRef.Names (pf 2) (pf 3) R n ↔ Names pf n R.val := by
  have a : (startW pf n).toNat ≤ 131072 := L.start_le n
  have b : (stopW pf n).toNat ≤ 131072 := L.stop_le n
  have hR := R.isLt
  have e : (BitVec.ofNat 32 R.val).toNat = R.val := by rw [BitVec.toNat_ofNat]; omega
  refine and_congr ?_ ?_
  · show IntOp.cmpi .sle (startW pf n) (BitVec.ofNat 32 R.val) = 1#1 ↔ _
    rw [sle_iff_toNat (by omega) (by omega), e]
  · show IntOp.cmpi .slt (BitVec.ofNat 32 R.val) (stopW pf n) = 1#1 ↔ _
    rw [slt_iff_toNat (by omega) (by omega), e]

/-- The kernel's result is the reference's composed term of the same arguments. -/
theorem result_eq (m : (ℓ : Loc nD τ sig) → Buf (Elt Ideal) ℓ) (L : Listed (tbl m)) (c : Dev nD) :
    result m L c = MoeRef.whole (F := Ideal) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  obtain rfl : c = 0 := Subsingleton.elim _ _
  funext i
  obtain ⟨R, l, rfl⟩ : ∃ (R : Fin 131072) (l : Fin 1024), i = ix2 R l := ⟨i 0, i 1, funext fun a => match a with | ⟨0, _⟩ => rfl | ⟨1, _⟩ => rfl⟩
  obtain ⟨n, hn⟩ := L.some R.val R.isLt
  refine (result_at m L 0 R l n hn).trans (Eq.symm ?_)
  exact MoeRef.whole_at (tbl m 1) (tbl m 2) (tbl m 3) _ _ _ R l ⟨(expW (tbl m) n).toNat, by have := L.exp_le n; omega⟩ n ((names_iff L R n).mpr hn)
    (BitVec.eq_of_toNat_eq (by rw [BitVec.toNat_ofNat]; exact (Nat.mod_eq_of_lt (expW (tbl m) n).isLt).symm))
    fun n' h => L.one n' n R.val ((names_iff L R n').mp h) hn

end Cert.Proof.Moe

end
-- ==== Proof.RouterBlock.lean ====
/- The body of the expert layer's first call in named stages: the residual with the mixed head groups, and the normed rows.
   It stores both, whether or not the point is the first. -/
module

public import proofs.«01_k».proof.Proof.Rows
public import proofs.«01_k».proof.Proof.Gen.KernelRouterIdeal.Value
public import Idealize.ShloMosaic.Lib.Pointwise
public import Idealize.ShloMosaic.Lib.Pipeline.ValueKit.Tiles

@[expose] public section

noncomputable section

namespace Cert.Proof.Router

open Idealize.ShloMosaic Idealize.SL.Sem Cert.KernelRouterIdeal Cert.KernelRouterIdeal.Gen Idealize.ShloMosaic.TcCoe
open Cert.Proof.Rows (inGroup sum_groups)

section
variable {F : FTy → Type} [FloatOps F]

/-- One row of the modulation, on every row of a block. -/
def along (v : FVec F S1x1x1024 .f32) : FVec F S1024x1024 .f32 :=
  broadcastTo S1024x1024 (shapeCast S1x1024 v shapeCasts_S1x1x1024_S1x1024) broadcasts_S1x1024_S1024x1024

/-- One head group's part of the output projection. -/
def partProd (a : FVec F S1024x256 .bf16) (w : FVec F S256x1024 .bf16) : FVec F S1024x1024 .f32 :=
  matmul dot_S1024x256_S256x1024_S1024x1024_1_0_0_1_n_n none a (shapeCast S256x1024 w shapeCasts_S256x1024_S256x1024) (constant S1024x1024 .f32 0x00000000#32)

/-- Rows after normalization, scale and shift. -/
def normed (x : FVec F S1024x1024 .f32) (g : FVec F S1x1024 .f32) (scale shift : FVec F S1x1x1024 .f32) : FVec F S1024x1024 .bf16 :=
  truncf .bf16 (addf (mulf (mulf (mulf x (broadcastTo S1024x1024 (rsqrt (addf (divf (shapeCast S1024x1 (multiReduction .add [1] S1024 (mulf x x) 0x00000000#32 reduces_S1024x1024_S1024 (.inl rfl) rfl) shapeCasts_S1024_S1024x1)
        (broadcast S1024x1 (Scalar.ofBits .f32 0x44800000#32))) (broadcast S1024x1 (Scalar.ofBits .f32 0x358637BD#32)))) broadcasts_S1024x1_S1024x1024))
      (broadcastTo S1024x1024 (shapeCast S1x1024 g shapeCasts_S1x1024_S1x1024) broadcasts_S1x1024_S1024x1024))
      (broadcastTo S1024x1024 (addf (broadcast S1x1024 (Scalar.ofBits .f32 0x3F800000#32)) (shapeCast S1x1024 scale shapeCasts_S1x1x1024_S1x1024)) broadcasts_S1x1024_S1024x1024))
    (along shift)) bitsLt_bf16_f32

variable (x0 : Vec F S1024x1024 .f32) (x1 : Vec F S1x1024 .f32) (x2 : Vec F S1x6x1024 .f32) (x3 : Vec F S1024x1024 .bf16) (x4 : Vec F S1024x128 .bf16) (x5 x6 x7 x8 : Vec F S1024x256 .bf16)

theorem mod_le : ∀ k : Fin 6, ∀ a, (![0, k.val, 0] : Fin 3 → ℕ) a + S1x1x1024.size a ≤ S1x6x1024.size a := by decide
theorem out_le : ∀ k : Fin 4, ∀ a, (![256 * k.val, 0] : Fin 2 → ℕ) a + S256x1024.size a ≤ S1024x1024.size a := by decide

/-- Row `k` of the image's modulation. -/
def modAt (k : Fin 6) : FVec F S1x1x1024 .f32 := View.ld x2 (Rect.unit ![0, k.val, 0] S1x1x1024.size (mod_le k))
/-- The output projection's rows of head group `k`. -/
def outAt (k : Fin 4) : FVec F S256x1024 .bf16 := View.ld x3 (Rect.unit ![256 * k.val, 0] S256x1024.size (out_le k))

/-- A whole block of rows. -/
abbrev all : Rect S1024x1024 := Rect.unit (s := S1024x1024) ![0, 0] S1024x1024.size inb_S1024x1024_S1024x1024_0_0

/-- The residual's block, one head group's block, and the gain, as loaded. -/
def resAt : FVec F S1024x1024 .f32 := View.ld x0 all
@[inherit_doc resAt] def partAt : FVec F S1024x256 .bf16 := View.ld x5 (Rect.unit ![0, 0] S1024x256.size inb_S1024x256_S1024x256_0_0)
@[inherit_doc resAt] def gainAt : FVec F S1x1024 .f32 := View.ld x1 (Rect.unit ![0, 0] S1x1024.size inb_S1x1024_S1x1024_0_0)

/-- The residual with the mixed head groups. -/
def mixed : FVec F S1024x1024 .f32 :=
  addf (resAt x0) (mulf (along (modAt x2 2))
    (addf (addf (addf (partProd (partAt x5) (outAt x3 0)) (partProd (partAt x6) (outAt x3 1))) (partProd (partAt x7) (outAt x3 2))) (partProd (partAt x8) (outAt x3 3))))

/-- The normed rows. -/
def rows : FVec F S1024x1024 .bf16 := normed (mixed x0 x2 x3 x5 x6 x7 x8) (gainAt x1) (modAt x2 4) (modAt x2 3)

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x6x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S8x1024 .f32) (harg13 : arg13.IsWhole) (arg14 : Memref sig .tc .vmem S1x128 .f32) (harg14 : arg14.IsWhole) (arg15 : Memref sig .tc .vmem S1x128 .f32) (harg15 : arg15.IsWhole)
  (hc : cond0_0 i) (hn : ¬cond0_0 i) (xs : Vec F S1x128 .f32)

/-- What the body stores of the two, at the first point and at the others. -/
theorem mixed_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8).1 = [⟨all, mixed x0 x2 x3 x5 x6 x7 x8⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rfl
@[inherit_doc mixed_first]
theorem rows_first : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8).2.1 = [⟨all, rows x0 x1 x2 x3 x5 x6 x7 x8⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rfl
@[inherit_doc mixed_first]
theorem mixed_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hn x0 x1 x2 x3 x4 x5 x6 x7 x8 xs).1 = [⟨all, mixed x0 x2 x3 x5 x6 x7 x8⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread]
  rfl
@[inherit_doc mixed_first]
theorem rows_later : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hn x0 x1 x2 x3 x4 x5 x6 x7 x8 xs).2.1 = [⟨all, rows x0 x1 x2 x3 x5 x6 x7 x8⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread]
  rfl
end
end

end Cert.Proof.Router

end
-- ==== Proof.RouterValue.lean ====
/- What the body stores, at a row and lane, from the contents of its input blocks. -/
module

public import proofs.«01_k».proof.Proof.RouterBlock

@[expose] public section

noncomputable section

namespace Cert.Proof.Router

open Idealize.ShloMosaic Idealize.SL.Sem Cert.KernelRouterIdeal Cert.KernelRouterIdeal.Gen Idealize.ShloMosaic.TcCoe
open Cert.Proof.Rows (inGroup sum_groups)

theorem partProd_at (a : FVec Ideal S1024x256 .bf16) (w : FVec Ideal S256x1024 .bf16) (r : Fin 1024) (l : Fin 1024) :
    partProd a w (ix2 r l) = ∑ x, a (ix2 r x) * w (ix2 x l) := by
  unfold partProd; pointwise

theorem along_at (v : FVec Ideal S1x1x1024 .f32) (r : Fin 1024) (l : Fin 1024) : along v (ix2 r l) = v (ix3 0 0 l) := by
  unfold along; pointwise

theorem normed_at (x : FVec Ideal S1024x1024 .f32) (g : FVec Ideal S1x1024 .f32) (scale shift : FVec Ideal S1x1x1024 .f32) (r : Fin 1024) (l : Fin 1024) :
    normed x g scale shift (ix2 r l)
      = Rows.normed (fun k => x (ix2 r k)) (fun k => g (ix2 0 k)) (fun k => scale (ix3 0 0 k)) (fun k => shift (ix3 0 0 k)) l := by
  unfold normed along; pointwise; rfl

section
variable (x0 : Vec Ideal S1024x1024 .f32) (x1 : Vec Ideal S1x1024 .f32) (x2 : Vec Ideal S1x6x1024 .f32) (x3 : Vec Ideal S1024x1024 .bf16) (x5 x6 x7 x8 : Vec Ideal S1024x256 .bf16)

theorem ld_res (r : Fin 1024) (l : Fin 1024) : resAt x0 (ix2 r l) = x0 (ix2 r l) :=
  View.ld_unit_apply_of x0 _ _ _ _ _ fun d => match d with
    | ⟨0, _⟩ => (Nat.zero_add _).symm
    | ⟨1, _⟩ => (Nat.zero_add _).symm
theorem ld_part (r : Fin 1024) (l : Fin 256) : partAt x5 (ix2 r l) = x5 (ix2 r l) :=
  View.ld_unit_apply_of x5 _ _ _ _ _ fun d => match d with
    | ⟨0, _⟩ => (Nat.zero_add _).symm
    | ⟨1, _⟩ => (Nat.zero_add _).symm
theorem ld_gain (l : Fin 1024) : gainAt x1 (ix2 0 l) = x1 (ix2 0 l) :=
  View.ld_unit_apply_of x1 _ _ _ _ _ fun d => match d with
    | ⟨0, _⟩ => (Nat.zero_add _).symm
    | ⟨1, _⟩ => (Nat.zero_add _).symm
theorem ld_mod (k : Fin 6) (l : Fin 1024) : modAt x2 k (ix3 0 0 l) = x2 (ix3 0 k l) :=
  View.ld_unit_apply_of x2 _ _ _ _ _ fun d => match d with
    | ⟨0, _⟩ => (Nat.zero_add _).symm
    | ⟨1, _⟩ => rfl
    | ⟨2, _⟩ => (Nat.zero_add _).symm
theorem ld_out (k : Fin 4) (x : Fin 256) (l : Fin 1024) : outAt x3 k (ix2 x l) = x3 (ix2 (inGroup k x) l) :=
  View.ld_unit_apply_of x3 _ _ _ _ _ fun d => match d with
    | ⟨0, _⟩ => rfl
    | ⟨1, _⟩ => (Nat.zero_add _).symm

/-- The four head groups of a row. -/
abbrev parts (r : Fin 1024) : Fin 4 → Fin 256 → EReal := ![fun x => x5 (ix2 r x), fun x => x6 (ix2 r x), fun x => x7 (ix2 r x), fun x => x8 (ix2 r x)]

theorem mixed_at (r : Fin 1024) (l : Fin 1024) : mixed x0 x2 x3 x5 x6 x7 x8 (ix2 r l)
    = Rows.residual (fun k => x0 (ix2 r k)) (fun k => x2 (ix3 0 2 k)) (parts x5 x6 x7 x8 r) (fun k j => x3 (ix2 k j)) l := by
  unfold mixed Rows.residual
  rw [← sum_groups (parts x5 x6 x7 x8 r) fun k => x3 (ix2 k l)]
  simp only [addf_apply, mulf_apply, partProd_at, along_at, ld_res, ld_part, ld_mod, ld_out]
  rfl

theorem rows_at (r : Fin 1024) (l : Fin 1024) : rows x0 x1 x2 x3 x5 x6 x7 x8 (ix2 r l)
    = Rows.normed (Rows.residual (fun k => x0 (ix2 r k)) (fun k => x2 (ix3 0 2 k)) (parts x5 x6 x7 x8 r) (fun k j => x3 (ix2 k j)))
        (fun k => x1 (ix2 0 k)) (fun k => x2 (ix3 0 4 k)) (fun k => x2 (ix3 0 3 k)) l := by
  unfold rows
  rw [normed_at]
  simp only [mixed_at, ld_gain, ld_mod]

/-- One store of a whole block leaves its value. -/
theorem whole {e : EltTy} (w : Vec Ideal S1024x1024 e) (r : Fin 1024) (l : Fin 1024) : View.canon [(⟨all, w⟩ : View.Piece (Elt Ideal) S1024x1024 e)] (ix2 r l) = w (ix2 r l) := by
  have h : all.emb (ix2 r l) = ix2 r l := by
    funext a
    refine Fin.ext ?_
    rw [Rect.emb_apply]
    match a with
    | ⟨0, _⟩ => show 0 + 1 * r.val = r.val; omega
    | ⟨1, _⟩ => show 0 + 1 * l.val = l.val; omega
  exact (congrArg _ h.symm).trans (View.canon_cons_emb all w [] (ix2 r l))
end

end Cert.Proof.Router

end
-- ==== Proof.RouterKer.lean ====
/- What the kernel's staging buffers hold at a grid point, and its two results at a row and lane. -/
module

public import proofs.«01_k».proof.Proof.RouterValue
public import Idealize.ShloMosaic.Lib.StableHlo.ReadAt

@[expose] public section

noncomputable section

namespace Cert.Proof.Router

open Idealize.ShloMosaic Idealize.SL.Sem Cert.KernelRouterIdeal Cert.KernelRouterIdeal.Gen Idealize.ShloMosaic.TcCoe

section
variable {F : FTy → Type} [FloatOps F] (m : (ℓ : Loc nD τ sig) → Buf (Elt F) ℓ)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val / 2, 0, 0] := by decide +kernel
theorem index3 : ∀ t : Fin grid0.N, win0_3.index t = ![0, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val, 0] := by decide +kernel

theorem points : grid0.N = 64 := by decide

/-- Row `r` of point `t`'s block. -/
abbrev rowOf (t : Fin grid0.N) (r : Fin 1024) : Fin 65536 := ⟨t.val * 1024 + r.val, by have := points; omega⟩
/-- The image point `t`'s rows belong to. -/
abbrev imgOf (t : Fin grid0.N) : Fin 32 := ⟨t.val / 2, by have := points; omega⟩

theorem staged0 (c : Dev nD) (t : Fin grid0.N) (r : Fin 1024) (x : Fin 1024) :
    iblk m c 0 t (ix2 r x) = m ((c : Thread nD τ).loc main_arg0) (ix2 (rowOf t r) x) := by
  unfold iblk
  show V m c main_arg0 ((win0_0.rect t).emb _) = _
  rw [V_main_arg0]
  refine congrArg _ (funext fun a => Fin.ext ?_)
  rw [Rect.emb_apply]
  match a with
  | ⟨0, _⟩ => show win0_0.index t 0 * 1024 + 1 * r.val = _; rw [index0, Nat.one_mul]; rfl
  | ⟨1, _⟩ => show win0_0.index t 1 * 1024 + 1 * x.val = _; rw [index0, Nat.one_mul]; exact Nat.zero_add _

theorem staged2 (c : Dev nD) (t : Fin grid0.N) (k : Fin 6) (x : Fin 1024) :
    iblk m c 2 t (ix3 0 k x) = m ((c : Thread nD τ).loc main_arg6) (ix3 (imgOf t) k x) := by
  unfold iblk
  show V m c main_arg6 ((win0_2.rect t).emb _) = _
  rw [V_main_arg6]
  refine congrArg _ (funext fun a => Fin.ext ?_)
  rw [Rect.emb_apply]
  match a with
  | ⟨0, _⟩ => show win0_2.index t 0 * 1 + 1 * 0 = _; rw [index2]; exact Nat.mul_one _
  | ⟨1, _⟩ => show win0_2.index t 1 * 6 + 1 * k.val = _; rw [index2, Nat.one_mul]; exact Nat.zero_add _
  | ⟨2, _⟩ => show win0_2.index t 2 * 1024 + 1 * x.val = _; rw [index2, Nat.one_mul]; exact Nat.zero_add _

theorem staged5 (c : Dev nD) (t : Fin grid0.N) (r : Fin 1024) (x : Fin 256) :
    iblk m c 5 t (ix2 r x) = m ((c : Thread nD τ).loc main_arg1) (ix2 (rowOf t r) x) := by
  unfold iblk
  show V m c main_arg1 ((win0_5.rect t).emb _) = _
  rw [V_main_arg1]
  refine congrArg _ (funext fun a => Fin.ext ?_)
  rw [Rect.emb_apply]
  match a with
  | ⟨0, _⟩ => show win0_5.index t 0 * 1024 + 1 * r.val = _; rw [index5, Nat.one_mul]; rfl
  | ⟨1, _⟩ => show win0_5.index t 1 * 256 + 1 * x.val = _; rw [index5, Nat.one_mul]; exact Nat.zero_add _

theorem staged6 (c : Dev nD) (t : Fin grid0.N) (r : Fin 1024) (x : Fin 256) :
    iblk m c 6 t (ix2 r x) = m ((c : Thread nD τ).loc main_arg2) (ix2 (rowOf t r) x) := by
  unfold iblk
  show V m c main_arg2 ((win0_6.rect t).emb _) = _
  rw [V_main_arg2]
  refine congrArg _ (funext fun a => Fin.ext ?_)
  rw [Rect.emb_apply]
  match a with
  | ⟨0, _⟩ => show win0_6.index t 0 * 1024 + 1 * r.val = _; rw [index6, Nat.one_mul]; rfl
  | ⟨1, _⟩ => show win0_6.index t 1 * 256 + 1 * x.val = _; rw [index6, Nat.one_mul]; exact Nat.zero_add _

theorem staged7 (c : Dev nD) (t : Fin grid0.N) (r : Fin 1024) (x : Fin 256) :
    iblk m c 7 t (ix2 r x) = m ((c : Thread nD τ).loc main_arg3) (ix2 (rowOf t r) x) := by
  unfold iblk
  show V m c main_arg3 ((win0_7.rect t).emb _) = _
  rw [V_main_arg3]
  refine congrArg _ (funext fun a => Fin.ext ?_)
  rw [Rect.emb_apply]
  match a with
  | ⟨0, _⟩ => show win0_7.index t 0 * 1024 + 1 * r.val = _; rw [index7, Nat.one_mul]; rfl
  | ⟨1, _⟩ => show win0_7.index t 1 * 256 + 1 * x.val = _; rw [index7, Nat.one_mul]; exact Nat.zero_add _

theorem staged8 (c : Dev nD) (t : Fin grid0.N) (r : Fin 1024) (x : Fin 256) :
    iblk m c 8 t (ix2 r x) = m ((c : Thread nD τ).loc main_arg4) (ix2 (rowOf t r) x) := by
  unfold iblk
  show V m c main_arg4 ((win0_8.rect t).emb _) = _
  rw [V_main_arg4]
  refine congrArg _ (funext fun a => Fin.ext ?_)
  rw [Rect.emb_apply]
  match a with
  | ⟨0, _⟩ => show win0_8.index t 0 * 1024 + 1 * r.val = _; rw [index8, Nat.one_mul]; rfl
  | ⟨1, _⟩ => show win0_8.index t 1 * 256 + 1 * x.val = _; rw [index8, Nat.one_mul]; exact Nat.zero_add _

/-- A resident array's block is the array. -/
theorem resident {ix n : Fin 2 → ℕ} (hix : ix = ![0, 0]) (y : ℕ) (a : Fin 2) : ix a * n a + 1 * y = y := by
  rw [hix, show (![0, 0] : Fin 2 → ℕ) a = 0 by revert a; decide, Nat.zero_mul, Nat.zero_add, Nat.one_mul]

theorem staged1 (c : Dev nD) (t : Fin grid0.N) (y : S1x1024.Idx) : iblk m c 1 t y = V m c main_v2 y := by
  unfold iblk
  show V m c main_v2 ((win0_1.rect t).emb _) = _
  refine congrArg _ (funext fun a => Fin.ext ?_)
  rw [Rect.emb_apply]
  exact resident (index1 t) _ a
theorem staged3 (c : Dev nD) (t : Fin grid0.N) (y : S1024x1024.Idx) : iblk m c 3 t y = V m c main_v3 y := by
  unfold iblk
  show V m c main_v3 ((win0_3.rect t).emb _) = _
  refine congrArg _ (funext fun a => Fin.ext ?_)
  rw [Rect.emb_apply]
  exact resident (index3 t) _ a

theorem V_gain (c : Dev nD) : V m c main_v2 = broadcastInDim S1x1024 ![1] bcast_S1024_S1x1024_1 (m ((c : Thread nD τ).loc main_arg5)) := by
  unfold V; after_reads_simp
theorem V_out (c : Dev nD) : V m c main_v3 = truncf .bf16 (m ((c : Thread nD τ).loc main_arg7)) bitsLt_bf16_f32 := by
  unfold V; after_reads_simp

/-- A result row's place: written at point `t`, row `r` of its block. -/
theorem place9 (t : Fin grid0.N) (r : Fin 1024) (x : Fin 1024) :
    (win0_9.rect t).emb (ix2 r x) = (ix2 (rowOf t r) x : S65536x1024.Idx) := by
  refine funext fun a => Fin.ext ?_
  rw [Rect.emb_apply]
  match a with
  | ⟨0, _⟩ => show win0_9.index t 0 * 1024 + 1 * r.val = _; rw [index9, Nat.one_mul]; rfl
  | ⟨1, _⟩ => show win0_9.index t 1 * 1024 + 1 * x.val = _; rw [index9, Nat.one_mul]; exact Nat.zero_add _

@[inherit_doc place9]
theorem place10 (t : Fin grid0.N) (r : Fin 1024) (x : Fin 1024) :
    (win0_10.rect t).emb (ix2 r x) = (ix2 (rowOf t r) x : S65536x1024.Idx) := by
  refine funext fun a => Fin.ext ?_
  rw [Rect.emb_apply]
  match a with
  | ⟨0, _⟩ => show win0_10.index t 0 * 1024 + 1 * r.val = _; rw [index10, Nat.one_mul]; rfl
  | ⟨1, _⟩ => show win0_10.index t 1 * 1024 + 1 * x.val = _; rw [index10, Nat.one_mul]; exact Nat.zero_add _

/-- The result array at row `r` of point `t` is what the body stores. -/
theorem left9 (c : Dev nD) (t : Fin grid0.N) (r : Fin 1024) (l : Fin 1024) :
    (dats m 0 c).arrAt 9 cfg0.N (ix2 (rowOf t r) l : S65536x1024.Idx)
      = View.canon [(⟨all, mixed (iblk m c 0 t) (iblk m c 2 t) (iblk m c 3 t) (iblk m c 5 t) (iblk m c 6 t) (iblk m c 7 t) (iblk m c 8 t)⟩ : View.Piece (Elt F) S1024x1024 .f32)] (ix2 r l) := by
  have hb := congrFun (Value.blocks9 m c t (flush0_9 t)) (ix2 r l)
  rw [← place9 t r l]
  by_cases h0 : t.val % 64 = 0
  · rw [Value.flushed9_A m c t h0] at hb
    unfold out0_A_9 at hb
    rw [View.read_writes_eq_canon _ _ _ (cover0_A_9 c _ _ _ _ _ _ _ _ _ _ _ _ _ _ _ _ _ _ _ _ _ _ _ _ _ _ _ _ _ _ _ _ _ _ _ _ _ _ _ _ _), mixed_first] at hb
    exact hb
  · rw [Value.flushed9_B m c t h0] at hb
    unfold out0_B_9 at hb
    rw [View.read_writes_eq_canon _ _ _ (cover0_B_9 c _ _ _ _ _ _ _ _ _ _ _ _ _ _ _ _ _ _ _ _ _ _ _ _ _ _ _ _ _ _ _ _ _ _ _ _ _ _ _ _ _ _), mixed_later] at hb
    exact hb
@[inherit_doc left9]
theorem left10 (c : Dev nD) (t : Fin grid0.N) (r : Fin 1024) (l : Fin 1024) :
    (dats m 0 c).arrAt 10 cfg0.N (ix2 (rowOf t r) l : S65536x1024.Idx)
      = View.canon [(⟨all, rows (iblk m c 0 t) (iblk m c 1 t) (iblk m c 2 t) (iblk m c 3 t) (iblk m c 5 t) (iblk m c 6 t) (iblk m c 7 t) (iblk m c 8 t)⟩ : View.Piece (Elt F) S1024x1024 .bf16)] (ix2 r l) := by
  have hb := congrFun (Value.blocks10 m c t (flush0_10 t)) (ix2 r l)
  rw [← place10 t r l]
  by_cases h0 : t.val % 64 = 0
  · rw [Value.flushed10_A m c t h0] at hb
    unfold out0_A_10 at hb
    rw [View.read_writes_eq_canon _ _ _ (cover0_A_10 c _ _ _ _ _ _ _ _ _ _ _ _ _ _ _ _ _ _ _ _ _ _ _ _ _ _ _ _ _ _ _ _ _ _ _ _ _ _ _ _ _), rows_first] at hb
    exact hb
  · rw [Value.flushed10_B m c t h0] at hb
    unfold out0_B_10 at hb
    rw [View.read_writes_eq_canon _ _ _ (cover0_B_10 c _ _ _ _ _ _ _ _ _ _ _ _ _ _ _ _ _ _ _ _ _ _ _ _ _ _ _ _ _ _ _ _ _ _ _ _ _ _ _ _ _ _), rows_later] at hb
    exact hb
end

variable (m : (ℓ : Loc nD τ sig) → Buf (Elt Ideal) ℓ)

theorem gain_at (c : Dev nD) (t : Fin grid0.N) (l : Fin 1024) : iblk m c 1 t (ix2 0 l) = m ((c : Thread nD τ).loc main_arg5) (ix1 l) := by
  rw [staged1, V_gain]; pointwise
theorem out_at (c : Dev nD) (t : Fin grid0.N) (k l : Fin 1024) : iblk m c 3 t (ix2 k l) = m ((c : Thread nD τ).loc main_arg7) (ix2 k l) := by
  rw [staged3, V_out]; pointwise

/-- The kernel's results at row `r` of point `t`, lane `l`. -/
theorem result9_at (c : Dev nD) (t : Fin grid0.N) (r : Fin 1024) (l : Fin 1024) :
    (dats m 0 c).arrAt 9 cfg0.N (ix2 (rowOf t r) l : S65536x1024.Idx)
      = Rows.residual (fun k => m ((c : Thread nD τ).loc main_arg0) (ix2 (rowOf t r) k)) (fun k => m ((c : Thread nD τ).loc main_arg6) (ix3 (imgOf t) 2 k))
          ![fun x => m ((c : Thread nD τ).loc main_arg1) (ix2 (rowOf t r) x), fun x => m ((c : Thread nD τ).loc main_arg2) (ix2 (rowOf t r) x),
            fun x => m ((c : Thread nD τ).loc main_arg3) (ix2 (rowOf t r) x), fun x => m ((c : Thread nD τ).loc main_arg4) (ix2 (rowOf t r) x)]
          (fun k j => m ((c : Thread nD τ).loc main_arg7) (ix2 k j)) l := by
  rw [left9, whole, mixed_at]
  simp only [parts, staged0, staged2, staged5, staged6, staged7, staged8, out_at]
@[inherit_doc result9_at]
theorem result10_at (c : Dev nD) (t : Fin grid0.N) (r : Fin 1024) (l : Fin 1024) :
    (dats m 0 c).arrAt 10 cfg0.N (ix2 (rowOf t r) l : S65536x1024.Idx)
      = Rows.normed (Rows.residual (fun k => m ((c : Thread nD τ).loc main_arg0) (ix2 (rowOf t r) k)) (fun k => m ((c : Thread nD τ).loc main_arg6) (ix3 (imgOf t) 2 k))
          ![fun x => m ((c : Thread nD τ).loc main_arg1) (ix2 (rowOf t r) x), fun x => m ((c : Thread nD τ).loc main_arg2) (ix2 (rowOf t r) x),
            fun x => m ((c : Thread nD τ).loc main_arg3) (ix2 (rowOf t r) x), fun x => m ((c : Thread nD τ).loc main_arg4) (ix2 (rowOf t r) x)]
          (fun k j => m ((c : Thread nD τ).loc main_arg7) (ix2 k j)))
          (fun k => m ((c : Thread nD τ).loc main_arg5) (ix1 k)) (fun k => m ((c : Thread nD τ).loc main_arg6) (ix3 (imgOf t) 4 k)) (fun k => m ((c : Thread nD τ).loc main_arg6) (ix3 (imgOf t) 3 k)) l := by
  rw [left10, whole, rows_at]
  simp only [parts, staged0, staged2, staged5, staged6, staged7, staged8, gain_at, out_at]

end Cert.Proof.Router

end
-- ==== Proof.RouterRef.lean ====
/- The reference's residual and normed rows in named stages, and its two results at an image's row and lane. -/
module

public import proofs.«01_k».proof.Proof.Gen.ReferenceRouterIdeal.Run
public import proofs.«01_k».proof.Proof.Rows
public import Idealize.ShloMosaic.Lib.Pointwise

@[expose] public section

noncomputable section

namespace Cert.Proof.RouterRef

open Idealize.ShloMosaic Idealize.SL.Sem Cert.ReferenceRouterIdeal Cert.ReferenceRouterIdeal.Gen Idealize.ShloMosaic.TcCoe
open Cert.Proof.Rows (inGroup joined joined_group)

section
variable {F : FTy → Type} [FloatOps F]

/-- Row `k` of every image's modulation. -/
def modRow (k : ℕ) (hs : S32x6x1024.Slices ![0, k, 0] S32x1x1024) (x : FVec F S32x6x1024 .f32) : FVec F S32x1x1024 .f32 :=
  broadcastInDim S32x1x1024 ![0, 2] bcast_S32x1024_S32x1x1024_0_2 (shapeCast S32x1024 (extractStridedSlice S32x1x1024 ![0, k, 0] x hs) shapeCasts_S32x1x1024_S32x1024)

/-- One row per image, on all of its rows. -/
def spread (x : FVec F S32x1x1024 .f32) : FVec F S32x2048x1024 .f32 := broadcastInDim S32x2048x1024 ![0, 1, 2] bcast_S32x1x1024_S32x2048x1024_0_1_2 x

/-- One head group's output by image. -/
def byImage (x : FVec F S65536x256 .bf16) : FVec F S32x2048x256 .f32 := shapeCast S32x2048x256 (extf .f32 x bitsLt_bf16_f32) shapeCasts_S65536x256_S32x2048x256

/-- The head groups joined. -/
def joinedAll (a b c d : FVec F S32x2048x256 .f32) : FVec F S32x2048x1024 .f32 :=
  concatenate S32x2048x1024 2 [⟨S32x2048x256, a⟩, ⟨S32x2048x256, b⟩, ⟨S32x2048x256, c⟩, ⟨S32x2048x256, d⟩] concatenates_S32x2048x256_S32x2048x256_S32x2048x256_S32x2048x256_S32x2048x1024_d2

/-- The residual with the projected heads. -/
def mixed (x : FVec F S65536x1024 .f32) (gate : FVec F S32x1x1024 .f32) (o : FVec F S32x2048x1024 .f32) (w : FVec F S1024x1024 .f32) : FVec F S32x2048x1024 .f32 :=
  addf (shapeCast S32x2048x1024 x shapeCasts_S65536x1024_S32x2048x1024) (mulf (spread gate) (Host.dotGeneral dot_S32x2048x1024_S1024x1024_S32x2048x1024_2_0_01_1_n_n none o w))

/-- Each row over its root mean square, by the gain, scaled and shifted. -/
def norm (x : FVec F S32x2048x1024 .f32) (g : FVec F S1024 .f32) (scale shift : FVec F S32x1x1024 .f32) : FVec F S32x2048x1024 .f32 :=
  addf (mulf (mulf (mulf x (broadcastInDim S32x2048x1024 ![0, 1, 2] bcast_S32x2048x1_S32x2048x1024_0_1_2 (Host.rsqrt (addf (Host.divf
        (broadcastInDim S32x2048x1 ![0, 1] bcast_S32x2048_S32x2048x1_0_1 (Host.reduceAdd (mulf x x) (constant S_ .f32 0x00000000#32) reducesTo_S32x2048x1024_S32x2048_d2 h_S_))
        (broadcastInDim S32x2048x1 ![] bcast_S_S32x2048x1 (constant S_ .f32 0x44800000#32))) (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      (spread (addf (broadcastInDim S32x1x1024 ![] bcast_S_S32x1x1024 (constant S_ .f32 0x3F800000#32)) scale)))
    (spread shift)

/-- All rows, one after another. -/
def flat {e : FTy} (x : FVec F S32x2048x1024 e) : FVec F S65536x1024 e := shapeCast S65536x1024 x shapeCasts_S32x2048x1024_S65536x1024

variable (a0 : FVec F S65536x1024 .f32) (a1 a2 a3 a4 : FVec F S65536x256 .bf16) (a5 : FVec F S1024 .f32) (a6 : FVec F S32x6x1024 .f32) (a7 : FVec F S1024x1024 .f32)

/-- The residual after the heads. -/
def after : FVec F S32x2048x1024 .f32 :=
  mixed a0 (modRow 2 slices_S32x6x1024_S32x1x1024_0_2_0 a6) (joinedAll (byImage a1) (byImage a2) (byImage a3) (byImage a4)) a7

/-- What is returned: the residual, and the normed rows. -/
def first : FVec F S65536x1024 .f32 := flat (after a0 a1 a2 a3 a4 a6 a7)
@[inherit_doc first] def second : FVec F S65536x1024 .bf16 :=
  flat (truncf .bf16 (norm (after a0 a1 a2 a3 a4 a6 a7) a5 (modRow 4 slices_S32x6x1024_S32x1x1024_0_4_0 a6) (modRow 3 slices_S32x6x1024_S32x1x1024_0_3_0 a6)) bitsLt_bf16_f32)

/-- The reference's run, its results by those names. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v44) = second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ
end

/-- Row `t` of image `b`, among all rows. -/
abbrev tok (b : Fin 32) (t : Fin 2048) : Fin 65536 := ⟨b.val * 2048 + t.val, by omega⟩

theorem modRow_at (k : Fin 6) (hs : S32x6x1024.Slices ![0, k.val, 0] S32x1x1024) (x : FVec Ideal S32x6x1024 .f32) (b : Fin 32) (l : Fin 1024) :
    modRow k.val hs x (ix3 b 0 l) = x (ix3 b k l) := by
  unfold modRow
  pointwise

theorem spread_at (x : FVec Ideal S32x1x1024 .f32) (b : Fin 32) (t : Fin 2048) (l : Fin 1024) : spread x (ix3 b t l) = x (ix3 b 0 l) := by
  unfold spread
  pointwise

theorem byImage_at (x : FVec Ideal S65536x256 .bf16) (b : Fin 32) (t : Fin 2048) (l : Fin 256) : byImage x (ix3 b t l) = x (ix2 (tok b t) l) := by
  unfold byImage
  pointwise

theorem joinedAll_at (p : Fin 4 → FVec Ideal S32x2048x256 .f32) (b : Fin 32) (t : Fin 2048) (k : Fin 1024) :
    joinedAll (p 0) (p 1) (p 2) (p 3) (ix3 b t k) = joined (fun i x => p i (ix3 b t x)) k := by
  have hk := k.isLt
  have pick : ∀ (i : Fin 4) (x : Fin 256), i.val = k.val / 256 → x.val = k.val % 256 →
      p i (ix3 b t x) = joined (fun i x => p i (ix3 b t x)) k := fun i x hi hx =>
    congrArg₂ (fun i x => p i (ix3 b t x)) (Fin.ext hi) (Fin.ext hx)
  unfold joinedAll
  pointwise
  by_cases h0 : k.val < 256
  · rw [dif_pos h0]; exact pick 0 ⟨k.val, h0⟩ (by show 0 = k.val / 256; omega) (by show k.val = k.val % 256; omega)
  rw [dif_neg h0]
  by_cases h1 : k.val - 256 < 256
  · rw [dif_pos h1]; exact pick 1 ⟨k.val - 256, h1⟩ (by show 1 = k.val / 256; omega) (by show k.val - 256 = k.val % 256; omega)
  rw [dif_neg h1]
  by_cases h2 : k.val - 256 - 256 < 256
  · rw [dif_pos h2]; exact pick 2 ⟨k.val - 256 - 256, h2⟩ (by show 2 = k.val / 256; omega) (by show k.val - 256 - 256 = k.val % 256; omega)
  rw [dif_neg h2]
  exact pick 3 ⟨k.val - 256 - 256 - 256, by omega⟩ (by show 3 = k.val / 256; omega) (by show k.val - 256 - 256 - 256 = k.val % 256; omega)

theorem mixed_at (x : FVec Ideal S65536x1024 .f32) (gate : FVec Ideal S32x1x1024 .f32) (o : FVec Ideal S32x2048x1024 .f32) (w : FVec Ideal S1024x1024 .f32)
    (b : Fin 32) (t : Fin 2048) (l : Fin 1024) :
    mixed x gate o w (ix3 b t l) = x (ix2 (tok b t) l) + gate (ix3 b 0 l) * ∑ k, o (ix3 b t k) * w (ix2 k l) := by
  unfold mixed spread
  pointwise

theorem norm_at (x : FVec Ideal S32x2048x1024 .f32) (g : FVec Ideal S1024 .f32) (scale shift : FVec Ideal S32x1x1024 .f32) (b : Fin 32) (t : Fin 2048) (l : Fin 1024) :
    norm x g scale shift (ix3 b t l)
      = Rows.normed (fun k => x (ix3 b t k)) (fun k => g (ix1 k)) (fun k => scale (ix3 b 0 k)) (fun k => shift (ix3 b 0 k)) l := by
  unfold norm spread Rows.normed
  pointwise

theorem flat_at {e : FTy} (x : FVec Ideal S32x2048x1024 e) (b : Fin 32) (t : Fin 2048) (l : Fin 1024) : flat x (ix2 (tok b t) l) = x (ix3 b t l) := by
  unfold flat
  pointwise
  exact congrArg x (congrArg₂ (fun i j => ix3 i j l) (Fin.ext (by show (b.val * 2048 + t.val) / 2048 = b.val; omega))
    (Fin.ext (by show (b.val * 2048 + t.val) % 2048 = t.val; omega)))

variable (a0 : FVec Ideal S65536x1024 .f32) (a1 a2 a3 a4 : FVec Ideal S65536x256 .bf16) (a5 : FVec Ideal S1024 .f32) (a6 : FVec Ideal S32x6x1024 .f32) (a7 : FVec Ideal S1024x1024 .f32)

theorem after_at (b : Fin 32) (t : Fin 2048) (l : Fin 1024) : after a0 a1 a2 a3 a4 a6 a7 (ix3 b t l)
    = Rows.residual (fun k => a0 (ix2 (tok b t) k)) (fun k => a6 (ix3 b 2 k))
        ![fun x => a1 (ix2 (tok b t) x), fun x => a2 (ix2 (tok b t) x), fun x => a3 (ix2 (tok b t) x), fun x => a4 (ix2 (tok b t) x)] (fun k j => a7 (ix2 k j)) l := by
  unfold after Rows.residual
  rw [mixed_at, show modRow 2 slices_S32x6x1024_S32x1x1024_0_2_0 a6 (ix3 b 0 l) = a6 (ix3 b 2 l) from modRow_at 2 _ a6 b l]
  refine congrArg (fun z => _ + _ * z) (Finset.sum_congr rfl fun k _ => congrArg (· * _) ?_)
  refine (joinedAll_at ![byImage a1, byImage a2, byImage a3, byImage a4] b t k).trans (congrArg (fun p => joined p k) (funext fun i => funext fun x => ?_))
  match i with
  | 0 => exact byImage_at a1 b t x
  | 1 => exact byImage_at a2 b t x
  | 2 => exact byImage_at a3 b t x
  | 3 => exact byImage_at a4 b t x

theorem first_at (b : Fin 32) (t : Fin 2048) (l : Fin 1024) : first a0 a1 a2 a3 a4 a6 a7 (ix2 (tok b t) l)
    = Rows.residual (fun k => a0 (ix2 (tok b t) k)) (fun k => a6 (ix3 b 2 k))
        ![fun x => a1 (ix2 (tok b t) x), fun x => a2 (ix2 (tok b t) x), fun x => a3 (ix2 (tok b t) x), fun x => a4 (ix2 (tok b t) x)] (fun k j => a7 (ix2 k j)) l := by
  unfold first
  rw [flat_at, after_at]

theorem second_at (b : Fin 32) (t : Fin 2048) (l : Fin 1024) : second a0 a1 a2 a3 a4 a5 a6 a7 (ix2 (tok b t) l)
    = Rows.normed (Rows.residual (fun k => a0 (ix2 (tok b t) k)) (fun k => a6 (ix3 b 2 k))
        ![fun x => a1 (ix2 (tok b t) x), fun x => a2 (ix2 (tok b t) x), fun x => a3 (ix2 (tok b t) x), fun x => a4 (ix2 (tok b t) x)] (fun k j => a7 (ix2 k j)))
        (fun k => a5 (ix1 k)) (fun k => a6 (ix3 b 4 k)) (fun k => a6 (ix3 b 3 k)) l := by
  have row : ∀ (k : Fin 6) (hs : S32x6x1024.Slices ![0, k.val, 0] S32x1x1024) (j : Fin 1024), modRow k.val hs a6 (ix3 b 0 j) = a6 (ix3 b k j) := fun k hs j => modRow_at k hs a6 b j
  unfold second
  rw [flat_at, truncf_apply]
  refine (norm_at _ _ _ _ b t l).trans ?_
  simp only [after_at]
  exact congrArg₂ (fun u v => Rows.normed _ _ u v l) (funext fun i => row 4 slices_S32x6x1024_S32x1x1024_0_4_0 i) (funext fun i => row 3 slices_S32x6x1024_S32x1x1024_0_3_0 i)

end Cert.Proof.RouterRef

end
-- ==== Proof.RouterCompare.lean ====
/- The residual and the normed rows agree, row by row. -/
module

public import proofs.«01_k».proof.Proof.RouterKer
public import proofs.«01_k».proof.Proof.RouterRef

@[expose] public section

noncomputable section

namespace Cert.Proof.Router

open Idealize.ShloMosaic Idealize.SL.Sem Cert.KernelRouterIdeal Cert.KernelRouterIdeal.Gen Idealize.ShloMosaic.TcCoe

/-- A row's point and place. -/
theorem row_split (r : Fin 65536) : ∃ (t : Fin grid0.N) (s : Fin 1024) (b : Fin 32) (u : Fin 2048),
    r = rowOf t s ∧ r = RouterRef.tok b u ∧ imgOf t = b := by
  have hr := r.isLt
  exact ⟨⟨r.val / 1024, by have := points; omega⟩, ⟨r.val % 1024, by omega⟩, ⟨r.val / 2048, by omega⟩, ⟨r.val % 2048, by omega⟩,
    Fin.ext (by show r.val = r.val / 1024 * 1024 + r.val % 1024; omega),
    Fin.ext (by show r.val = r.val / 2048 * 2048 + r.val % 2048; omega),
    Fin.ext (by show r.val / 1024 / 2 = r.val / 2048; omega)⟩

variable (m : (ℓ : Loc nD τ sig) → Buf (Elt Ideal) ℓ) (c : Dev nD)

theorem result9_eq : ∀ i : S65536x1024.Idx, (dats m 0 c).arrAt 9 cfg0.N i
    = RouterRef.first (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) i := by
  intro i
  obtain ⟨r, l, rfl⟩ : ∃ (r : Fin 65536) (l : Fin 1024), i = ix2 r l := ⟨i 0, i 1, funext fun a => match a with | ⟨0, _⟩ => rfl | ⟨1, _⟩ => rfl⟩
  obtain ⟨t, s, b, u, e1, e2, e3⟩ := row_split r
  have hk := result9_at m c t s l
  have hf := RouterRef.first_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) b u l
  rw [← e1, e3] at hk
  rw [← e2] at hf
  exact hk.trans hf.symm

theorem result10_eq : ∀ i : S65536x1024.Idx, (dats m 0 c).arrAt 10 cfg0.N i
    = RouterRef.second (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) i := by
  intro i
  obtain ⟨r, l, rfl⟩ : ∃ (r : Fin 65536) (l : Fin 1024), i = ix2 r l := ⟨i 0, i 1, funext fun a => match a with | ⟨0, _⟩ => rfl | ⟨1, _⟩ => rfl⟩
  obtain ⟨t, s, b, u, e1, e2, e3⟩ := row_split r
  have hk := result10_at m c t s l
  have hf := RouterRef.second_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b u l
  rw [← e1, e3] at hk
  rw [← e2] at hf
  exact hk.trans hf.symm

end Cert.Proof.Router

end
-- ==== Proof.lean ====
/- Six calls of a layer: attention over a window of image rows and the image's context, the output projection with the
   dense feed-forward block, the input projection, the experts' feed-forward of the rows a work list gives them, the
   combination of the experts' results with the last norm, and the output projection with the norm before the experts. Of
   each, the kernel's frames, the reference's frame, and the equality of their results over the extended reals (for the
   attention, of real arguments; for the experts, of a list that gives every row one item; for the last, of the first two
   of its five results). -/
module

public import proofs.«01_k».proof.Defs
public import proofs.«01_k».proof.Proof.Compare
public import proofs.«01_k».proof.Proof.FfnCompare
public import proofs.«01_k».proof.Proof.Finite
public import proofs.«01_k».proof.Proof.ProjCompare
public import proofs.«01_k».proof.Proof.CombineCompare
public import proofs.«01_k».proof.Proof.MoeBits
public import proofs.«01_k».proof.Proof.MoeCompare
public import proofs.«01_k».proof.Proof.RouterCompare
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.KernelFfn
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.KernelProj
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.KernelMoe
public import proofs.«01_k».proof.Proof.Gen.KernelMoe.Launch
public import proofs.«01_k».proof.Proof.Gen.KernelMoeIdeal.Launch
public import proofs.«01_k».proof.Proof.Gen.ReferenceMoeIdeal.Run
public import proofs.«01_k».proof.Proof.Gen.KernelCombine
public import proofs.«01_k».proof.Proof.Gen.KernelCombine.Frame
public import proofs.«01_k».proof.Proof.Gen.KernelCombineIdeal.Frame
public import proofs.«01_k».proof.Proof.Gen.KernelCombineIdeal.Value
public import proofs.«01_k».proof.Proof.Gen.ReferenceCombineIdeal.Run
public import proofs.«01_k».proof.Proof.Gen.KernelRouter
public import proofs.«01_k».proof.Proof.Gen.KernelRouter.Frame
public import proofs.«01_k».proof.Proof.Gen.KernelRouterIdeal.Frame
public import proofs.«01_k».proof.Proof.Gen.KernelRouterIdeal.Value
public import proofs.«01_k».proof.Proof.Gen.ReferenceRouterIdeal.Run
public import Idealize.ShloMosaic.Adequacy
public import Idealize.ShloMosaic.Init

@[expose] public section

noncomputable section

namespace Cert.Proof

open Idealize.ShloMosaic Idealize.SL.Sem

/-- The reference ends with its arguments as they were; it has no semaphore. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Both end with one array of results. -/
theorem results_agree [hPre_finite : Cert.Pre_finite.Facts] :
    Cert.algebraic_KernelIdeal_ReferenceIdeal_pre_finite := fun m ρ m' ρ' hpre hag =>
  ⟨fun c => (Cert.KernelIdeal.Gen.dats m 0 c).arrAt 6 Cert.KernelIdeal.cfg0.N,
    Cert.KernelIdeal.Value.run_blocks m ρ,
    (θ_run _ _ _).mono (fun r h c => ⟨(h c).1.trans (by
        obtain ⟨f0, f1, f2⟩ := finite_real _ _ _ (hpre c)
        rw [Ref.res_eq, (hag c).1, (hag c).2.1, (hag c).2.2]
        exact (funext (result_eq m c f0 f1 f2)).symm), (h c).2⟩)
      (Cert.ReferenceIdeal.Value.run (F := Ideal) m' ρ')⟩

theorem ffn_reference_frame : Cert.quiescent_ReferenceFfnIdeal := fun m ρ _ =>
  (θ_run _ _ _).mono (fun r h => ⟨fun c => (h c).2, sem_eq_zero_of_no_sems (by decide) r.2⟩)
    (Cert.ReferenceFfnIdeal.Value.run (F := Ideal) m ρ)

theorem ffn_agree : Cert.algebraic_KernelFfnIdeal_ReferenceFfnIdeal := fun m ρ m' ρ' _ hag =>
  ⟨fun c => (Cert.KernelFfnIdeal.Gen.dats m 0 c).arrAt 10 Cert.KernelFfnIdeal.cfg0.N,
    Cert.KernelFfnIdeal.Value.run_blocks m ρ,
    (θ_run _ _ _).mono (fun r h c => ⟨(h c).1.trans (by
        refine (FfnRef.whole_eq m' c).trans ?_
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
        exact (funext (Ffn.result_eq m c)).symm), (h c).2⟩)
      (Cert.ReferenceFfnIdeal.Value.run (F := Ideal) m' ρ')⟩

theorem proj_reference_frame : Cert.quiescent_ReferenceProjIdeal := fun m ρ _ =>
  (θ_run _ _ _).mono (fun r h => ⟨fun c => (h c).2.2, sem_eq_zero_of_no_sems (by decide) r.2⟩)
    (ProjRef.run (F := Ideal) m ρ)

theorem proj_agree : Cert.algebraic_KernelProjIdeal_ReferenceProjIdeal := fun m ρ m' ρ' _ hag =>
  ⟨fun c => (Cert.KernelProjIdeal.Gen.dats m 0 c).arrAt 4 Cert.KernelProjIdeal.cfg0.N,
    fun c => (Cert.KernelProjIdeal.Gen.dats m 0 c).arrAt 5 Cert.KernelProjIdeal.cfg0.N,
    Cert.KernelProjIdeal.Value.run_blocks m ρ,
    (θ_run _ _ _).mono (fun r h c => ⟨(h c).1.trans (by
        rw [(hag c).1, (hag c).2.1, (hag c).2.2.1, (hag c).2.2.2]
        exact (funext (Proj.result4_eq m c)).symm), (h c).2.1.trans (by
        rw [(hag c).1, (hag c).2.1, (hag c).2.2.1, (hag c).2.2.2]
        exact (funext (Proj.result5_eq m c)).symm), (h c).2.2⟩)
      (ProjRef.run (F := Ideal) m' ρ')⟩

theorem moe_reference_frame : Cert.quiescent_ReferenceMoeIdeal := fun m ρ _ =>
  (θ_run _ _ _).mono (fun r h => ⟨fun c => (h c).2, sem_eq_zero_of_no_sems (by decide) r.2⟩)
    (MoeRef.run (F := Ideal) m ρ)

theorem moe_frame [hPre_listed : Cert.Pre_listed.Facts] : Cert.quiescent_KernelMoeIdeal := fun m ρ h =>
  Moe.frame m ρ (Moe.listed_pre m h)

theorem moe_agree [hPre_listed : Cert.Pre_listed.Facts] : Cert.algebraic_KernelMoeIdeal_ReferenceMoeIdeal := fun m ρ m' ρ' hpre hag =>
  ⟨fun c => Moe.result m (Moe.listed_pre m hpre) c,
    Moe.run m (Moe.listed_pre m hpre) ρ,
    (θ_run _ _ _).mono (fun r h c => ⟨(h c).1.trans (by
        rw [(hag c).2.1, (hag c).2.2.1, (hag c).2.2.2.1, (hag c).2.2.2.2.1, (hag c).2.2.2.2.2.1, (hag c).2.2.2.2.2.2]
        exact (Moe.result_eq m (Moe.listed_pre m hpre) c).symm), (h c).2⟩)
      (MoeRef.run (F := Ideal) m' ρ')⟩

theorem combine_reference_frame : Cert.quiescent_ReferenceCombineIdeal := fun m ρ _ =>
  (θ_run _ _ _).mono (fun r h => ⟨fun c => (h c).2, sem_eq_zero_of_no_sems (by decide) r.2⟩)
    (Cert.ReferenceCombineIdeal.Value.run (F := Ideal) m ρ)

theorem combine_agree : Cert.algebraic_KernelCombineIdeal_ReferenceCombineIdeal := fun m ρ m' ρ' _ hag =>
  ⟨fun c => (Cert.KernelCombineIdeal.Gen.dats m 0 c).arrAt 6 Cert.KernelCombineIdeal.cfg0.N,
    Cert.KernelCombineIdeal.Value.run_blocks m ρ,
    (θ_run _ _ _).mono (fun r h c => ⟨(h c).1.trans (by
        refine (CombineRef.whole_eq m' c).trans ?_
        rw [(hag c).1, (hag c).2.1, (hag c).2.2.1, (hag c).2.2.2.1, (hag c).2.2.2.2.1, (hag c).2.2.2.2.2]
        exact (funext (Combine.result_eq m c)).symm), (h c).2⟩)
      (Cert.ReferenceCombineIdeal.Value.run (F := Ideal) m' ρ')⟩

theorem router_reference_frame : Cert.quiescent_ReferenceRouterIdeal := fun m ρ _ =>
  (θ_run _ _ _).mono (fun r h => ⟨fun c => (h c).2.2, sem_eq_zero_of_no_sems (by decide) r.2⟩)
    (RouterRef.run (F := Ideal) m ρ)

/-- Of the call's five results, the first two. -/
theorem router_agree : Cert.algebraic_KernelRouterIdeal_ReferenceRouterIdeal := fun m ρ m' ρ' _ hag =>
  ⟨fun c => (Cert.KernelRouterIdeal.Gen.dats m 0 c).arrAt 9 Cert.KernelRouterIdeal.cfg0.N,
    fun c => (Cert.KernelRouterIdeal.Gen.dats m 0 c).arrAt 10 Cert.KernelRouterIdeal.cfg0.N,
    (θ_run _ _ _).mono (fun r h c => ⟨(h c).1, (h c).2.1, (h c).2.2.2.2.2⟩) (Cert.KernelRouterIdeal.Value.run_blocks m ρ),
    (θ_run _ _ _).mono (fun r h c => ⟨(h c).1.trans (by
        rw [(hag c).1, (hag c).2.1, (hag c).2.2.1, (hag c).2.2.2.1, (hag c).2.2.2.2.1, (hag c).2.2.2.2.2.2.1, (hag c).2.2.2.2.2.2.2.1]
        exact (funext (Router.result9_eq m c)).symm), (h c).2.1.trans (by
        rw [(hag c).1, (hag c).2.1, (hag c).2.2.1, (hag c).2.2.2.1, (hag c).2.2.2.2.1, (hag c).2.2.2.2.2.1, (hag c).2.2.2.2.2.2.1, (hag c).2.2.2.2.2.2.2.1]
        exact (funext (Router.result10_eq m c)).symm), (h c).2.2⟩)
      (RouterRef.run (F := Ideal) m' ρ')⟩

theorem claim : Cert.Claim :=
  ⟨Cert.Kernel.Gen.facts, Cert.KernelIdeal.Gen.facts, Cert.ReferenceIdeal.Gen.facts,
    Cert.KernelFfn.Gen.facts, Cert.KernelFfnIdeal.Gen.facts, Cert.ReferenceFfnIdeal.Gen.facts,
    Cert.KernelProj.Gen.facts, Cert.KernelProjIdeal.Gen.facts, Cert.ReferenceProjIdeal.Gen.facts,
    Cert.KernelMoe.Gen.facts, Cert.KernelMoeIdeal.Gen.facts, Cert.ReferenceMoeIdeal.Gen.facts,
    Cert.KernelCombine.Gen.facts, Cert.KernelCombineIdeal.Gen.facts, Cert.ReferenceCombineIdeal.Gen.facts,
    Cert.KernelRouter.Gen.facts, Cert.KernelRouterIdeal.Gen.facts, Cert.ReferenceRouterIdeal.Gen.facts, finiteFacts, Moe.listedFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.KernelFfn.Gen.frame m ρ,
    fun m ρ _ => Cert.KernelFfnIdeal.Gen.frame m ρ,
    ffn_reference_frame,
    fun m ρ _ => Cert.KernelProj.Gen.frame m ρ,
    fun m ρ _ => Cert.KernelProjIdeal.Gen.frame m ρ,
    proj_reference_frame,
    MoeBits.frame (hPre_listed := Moe.listedFacts),
    moe_frame (hPre_listed := Moe.listedFacts),
    moe_reference_frame,
    fun m ρ _ => moe_reference_frame m ρ trivial,
    fun m ρ _ => Cert.KernelCombine.Gen.frame m ρ,
    fun m ρ _ => Cert.KernelCombineIdeal.Gen.frame m ρ,
    combine_reference_frame,
    fun m ρ _ => Cert.KernelRouter.Gen.frame m ρ,
    fun m ρ _ => Cert.KernelRouterIdeal.Gen.frame m ρ,
    router_reference_frame,
    trivial,
    results_agree (hPre_finite := finiteFacts),
    trivial,
    ffn_agree,
    trivial,
    proj_agree,
    trivial,
    moe_agree (hPre_listed := Moe.listedFacts),
    trivial,
    combine_agree,
    trivial,
    router_agree⟩

end Cert.Proof

end
